-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_255" .f32 0x3B808081#32 ((1 / 255 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v21)) (v2 : (c : Dev Cert.KernelIdeal.nD) → Buf (Elt Ideal) ((c.tc : Thread Cert.KernelIdeal.nD Cert.KernelIdeal.τ).loc Cert.KernelIdeal.main_v22)) (v3 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_v22) = v2 c
          ∧ r.2.mem ((c.tc : Thread Cert.KernelIdeal.nD Cert.KernelIdeal.τ).loc Cert.KernelIdeal.main_v23) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_v34) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x7x16384x513 : Shape := ⟨4, ![2, 7, 16384, 513]⟩
abbrev S2x7x16384 : Shape := ⟨3, ![2, 7, 16384]⟩
abbrev S2x16384x513 : Shape := ⟨3, ![2, 16384, 513]⟩
abbrev S2 : Shape := ⟨1, ![2]⟩
abbrev S_ : Shape := ⟨0, ![]⟩

class Facts : Prop where
  bcast_S_S2x7x16384x513 : S_.BroadcastsInDim S2x7x16384x513 (![] : Fin 0 → Fin S2x7x16384x513.rank)
  bcast_S_S2x7x16384 : S_.BroadcastsInDim S2x7x16384 (![] : Fin 0 → Fin S2x7x16384.rank)

variable [Facts]

def fn {F : FTy → Type} [FloatOps F] (main_arg0 : IVec S2x7x16384x513 8) (main_arg1 : IVec S2x7x16384x513 8) (main_arg2 : FVec F S2x7x16384 .f32) (main_arg3 : IVec S2x16384x513 8) (main_arg4 : IVec S2x16384x513 8) (main_arg5 : IVec S2 32) : IVec S2x7x16384x513 1 × IVec S2x7x16384x513 1 × IVec S2x7x16384 1 :=
  let main_c : IVec S_ 8 := constantI S_ 8 127#8
  let main_v0 : IVec S2x7x16384x513 8 := broadcastInDim S2x7x16384x513 ![] bcast_S_S2x7x16384x513 main_c
  let main_v1 : IVec S2x7x16384x513 1 := cmpi .ne main_arg0 main_v0
  let main_c_0 : IVec S_ 8 := constantI S_ 8 255#8
  let main_v2 : IVec S2x7x16384x513 8 := broadcastInDim S2x7x16384x513 ![] bcast_S_S2x7x16384x513 main_c_0
  let main_v3 : IVec S2x7x16384x513 1 := cmpi .ne main_arg0 main_v2
  let main_v4 : IVec S2x7x16384x513 1 := andi main_v1 main_v3
  let main_c_1 : IVec S_ 8 := constantI S_ 8 127#8
  let main_v5 : IVec S2x7x16384x513 8 := broadcastInDim S2x7x16384x513 ![] bcast_S_S2x7x16384x513 main_c_1
  let main_v6 : IVec S2x7x16384x513 1 := cmpi .ne main_arg1 main_v5
  let main_c_2 : IVec S_ 8 := constantI S_ 8 255#8
  let main_v7 : IVec S2x7x16384x513 8 := broadcastInDim S2x7x16384x513 ![] bcast_S_S2x7x16384x513 main_c_2
  let main_v8 : IVec S2x7x16384x513 1 := cmpi .ne main_arg1 main_v7
  let main_v9 : IVec S2x7x16384x513 1 := andi main_v6 main_v8
  let main_v10 : FVec F S2x7x16384 .f32 := Host.absf main_arg2
  let main_cst : FVec F S_ .f32 := constant S_ .f32 0x7F800000#32
  let main_v11 : FVec F S2x7x16384 .f32 := broadcastInDim S2x7x16384 ![] bcast_S_S2x7x16384 main_cst
  let main_v12 : IVec S2x7x16384 1 := cmpf .olt main_v10 main_v11
  (main_v4, main_v9, main_v12)
-- ==== Kernel.lean ====
abbrev S2x7x16384x513 : Shape := ⟨4, ![2, 7, 16384, 513]⟩
abbrev S2x7x16384 : Shape := ⟨3, ![2, 7, 16384]⟩
abbrev S2x16384x513 : Shape := ⟨3, ![2, 16384, 513]⟩
abbrev S2 : Shape := ⟨1, ![2]⟩
abbrev S2x7x513x16384 : Shape := ⟨4, ![2, 7, 513, 16384]⟩
abbrev S2x513x16384 : Shape := ⟨3, ![2, 513, 16384]⟩
abbrev S2x7x15x16384 : Shape := ⟨4, ![2, 7, 15, 16384]⟩
abbrev S2x7x528x16384 : Shape := ⟨4, ![2, 7, 528, 16384]⟩
abbrev S2x15x16384 : Shape := ⟨3, ![2, 15, 16384]⟩
abbrev S2x528x16384 : Shape := ⟨3, ![2, 528, 16384]⟩
abbrev S33x2x28x256 : Shape := ⟨4, ![33, 2, 28, 256]⟩
abbrev S2x7x16x16384 : Shape := ⟨4, ![2, 7, 16, 16384]⟩
abbrev S2x16x16384 : Shape := ⟨3, ![2, 16, 16384]⟩
abbrev S1x2x28x256 : Shape := ⟨4, ![1, 2, 28, 256]⟩
abbrev S320x256 : Shape := ⟨2, ![320, 256]⟩
abbrev S128x256 : Shape := ⟨2, ![128, 256]⟩
abbrev S1x1x256 : Shape := ⟨3, ![1, 1, 256]⟩
abbrev S1x256 : Shape := ⟨2, ![1, 256]⟩
abbrev S16x256 : Shape := ⟨2, ![16, 256]⟩
abbrev S1x1x16x256 : Shape := ⟨4, ![1, 1, 16, 256]⟩
abbrev S1x16x256 : Shape := ⟨3, ![1, 16, 256]⟩
abbrev S256x256 : Shape := ⟨2, ![256, 256]⟩
abbrev S256 : Shape := ⟨1, ![256]⟩
abbrev S1x1x1x256 : Shape := ⟨4, ![1, 1, 1, 256]⟩
abbrev S33x2x28x16x16 : Shape := ⟨5, ![33, 2, 28, 16, 16]⟩
abbrev S28x16x2x33x16 : Shape := ⟨5, ![28, 16, 2, 33, 16]⟩
abbrev S28x16x2x528 : Shape := ⟨4, ![28, 16, 2, 528]⟩
abbrev S2x1 : Shape := ⟨2, ![2, 1]⟩
abbrev S14x2x528 : Shape := ⟨3, ![14, 2, 528]⟩
abbrev S7x7x2x513 : Shape := ⟨4, ![7, 7, 2, 513]⟩
abbrev S1x1x2x528 : Shape := ⟨4, ![1, 1, 2, 528]⟩
abbrev S2x528 : Shape := ⟨2, ![2, 528]⟩
abbrev S2x513 : Shape := ⟨2, ![2, 513]⟩
abbrev S1x1x2x513 : Shape := ⟨4, ![1, 1, 2, 513]⟩
abbrev S1x2x528 : Shape := ⟨3, ![1, 2, 528]⟩
abbrev S2x7x7x513 : Shape := ⟨4, ![2, 7, 7, 513]⟩

abbrev nBuf : Space → Nat
  | .hbm => 34
  | .vmem => 18
  | .smem => 0
  | _ => 0

abbrev bufTy : (tb : Table) → Fin (tcTables nBuf tb) → BufTy
  | .hbm, ⟨0, _⟩ => ⟨S2x7x16384x513, .i8⟩
  | .hbm, ⟨1, _⟩ => ⟨S2x7x16384x513, .i8⟩
  | .hbm, ⟨2, _⟩ => ⟨S2x7x16384, .f32⟩
  | .hbm, ⟨3, _⟩ => ⟨S2x16384x513, .i8⟩
  | .hbm, ⟨4, _⟩ => ⟨S2x16384x513, .i8⟩
  | .hbm, ⟨5, _⟩ => ⟨S2, .i32⟩
  | .hbm, ⟨6, _⟩ => ⟨S2x7x16384x513, .fp8e4m3⟩
  | .hbm, ⟨7, _⟩ => ⟨S2x7x16384x513, .fp8e4m3⟩
  | .hbm, ⟨8, _⟩ => ⟨S2x7x513x16384, .fp8e4m3⟩
  | .hbm, ⟨9, _⟩ => ⟨S2x7x513x16384, .fp8e4m3⟩
  | .hbm, ⟨10, _⟩ => ⟨S2x513x16384, .i8⟩
  | .hbm, ⟨11, _⟩ => ⟨S2x513x16384, .i8⟩
  | .hbm, ⟨12, _⟩ => ⟨S2x7x15x16384, .fp8e4m3⟩
  | .hbm, ⟨13, _⟩ => ⟨S2x7x528x16384, .fp8e4m3⟩
  | .hbm, ⟨14, _⟩ => ⟨S2x7x15x16384, .fp8e4m3⟩
  | .hbm, ⟨15, _⟩ => ⟨S2x7x528x16384, .fp8e4m3⟩
  | .hbm, ⟨16, _⟩ => ⟨S2x15x16384, .i8⟩
  | .hbm, ⟨17, _⟩ => ⟨S2x528x16384, .i8⟩
  | .hbm, ⟨18, _⟩ => ⟨S2x15x16384, .i8⟩
  | .hbm, ⟨19, _⟩ => ⟨S2x528x16384, .i8⟩
  | .hbm, ⟨20, _⟩ => ⟨S33x2x28x256, .f32⟩
  | .hbm, ⟨21, _⟩ => ⟨S33x2x28x16x16, .f32⟩
  | .hbm, ⟨22, _⟩ => ⟨S28x16x2x33x16, .f32⟩
  | .hbm, ⟨23, _⟩ => ⟨S28x16x2x528, .f32⟩
  | .hbm, ⟨24, _⟩ => ⟨S2x1, .i32⟩
  | .hbm, ⟨25, _⟩ => ⟨S14x2x528, .f32⟩
  | .hbm, ⟨26, _⟩ => ⟨S7x7x2x513, .f32⟩
  | .hbm, ⟨27, _⟩ => ⟨S7x7x2x513, .f32⟩
  | .hbm, ⟨28, _⟩ => ⟨S7x7x2x513, .f32⟩
  | .hbm, ⟨29, _⟩ => ⟨S7x7x2x513, .f32⟩
  | .hbm, ⟨30, _⟩ => ⟨S2x7x7x513, .f32⟩
  | .hbm, ⟨31, _⟩ => ⟨S2x7x7x513, .f32⟩
  | .hbm, ⟨32, _⟩ => ⟨S2x7x7x513, .f32⟩
  | .hbm, ⟨33, _⟩ => ⟨S2x7x7x513, .f32⟩
  | .local _ .vmem, ⟨0, _⟩ => ⟨S2x7x16x16384, .fp8e4m3⟩
  | .local _ .vmem, ⟨1, _⟩ => ⟨S2x7x16x16384, .fp8e4m3⟩
  | .local _ .vmem, ⟨2, _⟩ => ⟨S2x7x16x16384, .fp8e4m3⟩
  | .local _ .vmem, ⟨3, _⟩ => ⟨S2x7x16x16384, .fp8e4m3⟩
  | .local _ .vmem, ⟨4, _⟩ => ⟨S2x16x16384, .i8⟩
  | .local _ .vmem, ⟨5, _⟩ => ⟨S2x16x16384, .i8⟩
  | .local _ .vmem, ⟨6, _⟩ => ⟨S2x16x16384, .i8⟩
  | .local _ .vmem, ⟨7, _⟩ => ⟨S2x16x16384, .i8⟩
  | .local _ .vmem, ⟨8, _⟩ => ⟨S2x7x16384, .f32⟩
  | .local _ .vmem, ⟨9, _⟩ => ⟨S1x2x28x256, .f32⟩
  | .local _ .vmem, ⟨10, _⟩ => ⟨S1x2x28x256, .f32⟩
  | .local _ .vmem, ⟨11, _⟩ => ⟨S28x16x2x528, .f32⟩
  | .local _ .vmem, ⟨12, _⟩ => ⟨S2x1, .i32⟩
  | .local _ .vmem, ⟨13, _⟩ => ⟨S14x2x528, .f32⟩
  | .local _ .vmem, ⟨14, _⟩ => ⟨S7x7x2x513, .f32⟩
  | .local _ .vmem, ⟨15, _⟩ => ⟨S7x7x2x513, .f32⟩
  | .local _ .vmem, ⟨16, _⟩ => ⟨S7x7x2x513, .f32⟩
  | .local _ .vmem, ⟨17, _⟩ => ⟨S7x7x2x513, .f32⟩
  | _, _ => ⟨S2x7x16384x513, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19_0 : Ref sig .tc := ⟨.hbm, 25, rfl⟩
abbrev main_v19_1 : Ref sig .tc := ⟨.hbm, 26, rfl⟩
abbrev main_v19_2 : Ref sig .tc := ⟨.hbm, 27, rfl⟩
abbrev main_v19_3 : Ref sig .tc := ⟨.hbm, 28, rfl⟩
abbrev main_v19_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc1_sem0_0 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17

abbrev nD : Nat := 1
abbrev τ : Topo := Topo.v7x

variable {F : FTy → Type} [FloatOps F]

abbrev grid0 : Pipeline.Grid := ⟨1, ![33], ![false]⟩

@[reducible] def k0_t1_loop : Scf.Loop 32 :=
  let c0_i32_0_r0 : BitVec 32 := 0#32
  let c16_i32_r0 : BitVec 32 := 16#32
  let v4_r0 : BitVec 32 := Scalar.addi c0_i32_0_r0 c16_i32_r0
  let c1_i32_r0 : BitVec 32 := 1#32
  ⟨c0_i32_0_r0, v4_r0, c1_i32_r0⟩
def k0_mult1 (k0_t1 : Fin k0_t1_loop.trips) : BitVec 32 :=
  let c0_i32_0_r0 : BitVec 32 := 0#32
  let c1_i32_r0 : BitVec 32 := 1#32
  let arg7_r0 : BitVec 32 := Scf.iv c0_i32_0_r0 c1_i32_r0 k0_t1
  let c4_i32_r0 : BitVec 32 := 4#32
  let v406_r0 : BitVec 32 := Scalar.muli arg7_r0 c4_i32_r0
  let c0_i32_309_r0 : BitVec 32 := 0#32
  let v407_r0 : BitVec 32 := Scalar.addi v406_r0 c0_i32_309_r0
  let c256_i32_r0 : BitVec 32 := 256#32
  let v408_r0 : BitVec 32 := Scalar.muli v407_r0 c256_i32_r0
  v408_r0
def k0_off1 (k0_t1 : Fin k0_t1_loop.trips) (c0_i32_309_r0 : BitVec 32) : Fin 3 → Nat :=
  let c0_310_r0 : Index := 0#32
  let c0_311_r0 : Index := 0#32
  let c0_i32_0_r0 : BitVec 32 := 0#32
  let c1_i32_r0 : BitVec 32 := 1#32
  let arg7_r0 : BitVec 32 := Scf.iv c0_i32_0_r0 c1_i32_r0 k0_t1
  let c4_i32_r0 : BitVec 32 := 4#32
  let v406_r0 : BitVec 32 := Scalar.muli arg7_r0 c4_i32_r0
  let v407_r0 : BitVec 32 := Scalar.addi v406_r0 c0_i32_309_r0
  let c256_i32_r0 : BitVec 32 := 256#32
  let v408_r0 : BitVec 32 := Scalar.muli v407_r0 c256_i32_r0
  let v409_r0 : BitVec 32 := v408_r0
  let v410_r0 : Index := Scalar.indexCast v409_r0
  ![0, 0, v410_r0.toNat]
def k0_off2 (k0_t1 : Fin k0_t1_loop.trips) (c0_i32_309_r0 : BitVec 32) : Fin 4 → Nat :=
  let c0_312_r0 : Index := 0#32
  let c0_313_r0 : Index := 0#32
  let c0_314_r0 : Index := 0#32
  let c0_i32_0_r0 : BitVec 32 := 0#32
  let c1_i32_r0 : BitVec 32 := 1#32
  let arg7_r0 : BitVec 32 := Scf.iv c0_i32_0_r0 c1_i32_r0 k0_t1
  let c4_i32_r0 : BitVec 32 := 4#32
  let v406_r0 : BitVec 32 := Scalar.muli arg7_r0 c4_i32_r0
  let v407_r0 : BitVec 32 := Scalar.addi v406_r0 c0_i32_309_r0
  let c256_i32_r0 : BitVec 32 := 256#32
  let v408_r0 : BitVec 32 := Scalar.muli v407_r0 c256_i32_r0
  let v409_r0 : BitVec 32 := v408_r0
  let v416_r0 : Index := Scalar.indexCast v409_r0
  ![0, 0, 0, v416_r0.toNat]
def k0_off3 (k0_t1 : Fin k0_t1_loop.trips) (c0_i32_309_r0 : BitVec 32) : Fin 3 → Nat :=
  let c0_318_r0 : Index := 0#32
  let c1_319_r0 : Index := 1#32
  let c0_i32_0_r0 : BitVec 32 := 0#32
  let c1_i32_r0 : BitVec 32 := 1#32
  let arg7_r0 : BitVec 32 := Scf.iv c0_i32_0_r0 c1_i32_r0 k0_t1
  let c4_i32_r0 : BitVec 32 := 4#32
  let v406_r0 : BitVec 32 := Scalar.muli arg7_r0 c4_i32_r0
  let v407_r0 : BitVec 32 := Scalar.addi v406_r0 c0_i32_309_r0
  let c256_i32_r0 : BitVec 32 := 256#32
  let v408_r0 : BitVec 32 := Scalar.muli v407_r0 c256_i32_r0
  let v409_r0 : BitVec 32 := v408_r0
  let v426_r0 : Index := Scalar.indexCast v409_r0
  ![0, 1, v426_r0.toNat]
def k0_off4 (k0_t1 : Fin k0_t1_loop.trips) (c0_i32_309_r0 : BitVec 32) : Fin 4 → Nat :=
  let c0_320_r0 : Index := 0#32
  let c1_321_r0 : Index := 1#32
  let c0_322_r0 : Index := 0#32
  let c0_i32_0_r0 : BitVec 32 := 0#32
  let c1_i32_r0 : BitVec 32 := 1#32
  let arg7_r0 : BitVec 32 := Scf.iv c0_i32_0_r0 c1_i32_r0 k0_t1
  let c4_i32_r0 : BitVec 32 := 4#32
  let v406_r0 : BitVec 32 := Scalar.muli arg7_r0 c4_i32_r0
  let v407_r0 : BitVec 32 := Scalar.addi v406_r0 c0_i32_309_r0
  let c256_i32_r0 : BitVec 32 := 256#32
  let v408_r0 : BitVec 32 := Scalar.muli v407_r0 c256_i32_r0
  let v409_r0 : BitVec 32 := v408_r0
  let v432_r0 : Index := Scalar.indexCast v409_r0
  ![0, 1, 0, v432_r0.toNat]
def k0_off5 (k0_t1 : Fin k0_t1_loop.trips) (c0_i32_309_r0 : BitVec 32) : Fin 3 → Nat :=
  let c0_326_r0 : Index := 0#32
  let c2_327_r0 : Index := 2#32
  let c0_i32_0_r0 : BitVec 32 := 0#32
  let c1_i32_r0 : BitVec 32 := 1#32
  let arg7_r0 : BitVec 32 := Scf.iv c0_i32_0_r0 c1_i32_r0 k0_t1
  let c4_i32_r0 : BitVec 32 := 4#32
  let v406_r0 : BitVec 32 := Scalar.muli arg7_r0 c4_i32_r0
  let v407_r0 : BitVec 32 := Scalar.addi v406_r0 c0_i32_309_r0
  let c256_i32_r0 : BitVec 32 := 256#32
  let v408_r0 : BitVec 32 := Scalar.muli v407_r0 c256_i32_r0
  let v409_r0 : BitVec 32 := v408_r0
  let v442_r0 : Index := Scalar.indexCast v409_r0
  ![0, 2, v442_r0.toNat]
def k0_off6 (k0_t1 : Fin k0_t1_loop.trips) (c0_i32_309_r0 : BitVec 32) : Fin 4 → Nat :=
  let c0_328_r0 : Index := 0#32
  let c2_329_r0 : Index := 2#32
  let c0_330_r0 : Index := 0#32
  let c0_i32_0_r0 : BitVec 32 := 0#32
  let c1_i32_r0 : BitVec 32 := 1#32
  let arg7_r0 : BitVec 32 := Scf.iv c0_i32_0_r0 c1_i32_r0 k0_t1
  let c4_i32_r0 : BitVec 32 := 4#32
  let v406_r0 : BitVec 32 := Scalar.muli arg7_r0 c4_i32_r0
  let v407_r0 : BitVec 32 := Scalar.addi v406_r0 c0_i32_309_r0
  let c256_i32_r0 : BitVec 32 := 256#32
  let v408_r0 : BitVec 32 := Scalar.muli v407_r0 c256_i32_r0
  let v409_r0 : BitVec 32 := v408_r0
  let v448_r0 : Index := Scalar.indexCast v409_r0
  ![0, 2, 0, v448_r0.toNat]
def k0_off7 (k0_t1 : Fin k0_t1_loop.trips) (c0_i32_309_r0 : BitVec 32) : Fin 3 → Nat :=
  let c0_334_r0 : Index := 0#32
  let c3_335_r0 : Index := 3#32
  let c0_i32_0_r0 : BitVec 32 := 0#32
  let c1_i32_r0 : BitVec 32 := 1#32
  let arg7_r0 : BitVec 32 := Scf.iv c0_i32_0_r0 c1_i32_r0 k0_t1
  let c4_i32_r0 : BitVec 32 := 4#32
  let v406_r0 : BitVec 32 := Scalar.muli arg7_r0 c4_i32_r0
  let v407_r0 : BitVec 32 := Scalar.addi v406_r0 c0_i32_309_r0
  let c256_i32_r0 : BitVec 32 := 256#32
  let v408_r0 : BitVec 32 := Scalar.muli v407_r0 c256_i32_r0
  let v409_r0 : BitVec 32 := v408_r0
  let v458_r0 : Index := Scalar.indexCast v409_r0
  ![0, 3, v458_r0.toNat]
def k0_off8 (k0_t1 : Fin k0_t1_loop.trips) (c0_i32_309_r0 : BitVec 32) : Fin 4 → Nat :=
  let c0_336_r0 : Index := 0#32
  let c3_337_r0 : Index := 3#32
  let c0_338_r0 : Index := 0#32
  let c0_i32_0_r0 : BitVec 32 := 0#32
  let c1_i32_r0 : BitVec 32 := 1#32
  let arg7_r0 : BitVec 32 := Scf.iv c0_i32_0_r0 c1_i32_r0 k0_t1
  let c4_i32_r0 : BitVec 32 := 4#32
  let v406_r0 : BitVec 32 := Scalar.muli arg7_r0 c4_i32_r0
  let v407_r0 : BitVec 32 := Scalar.addi v406_r0 c0_i32_309_r0
  let c256_i32_r0 : BitVec 32 := 256#32
  let v408_r0 : BitVec 32 := Scalar.muli v407_r0 c256_i32_r0
  let v409_r0 : BitVec 32 := v408_r0
  let v464_r0 : Index := Scalar.indexCast v409_r0
  ![0, 3, 0, v464_r0.toNat]
def k0_off9 (k0_t1 : Fin k0_t1_loop.trips) (c0_i32_309_r0 : BitVec 32) : Fin 3 → Nat :=
  let c0_342_r0 : Index := 0#32
  let c4_343_r0 : Index := 4#32
  let c0_i32_0_r0 : BitVec 32 := 0#32
  let c1_i32_r0 : BitVec 32 := 1#32
  let arg7_r0 : BitVec 32 := Scf.iv c0_i32_0_r0 c1_i32_r0 k0_t1
  let c4_i32_r0 : BitVec 32 := 4#32
  let v406_r0 : BitVec 32 := Scalar.muli arg7_r0 c4_i32_r0
  let v407_r0 : BitVec 32 := Scalar.addi v406_r0 c0_i32_309_r0
  let c256_i32_r0 : BitVec 32 := 256#32
  let v408_r0 : BitVec 32 := Scalar.muli v407_r0 c256_i32_r0
  let v409_r0 : BitVec 32 := v408_r0
  let v474_r0 : Index := Scalar.indexCast v409_r0
  ![0, 4, v474_r0.toNat]
def k0_off10 (k0_t1 : Fin k0_t1_loop.trips) (c0_i32_309_r0 : BitVec 32) : Fin 4 → Nat :=
  let c0_344_r0 : Index := 0#32
  let c4_345_r0 : Index := 4#32
  let c0_346_r0 : Index := 0#32
  let c0_i32_0_r0 : BitVec 32 := 0#32
  let c1_i32_r0 : BitVec 32 := 1#32
  let arg7_r0 : BitVec 32 := Scf.iv c0_i32_0_r0 c1_i32_r0 k0_t1
  let c4_i32_r0 : BitVec 32 := 4#32
  let v406_r0 : BitVec 32 := Scalar.muli arg7_r0 c4_i32_r0
  let v407_r0 : BitVec 32 := Scalar.addi v406_r0 c0_i32_309_r0
  let c256_i32_r0 : BitVec 32 := 256#32
  let v408_r0 : BitVec 32 := Scalar.muli v407_r0 c256_i32_r0
  let v409_r0 : BitVec 32 := v408_r0
  let v480_r0 : Index := Scalar.indexCast v409_r0
  ![0, 4, 0, v480_r0.toNat]
def k0_off11 (k0_t1 : Fin k0_t1_loop.trips) (c0_i32_309_r0 : BitVec 32) : Fin 3 → Nat :=
  let c0_350_r0 : Index := 0#32
  let c5_351_r0 : Index := 5#32
  let c0_i32_0_r0 : BitVec 32 := 0#32
  let c1_i32_r0 : BitVec 32 := 1#32
  let arg7_r0 : BitVec 32 := Scf.iv c0_i32_0_r0 c1_i32_r0 k0_t1
  let c4_i32_r0 : BitVec 32 := 4#32
  let v406_r0 : BitVec 32 := Scalar.muli arg7_r0 c4_i32_r0
  let v407_r0 : BitVec 32 := Scalar.addi v406_r0 c0_i32_309_r0
  let c256_i32_r0 : BitVec 32 := 256#32
  let v408_r0 : BitVec 32 := Scalar.muli v407_r0 c256_i32_r0
  let v409_r0 : BitVec 32 := v408_r0
  let v490_r0 : Index := Scalar.indexCast v409_r0
  ![0, 5, v490_r0.toNat]
def k0_off12 (k0_t1 : Fin k0_t1_loop.trips) (c0_i32_309_r0 : BitVec 32) : Fin 4 → Nat :=
  let c0_352_r0 : Index := 0#32
  let c5_353_r0 : Index := 5#32
  let c0_354_r0 : Index := 0#32
  let c0_i32_0_r0 : BitVec 32 := 0#32
  let c1_i32_r0 : BitVec 32 := 1#32
  let arg7_r0 : BitVec 32 := Scf.iv c0_i32_0_r0 c1_i32_r0 k0_t1
  let c4_i32_r0 : BitVec 32 := 4#32
  let v406_r0 : BitVec 32 := Scalar.muli arg7_r0 c4_i32_r0
  let v407_r0 : BitVec 32 := Scalar.addi v406_r0 c0_i32_309_r0
  let c256_i32_r0 : BitVec 32 := 256#32
  let v408_r0 : BitVec 32 := Scalar.muli v407_r0 c256_i32_r0
  let v409_r0 : BitVec 32 := v408_r0
  let v496_r0 : Index := Scalar.indexCast v409_r0
  ![0, 5, 0, v496_r0.toNat]
def k0_off13 (k0_t1 : Fin k0_t1_loop.trips) (c0_i32_309_r0 : BitVec 32) : Fin 3 → Nat :=
  let c0_358_r0 : Index := 0#32
  let c6_359_r0 : Index := 6#32
  let c0_i32_0_r0 : BitVec 32 := 0#32
  let c1_i32_r0 : BitVec 32 := 1#32
  let arg7_r0 : BitVec 32 := Scf.iv c0_i32_0_r0 c1_i32_r0 k0_t1
  let c4_i32_r0 : BitVec 32 := 4#32
  let v406_r0 : BitVec 32 := Scalar.muli arg7_r0 c4_i32_r0
  let v407_r0 : BitVec 32 := Scalar.addi v406_r0 c0_i32_309_r0
  let c256_i32_r0 : BitVec 32 := 256#32
  let v408_r0 : BitVec 32 := Scalar.muli v407_r0 c256_i32_r0
  let v409_r0 : BitVec 32 := v408_r0
  let v506_r0 : Index := Scalar.indexCast v409_r0
  ![0, 6, v506_r0.toNat]
def k0_off14 (k0_t1 : Fin k0_t1_loop.trips) (c0_i32_309_r0 : BitVec 32) : Fin 4 → Nat :=
  let c0_360_r0 : Index := 0#32
  let c6_361_r0 : Index := 6#32
  let c0_362_r0 : Index := 0#32
  let c0_i32_0_r0 : BitVec 32 := 0#32
  let c1_i32_r0 : BitVec 32 := 1#32
  let arg7_r0 : BitVec 32 := Scf.iv c0_i32_0_r0 c1_i32_r0 k0_t1
  let c4_i32_r0 : BitVec 32 := 4#32
  let v406_r0 : BitVec 32 := Scalar.muli arg7_r0 c4_i32_r0
  let v407_r0 : BitVec 32 := Scalar.addi v406_r0 c0_i32_309_r0
  let c256_i32_r0 : BitVec 32 := 256#32
  let v408_r0 : BitVec 32 := Scalar.muli v407_r0 c256_i32_r0
  let v409_r0 : BitVec 32 := v408_r0
  let v512_r0 : Index := Scalar.indexCast v409_r0
  ![0, 6, 0, v512_r0.toNat]
def k0_off15 (k0_t1 : Fin k0_t1_loop.trips) (c0_i32_309_r0 : BitVec 32) : Fin 3 → Nat :=
  let c0_366_r0 : Index := 0#32
  let c0_367_r0 : Index := 0#32
  let c0_i32_0_r0 : BitVec 32 := 0#32
  let c1_i32_r0 : BitVec 32 := 1#32
  let arg7_r0 : BitVec 32 := Scf.iv c0_i32_0_r0 c1_i32_r0 k0_t1
  let c4_i32_r0 : BitVec 32 := 4#32
  let v406_r0 : BitVec 32 := Scalar.muli arg7_r0 c4_i32_r0
  let v407_r0 : BitVec 32 := Scalar.addi v406_r0 c0_i32_309_r0
  let c256_i32_r0 : BitVec 32 := 256#32
  let v408_r0 : BitVec 32 := Scalar.muli v407_r0 c256_i32_r0
  let v409_r0 : BitVec 32 := v408_r0
  let v522_r0 : Index := Scalar.indexCast v409_r0
  ![0, 0, v522_r0.toNat]
def k0_mult2 (k0_t1 : Fin k0_t1_loop.trips) : BitVec 32 :=
  let c0_i32_0_r0 : BitVec 32 := 0#32
  let c1_i32_r0 : BitVec 32 := 1#32
  let arg7_r0 : BitVec 32 := Scf.iv c0_i32_0_r0 c1_i32_r0 k0_t1
  let c4_i32_372_r0 : BitVec 32 := 4#32
  let v594_r0 : BitVec 32 := Scalar.muli arg7_r0 c4_i32_372_r0
  let c0_i32_373_r0 : BitVec 32 := 0#32
  let v595_r0 : BitVec 32 := Scalar.addi v594_r0 c0_i32_373_r0
  let c256_i32_374_r0 : BitVec 32 := 256#32
  let v596_r0 : BitVec 32 := Scalar.muli v595_r0 c256_i32_374_r0
  v596_r0
def k0_off16 (k0_t1 : Fin k0_t1_loop.trips) (c0_i32_373_r0 : BitVec 32) : Fin 3 → Nat :=
  let c1_375_r0 : Index := 1#32
  let c0_376_r0 : Index := 0#32
  let c0_i32_0_r0 : BitVec 32 := 0#32
  let c1_i32_r0 : BitVec 32 := 1#32
  let arg7_r0 : BitVec 32 := Scf.iv c0_i32_0_r0 c1_i32_r0 k0_t1
  let c4_i32_372_r0 : BitVec 32 := 4#32
  let v594_r0 : BitVec 32 := Scalar.muli arg7_r0 c4_i32_372_r0
  let v595_r0 : BitVec 32 := Scalar.addi v594_r0 c0_i32_373_r0
  let c256_i32_374_r0 : BitVec 32 := 256#32
  let v596_r0 : BitVec 32 := Scalar.muli v595_r0 c256_i32_374_r0
  let v597_r0 : BitVec 32 := v596_r0
  let v598_r0 : Index := Scalar.indexCast v597_r0
  ![1, 0, v598_r0.toNat]
def k0_off17 (k0_t1 : Fin k0_t1_loop.trips) (c0_i32_373_r0 : BitVec 32) : Fin 4 → Nat :=
  let c1_377_r0 : Index := 1#32
  let c0_378_r0 : Index := 0#32
  let c0_379_r0 : Index := 0#32
  let c0_i32_0_r0 : BitVec 32 := 0#32
  let c1_i32_r0 : BitVec 32 := 1#32
  let arg7_r0 : BitVec 32 := Scf.iv c0_i32_0_r0 c1_i32_r0 k0_t1
  let c4_i32_372_r0 : BitVec 32 := 4#32
  let v594_r0 : BitVec 32 := Scalar.muli arg7_r0 c4_i32_372_r0
  let v595_r0 : BitVec 32 := Scalar.addi v594_r0 c0_i32_373_r0
  let c256_i32_374_r0 : BitVec 32 := 256#32
  let v596_r0 : BitVec 32 := Scalar.muli v595_r0 c256_i32_374_r0
  let v597_r0 : BitVec 32 := v596_r0
  let v604_r0 : Index := Scalar.indexCast v597_r0
  ![1, 0, 0, v604_r0.toNat]
def k0_off18 (k0_t1 : Fin k0_t1_loop.trips) (c0_i32_373_r0 : BitVec 32) : Fin 3 → Nat :=
  let c1_383_r0 : Index := 1#32
  let c1_384_r0 : Index := 1#32
  let c0_i32_0_r0 : BitVec 32 := 0#32
  let c1_i32_r0 : BitVec 32 := 1#32
  let arg7_r0 : BitVec 32 := Scf.iv c0_i32_0_r0 c1_i32_r0 k0_t1
  let c4_i32_372_r0 : BitVec 32 := 4#32
  let v594_r0 : BitVec 32 := Scalar.muli arg7_r0 c4_i32_372_r0
  let v595_r0 : BitVec 32 := Scalar.addi v594_r0 c0_i32_373_r0
  let c256_i32_374_r0 : BitVec 32 := 256#32
  let v596_r0 : BitVec 32 := Scalar.muli v595_r0 c256_i32_374_r0
  let v597_r0 : BitVec 32 := v596_r0
  let v614_r0 : Index := Scalar.indexCast v597_r0
  ![1, 1, v614_r0.toNat]
def k0_off19 (k0_t1 : Fin k0_t1_loop.trips) (c0_i32_373_r0 : BitVec 32) : Fin 4 → Nat :=
  let c1_385_r0 : Index := 1#32
  let c1_386_r0 : Index := 1#32
  let c0_387_r0 : Index := 0#32
  let c0_i32_0_r0 : BitVec 32 := 0#32
  let c1_i32_r0 : BitVec 32 := 1#32
  let arg7_r0 : BitVec 32 := Scf.iv c0_i32_0_r0 c1_i32_r0 k0_t1
  let c4_i32_372_r0 : BitVec 32 := 4#32
  let v594_r0 : BitVec 32 := Scalar.muli arg7_r0 c4_i32_372_r0
  let v595_r0 : BitVec 32 := Scalar.addi v594_r0 c0_i32_373_r0
  let c256_i32_374_r0 : BitVec 32 := 256#32
  let v596_r0 : BitVec 32 := Scalar.muli v595_r0 c256_i32_374_r0
  let v597_r0 : BitVec 32 := v596_r0
  let v620_r0 : Index := Scalar.indexCast v597_r0
  ![1, 1, 0, v620_r0.toNat]
def k0_off20 (k0_t1 : Fin k0_t1_loop.trips) (c0_i32_373_r0 : BitVec 32) : Fin 3 → Nat :=
  let c1_391_r0 : Index := 1#32
  let c2_392_r0 : Index := 2#32
  let c0_i32_0_r0 : BitVec 32 := 0#32
  let c1_i32_r0 : BitVec 32 := 1#32
  let arg7_r0 : BitVec 32 := Scf.iv c0_i32_0_r0 c1_i32_r0 k0_t1
  let c4_i32_372_r0 : BitVec 32 := 4#32
  let v594_r0 : BitVec 32 := Scalar.muli arg7_r0 c4_i32_372_r0
  let v595_r0 : BitVec 32 := Scalar.addi v594_r0 c0_i32_373_r0
  let c256_i32_374_r0 : BitVec 32 := 256#32
  let v596_r0 : BitVec 32 := Scalar.muli v595_r0 c256_i32_374_r0
  let v597_r0 : BitVec 32 := v596_r0
  let v630_r0 : Index := Scalar.indexCast v597_r0
  ![1, 2, v630_r0.toNat]
def k0_off21 (k0_t1 : Fin k0_t1_loop.trips) (c0_i32_373_r0 : BitVec 32) : Fin 4 → Nat :=
  let c1_393_r0 : Index := 1#32
  let c2_394_r0 : Index := 2#32
  let c0_395_r0 : Index := 0#32
  let c0_i32_0_r0 : BitVec 32 := 0#32
  let c1_i32_r0 : BitVec 32 := 1#32
  let arg7_r0 : BitVec 32 := Scf.iv c0_i32_0_r0 c1_i32_r0 k0_t1
  let c4_i32_372_r0 : BitVec 32 := 4#32
  let v594_r0 : BitVec 32 := Scalar.muli arg7_r0 c4_i32_372_r0
  let v595_r0 : BitVec 32 := Scalar.addi v594_r0 c0_i32_373_r0
  let c256_i32_374_r0 : BitVec 32 := 256#32
  let v596_r0 : BitVec 32 := Scalar.muli v595_r0 c256_i32_374_r0
  let v597_r0 : BitVec 32 := v596_r0
  let v636_r0 : Index := Scalar.indexCast v597_r0
  ![1, 2, 0, v636_r0.toNat]
def k0_off22 (k0_t1 : Fin k0_t1_loop.trips) (c0_i32_373_r0 : BitVec 32) : Fin 3 → Nat :=
  let c1_399_r0 : Index := 1#32
  let c3_400_r0 : Index := 3#32
  let c0_i32_0_r0 : BitVec 32 := 0#32
  let c1_i32_r0 : BitVec 32 := 1#32
  let arg7_r0 : BitVec 32 := Scf.iv c0_i32_0_r0 c1_i32_r0 k0_t1
  let c4_i32_372_r0 : BitVec 32 := 4#32
  let v594_r0 : BitVec 32 := Scalar.muli arg7_r0 c4_i32_372_r0
  let v595_r0 : BitVec 32 := Scalar.addi v594_r0 c0_i32_373_r0
  let c256_i32_374_r0 : BitVec 32 := 256#32
  let v596_r0 : BitVec 32 := Scalar.muli v595_r0 c256_i32_374_r0
  let v597_r0 : BitVec 32 := v596_r0
  let v646_r0 : Index := Scalar.indexCast v597_r0
  ![1, 3, v646_r0.toNat]
def k0_off23 (k0_t1 : Fin k0_t1_loop.trips) (c0_i32_373_r0 : BitVec 32) : Fin 4 → Nat :=
  let c1_401_r0 : Index := 1#32
  let c3_402_r0 : Index := 3#32
  let c0_403_r0 : Index := 0#32
  let c0_i32_0_r0 : BitVec 32 := 0#32
  let c1_i32_r0 : BitVec 32 := 1#32
  let arg7_r0 : BitVec 32 := Scf.iv c0_i32_0_r0 c1_i32_r0 k0_t1
  let c4_i32_372_r0 : BitVec 32 := 4#32
  let v594_r0 : BitVec 32 := Scalar.muli arg7_r0 c4_i32_372_r0
  let v595_r0 : BitVec 32 := Scalar.addi v594_r0 c0_i32_373_r0
  let c256_i32_374_r0 : BitVec 32 := 256#32
  let v596_r0 : BitVec 32 := Scalar.muli v595_r0 c256_i32_374_r0
  let v597_r0 : BitVec 32 := v596_r0
  let v652_r0 : Index := Scalar.indexCast v597_r0
  ![1, 3, 0, v652_r0.toNat]
def k0_off24 (k0_t1 : Fin k0_t1_loop.trips) (c0_i32_373_r0 : BitVec 32) : Fin 3 → Nat :=
  let c1_407_r0 : Index := 1#32
  let c4_408_r0 : Index := 4#32
  let c0_i32_0_r0 : BitVec 32 := 0#32
  let c1_i32_r0 : BitVec 32 := 1#32
  let arg7_r0 : BitVec 32 := Scf.iv c0_i32_0_r0 c1_i32_r0 k0_t1
  let c4_i32_372_r0 : BitVec 32 := 4#32
  let v594_r0 : BitVec 32 := Scalar.muli arg7_r0 c4_i32_372_r0
  let v595_r0 : BitVec 32 := Scalar.addi v594_r0 c0_i32_373_r0
  let c256_i32_374_r0 : BitVec 32 := 256#32
  let v596_r0 : BitVec 32 := Scalar.muli v595_r0 c256_i32_374_r0
  let v597_r0 : BitVec 32 := v596_r0
  let v662_r0 : Index := Scalar.indexCast v597_r0
  ![1, 4, v662_r0.toNat]
def k0_off25 (k0_t1 : Fin k0_t1_loop.trips) (c0_i32_373_r0 : BitVec 32) : Fin 4 → Nat :=
  let c1_409_r0 : Index := 1#32
  let c4_410_r0 : Index := 4#32
  let c0_411_r0 : Index := 0#32
  let c0_i32_0_r0 : BitVec 32 := 0#32
  let c1_i32_r0 : BitVec 32 := 1#32
  let arg7_r0 : BitVec 32 := Scf.iv c0_i32_0_r0 c1_i32_r0 k0_t1
  let c4_i32_372_r0 : BitVec 32 := 4#32
  let v594_r0 : BitVec 32 := Scalar.muli arg7_r0 c4_i32_372_r0
  let v595_r0 : BitVec 32 := Scalar.addi v594_r0 c0_i32_373_r0
  let c256_i32_374_r0 : BitVec 32 := 256#32
  let v596_r0 : BitVec 32 := Scalar.muli v595_r0 c256_i32_374_r0
  let v597_r0 : BitVec 32 := v596_r0
  let v668_r0 : Index := Scalar.indexCast v597_r0
  ![1, 4, 0, v668_r0.toNat]
def k0_off26 (k0_t1 : Fin k0_t1_loop.trips) (c0_i32_373_r0 : BitVec 32) : Fin 3 → Nat :=
  let c1_415_r0 : Index := 1#32
  let c5_416_r0 : Index := 5#32
  let c0_i32_0_r0 : BitVec 32 := 0#32
  let c1_i32_r0 : BitVec 32 := 1#32
  let arg7_r0 : BitVec 32 := Scf.iv c0_i32_0_r0 c1_i32_r0 k0_t1
  let c4_i32_372_r0 : BitVec 32 := 4#32
  let v594_r0 : BitVec 32 := Scalar.muli arg7_r0 c4_i32_372_r0
  let v595_r0 : BitVec 32 := Scalar.addi v594_r0 c0_i32_373_r0
  let c256_i32_374_r0 : BitVec 32 := 256#32
  let v596_r0 : BitVec 32 := Scalar.muli v595_r0 c256_i32_374_r0
  let v597_r0 : BitVec 32 := v596_r0
  let v678_r0 : Index := Scalar.indexCast v597_r0
  ![1, 5, v678_r0.toNat]
def k0_off27 (k0_t1 : Fin k0_t1_loop.trips) (c0_i32_373_r0 : BitVec 32) : Fin 4 → Nat :=
  let c1_417_r0 : Index := 1#32
  let c5_418_r0 : Index := 5#32
  let c0_419_r0 : Index := 0#32
  let c0_i32_0_r0 : BitVec 32 := 0#32
  let c1_i32_r0 : BitVec 32 := 1#32
  let arg7_r0 : BitVec 32 := Scf.iv c0_i32_0_r0 c1_i32_r0 k0_t1
  let c4_i32_372_r0 : BitVec 32 := 4#32
  let v594_r0 : BitVec 32 := Scalar.muli arg7_r0 c4_i32_372_r0
  let v595_r0 : BitVec 32 := Scalar.addi v594_r0 c0_i32_373_r0
  let c256_i32_374_r0 : BitVec 32 := 256#32
  let v596_r0 : BitVec 32 := Scalar.muli v595_r0 c256_i32_374_r0
  let v597_r0 : BitVec 32 := v596_r0
  let v684_r0 : Index := Scalar.indexCast v597_r0
  ![1, 5, 0, v684_r0.toNat]
def k0_off28 (k0_t1 : Fin k0_t1_loop.trips) (c0_i32_373_r0 : BitVec 32) : Fin 3 → Nat :=
  let c1_423_r0 : Index := 1#32
  let c6_424_r0 : Index := 6#32
  let c0_i32_0_r0 : BitVec 32 := 0#32
  let c1_i32_r0 : BitVec 32 := 1#32
  let arg7_r0 : BitVec 32 := Scf.iv c0_i32_0_r0 c1_i32_r0 k0_t1
  let c4_i32_372_r0 : BitVec 32 := 4#32
  let v594_r0 : BitVec 32 := Scalar.muli arg7_r0 c4_i32_372_r0
  let v595_r0 : BitVec 32 := Scalar.addi v594_r0 c0_i32_373_r0
  let c256_i32_374_r0 : BitVec 32 := 256#32
  let v596_r0 : BitVec 32 := Scalar.muli v595_r0 c256_i32_374_r0
  let v597_r0 : BitVec 32 := v596_r0
  let v694_r0 : Index := Scalar.indexCast v597_r0
  ![1, 6, v694_r0.toNat]
def k0_off29 (k0_t1 : Fin k0_t1_loop.trips) (c0_i32_373_r0 : BitVec 32) : Fin 4 → Nat :=
  let c1_425_r0 : Index := 1#32
  let c6_426_r0 : Index := 6#32
  let c0_427_r0 : Index := 0#32
  let c0_i32_0_r0 : BitVec 32 := 0#32
  let c1_i32_r0 : BitVec 32 := 1#32
  let arg7_r0 : BitVec 32 := Scf.iv c0_i32_0_r0 c1_i32_r0 k0_t1
  let c4_i32_372_r0 : BitVec 32 := 4#32
  let v594_r0 : BitVec 32 := Scalar.muli arg7_r0 c4_i32_372_r0
  let v595_r0 : BitVec 32 := Scalar.addi v594_r0 c0_i32_373_r0
  let c256_i32_374_r0 : BitVec 32 := 256#32
  let v596_r0 : BitVec 32 := Scalar.muli v595_r0 c256_i32_374_r0
  let v597_r0 : BitVec 32 := v596_r0
  let v700_r0 : Index := Scalar.indexCast v597_r0
  ![1, 6, 0, v700_r0.toNat]
def k0_off30 (k0_t1 : Fin k0_t1_loop.trips) (c0_i32_373_r0 : BitVec 32) : Fin 3 → Nat :=
  let c1_431_r0 : Index := 1#32
  let c0_432_r0 : Index := 0#32
  let c0_i32_0_r0 : BitVec 32 := 0#32
  let c1_i32_r0 : BitVec 32 := 1#32
  let arg7_r0 : BitVec 32 := Scf.iv c0_i32_0_r0 c1_i32_r0 k0_t1
  let c4_i32_372_r0 : BitVec 32 := 4#32
  let v594_r0 : BitVec 32 := Scalar.muli arg7_r0 c4_i32_372_r0
  let v595_r0 : BitVec 32 := Scalar.addi v594_r0 c0_i32_373_r0
  let c256_i32_374_r0 : BitVec 32 := 256#32
  let v596_r0 : BitVec 32 := Scalar.muli v595_r0 c256_i32_374_r0
  let v597_r0 : BitVec 32 := v596_r0
  let v710_r0 : Index := Scalar.indexCast v597_r0
  ![1, 0, v710_r0.toNat]
def k0_mult3 (k0_t1 : Fin k0_t1_loop.trips) : BitVec 32 :=
  let c0_i32_0_r0 : BitVec 32 := 0#32
  let c1_i32_r0 : BitVec 32 := 1#32
  let arg7_r0 : BitVec 32 := Scf.iv c0_i32_0_r0 c1_i32_r0 k0_t1
  let c4_i32_439_r0 : BitVec 32 := 4#32
  let v782_r0 : BitVec 32 := Scalar.muli arg7_r0 c4_i32_439_r0
  let c1_i32_440_r0 : BitVec 32 := 1#32
  let v783_r0 : BitVec 32 := Scalar.addi v782_r0 c1_i32_440_r0
  let c256_i32_441_r0 : BitVec 32 := 256#32
  let v784_r0 : BitVec 32 := Scalar.muli v783_r0 c256_i32_441_r0
  v784_r0
def k0_mult4 (k0_t1 : Fin k0_t1_loop.trips) : BitVec 32 :=
  let c0_i32_0_r0 : BitVec 32 := 0#32
  let c1_i32_r0 : BitVec 32 := 1#32
  let arg7_r0 : BitVec 32 := Scf.iv c0_i32_0_r0 c1_i32_r0 k0_t1
  let c4_i32_506_r0 : BitVec 32 := 4#32
  let v970_r0 : BitVec 32 := Scalar.muli arg7_r0 c4_i32_506_r0
  let c1_i32_507_r0 : BitVec 32 := 1#32
  let v971_r0 : BitVec 32 := Scalar.addi v970_r0 c1_i32_507_r0
  let c256_i32_508_r0 : BitVec 32 := 256#32
  let v972_r0 : BitVec 32 := Scalar.muli v971_r0 c256_i32_508_r0
  v972_r0
def k0_mult5 (k0_t1 : Fin k0_t1_loop.trips) : BitVec 32 :=
  let c0_i32_0_r0 : BitVec 32 := 0#32
  let c1_i32_r0 : BitVec 32 := 1#32
  let arg7_r0 : BitVec 32 := Scf.iv c0_i32_0_r0 c1_i32_r0 k0_t1
  let c4_i32_573_r0 : BitVec 32 := 4#32
  let v1158_r0 : BitVec 32 := Scalar.muli arg7_r0 c4_i32_573_r0
  let c2_i32_r0 : BitVec 32 := 2#32
  let v1159_r0 : BitVec 32 := Scalar.addi v1158_r0 c2_i32_r0
  let c256_i32_574_r0 : BitVec 32 := 256#32
  let v1160_r0 : BitVec 32 := Scalar.muli v1159_r0 c256_i32_574_r0
  v1160_r0
def k0_mult6 (k0_t1 : Fin k0_t1_loop.trips) : BitVec 32 :=
  let c0_i32_0_r0 : BitVec 32 := 0#32
  let c1_i32_r0 : BitVec 32 := 1#32
  let arg7_r0 : BitVec 32 := Scf.iv c0_i32_0_r0 c1_i32_r0 k0_t1
  let c4_i32_639_r0 : BitVec 32 := 4#32
  let v1346_r0 : BitVec 32 := Scalar.muli arg7_r0 c4_i32_639_r0
  let c2_i32_640_r0 : BitVec 32 := 2#32
  let v1347_r0 : BitVec 32 := Scalar.addi v1346_r0 c2_i32_640_r0
  let c256_i32_641_r0 : BitVec 32 := 256#32
  let v1348_r0 : BitVec 32 := Scalar.muli v1347_r0 c256_i32_641_r0
  v1348_r0
def k0_mult7 (k0_t1 : Fin k0_t1_loop.trips) : BitVec 32 :=
  let c0_i32_0_r0 : BitVec 32 := 0#32
  let c1_i32_r0 : BitVec 32 := 1#32
  let arg7_r0 : BitVec 32 := Scf.iv c0_i32_0_r0 c1_i32_r0 k0_t1
  let c4_i32_706_r0 : BitVec 32 := 4#32
  let v1534_r0 : BitVec 32 := Scalar.muli arg7_r0 c4_i32_706_r0
  let c3_i32_r0 : BitVec 32 := 3#32
  let v1535_r0 : BitVec 32 := Scalar.addi v1534_r0 c3_i32_r0
  let c256_i32_707_r0 : BitVec 32 := 256#32
  let v1536_r0 : BitVec 32 := Scalar.muli v1535_r0 c256_i32_707_r0
  v1536_r0
def k0_mult8 (k0_t1 : Fin k0_t1_loop.trips) : BitVec 32 :=
  let c0_i32_0_r0 : BitVec 32 := 0#32
  let c1_i32_r0 : BitVec 32 := 1#32
  let arg7_r0 : BitVec 32 := Scf.iv c0_i32_0_r0 c1_i32_r0 k0_t1
  let c4_i32_772_r0 : BitVec 32 := 4#32
  let v1722_r0 : BitVec 32 := Scalar.muli arg7_r0 c4_i32_772_r0
  let c3_i32_773_r0 : BitVec 32 := 3#32
  let v1723_r0 : BitVec 32 := Scalar.addi v1722_r0 c3_i32_773_r0
  let c256_i32_774_r0 : BitVec 32 := 256#32
  let v1724_r0 : BitVec 32 := Scalar.muli v1723_r0 c256_i32_774_r0
  v1724_r0
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x7x16x16384 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x7x16x16384 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x16x16384 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x16x16384 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x7x16384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2x28x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := .none

abbrev stage1_0 : Fin 1 → Memref sig .tc .vmem S28x16x2x528 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S14x2x528 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S7x7x2x513 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S7x7x2x513 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S7x7x2x513 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S7x7x2x513 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
-- ==== KernelIdeal.lean ====
variable {F : FTy → Type} [FloatOps F] [Named F]
def κ : String → Option EReal := fun
  | "inv_255" => some ((1 / 255 : ℝ) : EReal)
  | _ => none
-- ==== ReferenceIdeal.lean ====
abbrev S2x7x16384x513 : Shape := ⟨4, ![2, 7, 16384, 513]⟩
abbrev S2x7x16384 : Shape := ⟨3, ![2, 7, 16384]⟩
abbrev S2x16384x513 : Shape := ⟨3, ![2, 16384, 513]⟩
abbrev S2 : Shape := ⟨1, ![2]⟩
abbrev S2x7x16384x1 : Shape := ⟨4, ![2, 7, 16384, 1]⟩
abbrev S2x1x16384x513 : Shape := ⟨4, ![2, 1, 16384, 513]⟩
abbrev S2x513x7x7 : Shape := ⟨4, ![2, 513, 7, 7]⟩
abbrev S2x7x7x513 : Shape := ⟨4, ![2, 7, 7, 513]⟩

abbrev nBuf : Space → Nat
  | .hbm => 44
  | .vmem => 9
  | .smem => 0
  | _ => 0

abbrev bufTy : (tb : Table) → Fin (tcTables nBuf tb) → BufTy
  | .hbm, ⟨0, _⟩ => ⟨S2x7x16384x513, .i8⟩
  | .hbm, ⟨1, _⟩ => ⟨S2x7x16384x513, .i8⟩
  | .hbm, ⟨2, _⟩ => ⟨S2x7x16384, .f32⟩
  | .hbm, ⟨3, _⟩ => ⟨S2x16384x513, .i8⟩
  | .hbm, ⟨4, _⟩ => ⟨S2x16384x513, .i8⟩
  | .hbm, ⟨5, _⟩ => ⟨S2, .i32⟩
  | .hbm, ⟨6, _⟩ => ⟨S2x7x16384x513, .fp8e4m3⟩
  | .hbm, ⟨7, _⟩ => ⟨S2x7x16384x513, .fp8e4m3⟩
  | .hbm, ⟨8, _⟩ => ⟨S2x7x16384x513, .f32⟩
  | .hbm, ⟨9, _⟩ => ⟨S2x7x16384x513, .f32⟩
  | .hbm, ⟨10, _⟩ => ⟨S2x16384x513, .f32⟩
  | .hbm, ⟨11, _⟩ => ⟨S2x16384x513, .f32⟩
  | .hbm, ⟨12, _⟩ => ⟨S2x1x16384x513, .f32⟩
  | .hbm, ⟨13, _⟩ => ⟨S2x7x16384x513, .f32⟩
  | .hbm, ⟨14, _⟩ => ⟨S2x7x16384x513, .f32⟩
  | .hbm, ⟨15, _⟩ => ⟨S2x1x16384x513, .f32⟩
  | .hbm, ⟨16, _⟩ => ⟨S2x7x16384x513, .f32⟩
  | .hbm, ⟨17, _⟩ => ⟨S2x7x16384x513, .f32⟩
  | .hbm, ⟨18, _⟩ => ⟨S2x513x7x7, .f32⟩
  | .hbm, ⟨19, _⟩ => ⟨S2x7x7x513, .f32⟩
  | .hbm, ⟨20, _⟩ => ⟨S2x513x7x7, .f32⟩
  | .hbm, ⟨21, _⟩ => ⟨S2x7x7x513, .f32⟩
  | .hbm, ⟨22, _⟩ => ⟨S2x7x7x513, .f32⟩
  | .hbm, ⟨23, _⟩ => ⟨S2x513x7x7, .f32⟩
  | .hbm, ⟨24, _⟩ => ⟨S2x7x7x513, .f32⟩
  | .hbm, ⟨25, _⟩ => ⟨S2x513x7x7, .f32⟩
  | .hbm, ⟨26, _⟩ => ⟨S2x7x7x513, .f32⟩
  | .hbm, ⟨27, _⟩ => ⟨S2x7x7x513, .f32⟩
  | .hbm, ⟨28, _⟩ => ⟨S2x1x16384x513, .f32⟩
  | .hbm, ⟨29, _⟩ => ⟨S2x7x16384x513, .f32⟩
  | .hbm, ⟨30, _⟩ => ⟨S2x7x16384x513, .f32⟩
  | .hbm, ⟨31, _⟩ => ⟨S2x1x16384x513, .f32⟩
  | .hbm, ⟨32, _⟩ => ⟨S2x7x16384x513, .f32⟩
  | .hbm, ⟨33, _⟩ => ⟨S2x7x16384x513, .f32⟩
  | .hbm, ⟨34, _⟩ => ⟨S2x513x7x7, .f32⟩
  | .hbm, ⟨35, _⟩ => ⟨S2x7x7x513, .f32⟩
  | .hbm, ⟨36, _⟩ => ⟨S2x513x7x7, .f32⟩
  | .hbm, ⟨37, _⟩ => ⟨S2x7x7x513, .f32⟩
  | .hbm, ⟨38, _⟩ => ⟨S2x7x7x513, .f32⟩
  | .hbm, ⟨39, _⟩ => ⟨S2x513x7x7, .f32⟩
  | .hbm, ⟨40, _⟩ => ⟨S2x7x7x513, .f32⟩
  | .hbm, ⟨41, _⟩ => ⟨S2x513x7x7, .f32⟩
  | .hbm, ⟨42, _⟩ => ⟨S2x7x7x513, .f32⟩
  | .hbm, ⟨43, _⟩ => ⟨S2x7x7x513, .f32⟩
  | .local _ .vmem, ⟨0, _⟩ => ⟨S2x7x16384x513, .fp8e4m3⟩
  | .local _ .vmem, ⟨1, _⟩ => ⟨S2x7x16384x513, .fp8e4m3⟩
  | .local _ .vmem, ⟨2, _⟩ => ⟨S2x7x16384, .f32⟩
  | .local _ .vmem, ⟨3, _⟩ => ⟨S2x16384x513, .i8⟩
  | .local _ .vmem, ⟨4, _⟩ => ⟨S2x16384x513, .i8⟩
  | .local _ .vmem, ⟨5, _⟩ => ⟨S2x7x16384x513, .f32⟩
  | .local _ .vmem, ⟨6, _⟩ => ⟨S2x7x16384x513, .f32⟩
  | .local _ .vmem, ⟨7, _⟩ => ⟨S2x16384x513, .f32⟩
  | .local _ .vmem, ⟨8, _⟩ => ⟨S2x16384x513, .f32⟩
  | _, _ => ⟨S2x7x16384x513, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2x7x16384x513 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x7x16384x513 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x7x16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x16384x513 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x16384x513 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x7x16384x513 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x7x16384x513 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x16384x513 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x16384x513 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.CovKernel.lean ====
/-
  The covariance call (`mvdr_cov`) of one program: its body on any whole staging buffers.

  The matrix unit's state before trip `n` of the loop is `stateTo n`, by recursion on the trips, each trip eight tiles (`tile`).
  After the loop the four accumulators are popped, and each block of sixteen rows leaves its diagonal in one row of the output
  (`covOut`). `cov_sound` is the body's triple; the loads, the pushes, the accumulates and the stores are run by `sl_exec`.
-/
module

public import proofs.«01_k».proof.Proof.Gen.Kernel.Loops
public import proofs.«01_k».proof.Proof.Gen.Kernel.Launch
public import Idealize.ShloMosaic.Lib.Mxu.Lemmas
public import Idealize.ShloMosaic.Lib.Pipeline.FrameBody
public import Idealize.ShloMosaic.Lib.Tactic

@[expose] public section

set_option maxRecDepth 16384

noncomputable section

namespace Cert.Kernel.Cov

open Cert.Kernel Cert.Kernel.Gen
open Idealize.ShloMosaic Idealize.ShloMosaic.TcCoe Idealize.ShloMosaic.Tactic Idealize.ShloMosaic.Mxu
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- One tile: the sixteen column blocks pushed (the register read transposed), the eight product rows of the last two
    microphones accumulated at row 320, the twenty masked rows at row 0 twice, once by each half of the mask's bits. -/
def tile (b : Fin 2) (z0 z1 z2 z3 z4 z5 z6 z7 z8 z9 z10 z11 z12 z13 : FVec F S16x256 .bf16) (ms mn : Vec F S1x16x256 .i8) (s : Mxu F) : Mxu F :=
  let s1 := s.pushed b 0 true (k0_pay27 z0 z1 z2 z3 z4 z5 z6 z7 z8 z9 z10 z11 z12 z13 ms mn)
  let s2 := s1.accLhs b 0 80 (k0_pay28 z10 z11 z12 z13) fits_80_128
  let s3 := s2.accBy b (s1.staged b 0) 0 (k0_pay29 z0 z1 z2 z3 z4 z5 z6 z7 z8 z9 ms mn) fits_0_320
  s3.accBy b (s1.staged b 0) 0 (k0_pay37 z0 z1 z2 z3 z4 z5 z6 z7 z8 z9 (k0_pay26 mn) (k0_pay30 ms) (k0_pay31 z0 ms) (k0_pay32 z1 ms) (k0_pay33 z2 ms) (k0_pay34 z3 ms) (k0_pay35 z4 ms) (k0_pay36 z5 ms)) fits_0_320

/-- The unit's state after the tile of batch 0 that is number 0 of trip `k`. -/
def tile00 (x1 x2 : Vec F S2x7x16x16384 .fp8e4m3) (x3 x4 : Vec F S2x16x16384 .i8) (x5 : Vec F S2x7x16384 .f32) (k : Fin k0_t1_loop.trips) (s : Mxu F) : Mxu F :=
  tile 0
    (k0_pay5 (View.ld x5 (Rect.unit (s := S2x7x16384) (k0_off1 k 0#32) S1x1x256.size (k0_off1_inb k 0))) (View.ld x1 (Rect.unit (s := S2x7x16x16384) (k0_off2 k 0#32) S1x1x16x256.size (k0_off2_inb k 0))))
    (k0_pay5 (View.ld x5 (Rect.unit (s := S2x7x16384) (k0_off1 k 0#32) S1x1x256.size (k0_off1_inb k 0))) (View.ld x2 (Rect.unit (s := S2x7x16x16384) (k0_off2 k 0#32) S1x1x16x256.size (k0_off2_inb k 0))))
    (k0_pay5 (View.ld x5 (Rect.unit (s := S2x7x16384) (k0_off3 k 0#32) S1x1x256.size (k0_off3_inb k 0))) (View.ld x1 (Rect.unit (s := S2x7x16x16384) (k0_off4 k 0#32) S1x1x16x256.size (k0_off4_inb k 0))))
    (k0_pay5 (View.ld x5 (Rect.unit (s := S2x7x16384) (k0_off3 k 0#32) S1x1x256.size (k0_off3_inb k 0))) (View.ld x2 (Rect.unit (s := S2x7x16x16384) (k0_off4 k 0#32) S1x1x16x256.size (k0_off4_inb k 0))))
    (k0_pay5 (View.ld x5 (Rect.unit (s := S2x7x16384) (k0_off5 k 0#32) S1x1x256.size (k0_off5_inb k 0))) (View.ld x1 (Rect.unit (s := S2x7x16x16384) (k0_off6 k 0#32) S1x1x16x256.size (k0_off6_inb k 0))))
    (k0_pay5 (View.ld x5 (Rect.unit (s := S2x7x16384) (k0_off5 k 0#32) S1x1x256.size (k0_off5_inb k 0))) (View.ld x2 (Rect.unit (s := S2x7x16x16384) (k0_off6 k 0#32) S1x1x16x256.size (k0_off6_inb k 0))))
    (k0_pay5 (View.ld x5 (Rect.unit (s := S2x7x16384) (k0_off7 k 0#32) S1x1x256.size (k0_off7_inb k 0))) (View.ld x1 (Rect.unit (s := S2x7x16x16384) (k0_off8 k 0#32) S1x1x16x256.size (k0_off8_inb k 0))))
    (k0_pay5 (View.ld x5 (Rect.unit (s := S2x7x16384) (k0_off7 k 0#32) S1x1x256.size (k0_off7_inb k 0))) (View.ld x2 (Rect.unit (s := S2x7x16x16384) (k0_off8 k 0#32) S1x1x16x256.size (k0_off8_inb k 0))))
    (k0_pay5 (View.ld x5 (Rect.unit (s := S2x7x16384) (k0_off9 k 0#32) S1x1x256.size (k0_off9_inb k 0))) (View.ld x1 (Rect.unit (s := S2x7x16x16384) (k0_off10 k 0#32) S1x1x16x256.size (k0_off10_inb k 0))))
    (k0_pay5 (View.ld x5 (Rect.unit (s := S2x7x16384) (k0_off9 k 0#32) S1x1x256.size (k0_off9_inb k 0))) (View.ld x2 (Rect.unit (s := S2x7x16x16384) (k0_off10 k 0#32) S1x1x16x256.size (k0_off10_inb k 0))))
    (k0_pay5 (View.ld x5 (Rect.unit (s := S2x7x16384) (k0_off11 k 0#32) S1x1x256.size (k0_off11_inb k 0))) (View.ld x1 (Rect.unit (s := S2x7x16x16384) (k0_off12 k 0#32) S1x1x16x256.size (k0_off12_inb k 0))))
    (k0_pay5 (View.ld x5 (Rect.unit (s := S2x7x16384) (k0_off11 k 0#32) S1x1x256.size (k0_off11_inb k 0))) (View.ld x2 (Rect.unit (s := S2x7x16x16384) (k0_off12 k 0#32) S1x1x16x256.size (k0_off12_inb k 0))))
    (k0_pay5 (View.ld x5 (Rect.unit (s := S2x7x16384) (k0_off13 k 0#32) S1x1x256.size (k0_off13_inb k 0))) (View.ld x1 (Rect.unit (s := S2x7x16x16384) (k0_off14 k 0#32) S1x1x16x256.size (k0_off14_inb k 0))))
    (k0_pay5 (View.ld x5 (Rect.unit (s := S2x7x16384) (k0_off13 k 0#32) S1x1x256.size (k0_off13_inb k 0))) (View.ld x2 (Rect.unit (s := S2x7x16x16384) (k0_off14 k 0#32) S1x1x16x256.size (k0_off14_inb k 0))))
    (View.ld x3 (Rect.unit (s := S2x16x16384) (k0_off15 k 0#32) S1x16x256.size (k0_off15_inb k 0))) (View.ld x4 (Rect.unit (s := S2x16x16384) (k0_off15 k 0#32) S1x16x256.size (k0_off15_inb k 0))) s

/-- The unit's state after the tile of batch 1 that is number 0 of trip `k`. -/
def tile01 (x1 x2 : Vec F S2x7x16x16384 .fp8e4m3) (x3 x4 : Vec F S2x16x16384 .i8) (x5 : Vec F S2x7x16384 .f32) (k : Fin k0_t1_loop.trips) (s : Mxu F) : Mxu F :=
  tile 1
    (k0_pay5 (View.ld x5 (Rect.unit (s := S2x7x16384) (k0_off16 k 0#32) S1x1x256.size (k0_off16_inb k 0))) (View.ld x1 (Rect.unit (s := S2x7x16x16384) (k0_off17 k 0#32) S1x1x16x256.size (k0_off17_inb k 0))))
    (k0_pay5 (View.ld x5 (Rect.unit (s := S2x7x16384) (k0_off16 k 0#32) S1x1x256.size (k0_off16_inb k 0))) (View.ld x2 (Rect.unit (s := S2x7x16x16384) (k0_off17 k 0#32) S1x1x16x256.size (k0_off17_inb k 0))))
    (k0_pay5 (View.ld x5 (Rect.unit (s := S2x7x16384) (k0_off18 k 0#32) S1x1x256.size (k0_off18_inb k 0))) (View.ld x1 (Rect.unit (s := S2x7x16x16384) (k0_off19 k 0#32) S1x1x16x256.size (k0_off19_inb k 0))))
    (k0_pay5 (View.ld x5 (Rect.unit (s := S2x7x16384) (k0_off18 k 0#32) S1x1x256.size (k0_off18_inb k 0))) (View.ld x2 (Rect.unit (s := S2x7x16x16384) (k0_off19 k 0#32) S1x1x16x256.size (k0_off19_inb k 0))))
    (k0_pay5 (View.ld x5 (Rect.unit (s := S2x7x16384) (k0_off20 k 0#32) S1x1x256.size (k0_off20_inb k 0))) (View.ld x1 (Rect.unit (s := S2x7x16x16384) (k0_off21 k 0#32) S1x1x16x256.size (k0_off21_inb k 0))))
    (k0_pay5 (View.ld x5 (Rect.unit (s := S2x7x16384) (k0_off20 k 0#32) S1x1x256.size (k0_off20_inb k 0))) (View.ld x2 (Rect.unit (s := S2x7x16x16384) (k0_off21 k 0#32) S1x1x16x256.size (k0_off21_inb k 0))))
    (k0_pay5 (View.ld x5 (Rect.unit (s := S2x7x16384) (k0_off22 k 0#32) S1x1x256.size (k0_off22_inb k 0))) (View.ld x1 (Rect.unit (s := S2x7x16x16384) (k0_off23 k 0#32) S1x1x16x256.size (k0_off23_inb k 0))))
    (k0_pay5 (View.ld x5 (Rect.unit (s := S2x7x16384) (k0_off22 k 0#32) S1x1x256.size (k0_off22_inb k 0))) (View.ld x2 (Rect.unit (s := S2x7x16x16384) (k0_off23 k 0#32) S1x1x16x256.size (k0_off23_inb k 0))))
    (k0_pay5 (View.ld x5 (Rect.unit (s := S2x7x16384) (k0_off24 k 0#32) S1x1x256.size (k0_off24_inb k 0))) (View.ld x1 (Rect.unit (s := S2x7x16x16384) (k0_off25 k 0#32) S1x1x16x256.size (k0_off25_inb k 0))))
    (k0_pay5 (View.ld x5 (Rect.unit (s := S2x7x16384) (k0_off24 k 0#32) S1x1x256.size (k0_off24_inb k 0))) (View.ld x2 (Rect.unit (s := S2x7x16x16384) (k0_off25 k 0#32) S1x1x16x256.size (k0_off25_inb k 0))))
    (k0_pay5 (View.ld x5 (Rect.unit (s := S2x7x16384) (k0_off26 k 0#32) S1x1x256.size (k0_off26_inb k 0))) (View.ld x1 (Rect.unit (s := S2x7x16x16384) (k0_off27 k 0#32) S1x1x16x256.size (k0_off27_inb k 0))))
    (k0_pay5 (View.ld x5 (Rect.unit (s := S2x7x16384) (k0_off26 k 0#32) S1x1x256.size (k0_off26_inb k 0))) (View.ld x2 (Rect.unit (s := S2x7x16x16384) (k0_off27 k 0#32) S1x1x16x256.size (k0_off27_inb k 0))))
    (k0_pay5 (View.ld x5 (Rect.unit (s := S2x7x16384) (k0_off28 k 0#32) S1x1x256.size (k0_off28_inb k 0))) (View.ld x1 (Rect.unit (s := S2x7x16x16384) (k0_off29 k 0#32) S1x1x16x256.size (k0_off29_inb k 0))))
    (k0_pay5 (View.ld x5 (Rect.unit (s := S2x7x16384) (k0_off28 k 0#32) S1x1x256.size (k0_off28_inb k 0))) (View.ld x2 (Rect.unit (s := S2x7x16x16384) (k0_off29 k 0#32) S1x1x16x256.size (k0_off29_inb k 0))))
    (View.ld x3 (Rect.unit (s := S2x16x16384) (k0_off30 k 0#32) S1x16x256.size (k0_off30_inb k 0))) (View.ld x4 (Rect.unit (s := S2x16x16384) (k0_off30 k 0#32) S1x16x256.size (k0_off30_inb k 0))) s

/-- The unit's state after the tile of batch 0 that is number 1 of trip `k`. -/
def tile10 (x1 x2 : Vec F S2x7x16x16384 .fp8e4m3) (x3 x4 : Vec F S2x16x16384 .i8) (x5 : Vec F S2x7x16384 .f32) (k : Fin k0_t1_loop.trips) (s : Mxu F) : Mxu F :=
  tile 0
    (k0_pay5 (View.ld x5 (Rect.unit (s := S2x7x16384) (k0_off1 k 1#32) S1x1x256.size (k0_off1_inb k 1))) (View.ld x1 (Rect.unit (s := S2x7x16x16384) (k0_off2 k 1#32) S1x1x16x256.size (k0_off2_inb k 1))))
    (k0_pay5 (View.ld x5 (Rect.unit (s := S2x7x16384) (k0_off1 k 1#32) S1x1x256.size (k0_off1_inb k 1))) (View.ld x2 (Rect.unit (s := S2x7x16x16384) (k0_off2 k 1#32) S1x1x16x256.size (k0_off2_inb k 1))))
    (k0_pay5 (View.ld x5 (Rect.unit (s := S2x7x16384) (k0_off3 k 1#32) S1x1x256.size (k0_off3_inb k 1))) (View.ld x1 (Rect.unit (s := S2x7x16x16384) (k0_off4 k 1#32) S1x1x16x256.size (k0_off4_inb k 1))))
    (k0_pay5 (View.ld x5 (Rect.unit (s := S2x7x16384) (k0_off3 k 1#32) S1x1x256.size (k0_off3_inb k 1))) (View.ld x2 (Rect.unit (s := S2x7x16x16384) (k0_off4 k 1#32) S1x1x16x256.size (k0_off4_inb k 1))))
    (k0_pay5 (View.ld x5 (Rect.unit (s := S2x7x16384) (k0_off5 k 1#32) S1x1x256.size (k0_off5_inb k 1))) (View.ld x1 (Rect.unit (s := S2x7x16x16384) (k0_off6 k 1#32) S1x1x16x256.size (k0_off6_inb k 1))))
    (k0_pay5 (View.ld x5 (Rect.unit (s := S2x7x16384) (k0_off5 k 1#32) S1x1x256.size (k0_off5_inb k 1))) (View.ld x2 (Rect.unit (s := S2x7x16x16384) (k0_off6 k 1#32) S1x1x16x256.size (k0_off6_inb k 1))))
    (k0_pay5 (View.ld x5 (Rect.unit (s := S2x7x16384) (k0_off7 k 1#32) S1x1x256.size (k0_off7_inb k 1))) (View.ld x1 (Rect.unit (s := S2x7x16x16384) (k0_off8 k 1#32) S1x1x16x256.size (k0_off8_inb k 1))))
    (k0_pay5 (View.ld x5 (Rect.unit (s := S2x7x16384) (k0_off7 k 1#32) S1x1x256.size (k0_off7_inb k 1))) (View.ld x2 (Rect.unit (s := S2x7x16x16384) (k0_off8 k 1#32) S1x1x16x256.size (k0_off8_inb k 1))))
    (k0_pay5 (View.ld x5 (Rect.unit (s := S2x7x16384) (k0_off9 k 1#32) S1x1x256.size (k0_off9_inb k 1))) (View.ld x1 (Rect.unit (s := S2x7x16x16384) (k0_off10 k 1#32) S1x1x16x256.size (k0_off10_inb k 1))))
    (k0_pay5 (View.ld x5 (Rect.unit (s := S2x7x16384) (k0_off9 k 1#32) S1x1x256.size (k0_off9_inb k 1))) (View.ld x2 (Rect.unit (s := S2x7x16x16384) (k0_off10 k 1#32) S1x1x16x256.size (k0_off10_inb k 1))))
    (k0_pay5 (View.ld x5 (Rect.unit (s := S2x7x16384) (k0_off11 k 1#32) S1x1x256.size (k0_off11_inb k 1))) (View.ld x1 (Rect.unit (s := S2x7x16x16384) (k0_off12 k 1#32) S1x1x16x256.size (k0_off12_inb k 1))))
    (k0_pay5 (View.ld x5 (Rect.unit (s := S2x7x16384) (k0_off11 k 1#32) S1x1x256.size (k0_off11_inb k 1))) (View.ld x2 (Rect.unit (s := S2x7x16x16384) (k0_off12 k 1#32) S1x1x16x256.size (k0_off12_inb k 1))))
    (k0_pay5 (View.ld x5 (Rect.unit (s := S2x7x16384) (k0_off13 k 1#32) S1x1x256.size (k0_off13_inb k 1))) (View.ld x1 (Rect.unit (s := S2x7x16x16384) (k0_off14 k 1#32) S1x1x16x256.size (k0_off14_inb k 1))))
    (k0_pay5 (View.ld x5 (Rect.unit (s := S2x7x16384) (k0_off13 k 1#32) S1x1x256.size (k0_off13_inb k 1))) (View.ld x2 (Rect.unit (s := S2x7x16x16384) (k0_off14 k 1#32) S1x1x16x256.size (k0_off14_inb k 1))))
    (View.ld x3 (Rect.unit (s := S2x16x16384) (k0_off15 k 1#32) S1x16x256.size (k0_off15_inb k 1))) (View.ld x4 (Rect.unit (s := S2x16x16384) (k0_off15 k 1#32) S1x16x256.size (k0_off15_inb k 1))) s

/-- The unit's state after the tile of batch 1 that is number 1 of trip `k`. -/
def tile11 (x1 x2 : Vec F S2x7x16x16384 .fp8e4m3) (x3 x4 : Vec F S2x16x16384 .i8) (x5 : Vec F S2x7x16384 .f32) (k : Fin k0_t1_loop.trips) (s : Mxu F) : Mxu F :=
  tile 1
    (k0_pay5 (View.ld x5 (Rect.unit (s := S2x7x16384) (k0_off16 k 1#32) S1x1x256.size (k0_off16_inb k 1))) (View.ld x1 (Rect.unit (s := S2x7x16x16384) (k0_off17 k 1#32) S1x1x16x256.size (k0_off17_inb k 1))))
    (k0_pay5 (View.ld x5 (Rect.unit (s := S2x7x16384) (k0_off16 k 1#32) S1x1x256.size (k0_off16_inb k 1))) (View.ld x2 (Rect.unit (s := S2x7x16x16384) (k0_off17 k 1#32) S1x1x16x256.size (k0_off17_inb k 1))))
    (k0_pay5 (View.ld x5 (Rect.unit (s := S2x7x16384) (k0_off18 k 1#32) S1x1x256.size (k0_off18_inb k 1))) (View.ld x1 (Rect.unit (s := S2x7x16x16384) (k0_off19 k 1#32) S1x1x16x256.size (k0_off19_inb k 1))))
    (k0_pay5 (View.ld x5 (Rect.unit (s := S2x7x16384) (k0_off18 k 1#32) S1x1x256.size (k0_off18_inb k 1))) (View.ld x2 (Rect.unit (s := S2x7x16x16384) (k0_off19 k 1#32) S1x1x16x256.size (k0_off19_inb k 1))))
    (k0_pay5 (View.ld x5 (Rect.unit (s := S2x7x16384) (k0_off20 k 1#32) S1x1x256.size (k0_off20_inb k 1))) (View.ld x1 (Rect.unit (s := S2x7x16x16384) (k0_off21 k 1#32) S1x1x16x256.size (k0_off21_inb k 1))))
    (k0_pay5 (View.ld x5 (Rect.unit (s := S2x7x16384) (k0_off20 k 1#32) S1x1x256.size (k0_off20_inb k 1))) (View.ld x2 (Rect.unit (s := S2x7x16x16384) (k0_off21 k 1#32) S1x1x16x256.size (k0_off21_inb k 1))))
    (k0_pay5 (View.ld x5 (Rect.unit (s := S2x7x16384) (k0_off22 k 1#32) S1x1x256.size (k0_off22_inb k 1))) (View.ld x1 (Rect.unit (s := S2x7x16x16384) (k0_off23 k 1#32) S1x1x16x256.size (k0_off23_inb k 1))))
    (k0_pay5 (View.ld x5 (Rect.unit (s := S2x7x16384) (k0_off22 k 1#32) S1x1x256.size (k0_off22_inb k 1))) (View.ld x2 (Rect.unit (s := S2x7x16x16384) (k0_off23 k 1#32) S1x1x16x256.size (k0_off23_inb k 1))))
    (k0_pay5 (View.ld x5 (Rect.unit (s := S2x7x16384) (k0_off24 k 1#32) S1x1x256.size (k0_off24_inb k 1))) (View.ld x1 (Rect.unit (s := S2x7x16x16384) (k0_off25 k 1#32) S1x1x16x256.size (k0_off25_inb k 1))))
    (k0_pay5 (View.ld x5 (Rect.unit (s := S2x7x16384) (k0_off24 k 1#32) S1x1x256.size (k0_off24_inb k 1))) (View.ld x2 (Rect.unit (s := S2x7x16x16384) (k0_off25 k 1#32) S1x1x16x256.size (k0_off25_inb k 1))))
    (k0_pay5 (View.ld x5 (Rect.unit (s := S2x7x16384) (k0_off26 k 1#32) S1x1x256.size (k0_off26_inb k 1))) (View.ld x1 (Rect.unit (s := S2x7x16x16384) (k0_off27 k 1#32) S1x1x16x256.size (k0_off27_inb k 1))))
    (k0_pay5 (View.ld x5 (Rect.unit (s := S2x7x16384) (k0_off26 k 1#32) S1x1x256.size (k0_off26_inb k 1))) (View.ld x2 (Rect.unit (s := S2x7x16x16384) (k0_off27 k 1#32) S1x1x16x256.size (k0_off27_inb k 1))))
    (k0_pay5 (View.ld x5 (Rect.unit (s := S2x7x16384) (k0_off28 k 1#32) S1x1x256.size (k0_off28_inb k 1))) (View.ld x1 (Rect.unit (s := S2x7x16x16384) (k0_off29 k 1#32) S1x1x16x256.size (k0_off29_inb k 1))))
    (k0_pay5 (View.ld x5 (Rect.unit (s := S2x7x16384) (k0_off28 k 1#32) S1x1x256.size (k0_off28_inb k 1))) (View.ld x2 (Rect.unit (s := S2x7x16x16384) (k0_off29 k 1#32) S1x1x16x256.size (k0_off29_inb k 1))))
    (View.ld x3 (Rect.unit (s := S2x16x16384) (k0_off30 k 1#32) S1x16x256.size (k0_off30_inb k 1))) (View.ld x4 (Rect.unit (s := S2x16x16384) (k0_off30 k 1#32) S1x16x256.size (k0_off30_inb k 1))) s

/-- The unit's state after the tile of batch 0 that is number 2 of trip `k`. -/
def tile20 (x1 x2 : Vec F S2x7x16x16384 .fp8e4m3) (x3 x4 : Vec F S2x16x16384 .i8) (x5 : Vec F S2x7x16384 .f32) (k : Fin k0_t1_loop.trips) (s : Mxu F) : Mxu F :=
  tile 0
    (k0_pay5 (View.ld x5 (Rect.unit (s := S2x7x16384) (k0_off1 k 2#32) S1x1x256.size (k0_off1_inb k 2))) (View.ld x1 (Rect.unit (s := S2x7x16x16384) (k0_off2 k 2#32) S1x1x16x256.size (k0_off2_inb k 2))))
    (k0_pay5 (View.ld x5 (Rect.unit (s := S2x7x16384) (k0_off1 k 2#32) S1x1x256.size (k0_off1_inb k 2))) (View.ld x2 (Rect.unit (s := S2x7x16x16384) (k0_off2 k 2#32) S1x1x16x256.size (k0_off2_inb k 2))))
    (k0_pay5 (View.ld x5 (Rect.unit (s := S2x7x16384) (k0_off3 k 2#32) S1x1x256.size (k0_off3_inb k 2))) (View.ld x1 (Rect.unit (s := S2x7x16x16384) (k0_off4 k 2#32) S1x1x16x256.size (k0_off4_inb k 2))))
    (k0_pay5 (View.ld x5 (Rect.unit (s := S2x7x16384) (k0_off3 k 2#32) S1x1x256.size (k0_off3_inb k 2))) (View.ld x2 (Rect.unit (s := S2x7x16x16384) (k0_off4 k 2#32) S1x1x16x256.size (k0_off4_inb k 2))))
    (k0_pay5 (View.ld x5 (Rect.unit (s := S2x7x16384) (k0_off5 k 2#32) S1x1x256.size (k0_off5_inb k 2))) (View.ld x1 (Rect.unit (s := S2x7x16x16384) (k0_off6 k 2#32) S1x1x16x256.size (k0_off6_inb k 2))))
    (k0_pay5 (View.ld x5 (Rect.unit (s := S2x7x16384) (k0_off5 k 2#32) S1x1x256.size (k0_off5_inb k 2))) (View.ld x2 (Rect.unit (s := S2x7x16x16384) (k0_off6 k 2#32) S1x1x16x256.size (k0_off6_inb k 2))))
    (k0_pay5 (View.ld x5 (Rect.unit (s := S2x7x16384) (k0_off7 k 2#32) S1x1x256.size (k0_off7_inb k 2))) (View.ld x1 (Rect.unit (s := S2x7x16x16384) (k0_off8 k 2#32) S1x1x16x256.size (k0_off8_inb k 2))))
    (k0_pay5 (View.ld x5 (Rect.unit (s := S2x7x16384) (k0_off7 k 2#32) S1x1x256.size (k0_off7_inb k 2))) (View.ld x2 (Rect.unit (s := S2x7x16x16384) (k0_off8 k 2#32) S1x1x16x256.size (k0_off8_inb k 2))))
    (k0_pay5 (View.ld x5 (Rect.unit (s := S2x7x16384) (k0_off9 k 2#32) S1x1x256.size (k0_off9_inb k 2))) (View.ld x1 (Rect.unit (s := S2x7x16x16384) (k0_off10 k 2#32) S1x1x16x256.size (k0_off10_inb k 2))))
    (k0_pay5 (View.ld x5 (Rect.unit (s := S2x7x16384) (k0_off9 k 2#32) S1x1x256.size (k0_off9_inb k 2))) (View.ld x2 (Rect.unit (s := S2x7x16x16384) (k0_off10 k 2#32) S1x1x16x256.size (k0_off10_inb k 2))))
    (k0_pay5 (View.ld x5 (Rect.unit (s := S2x7x16384) (k0_off11 k 2#32) S1x1x256.size (k0_off11_inb k 2))) (View.ld x1 (Rect.unit (s := S2x7x16x16384) (k0_off12 k 2#32) S1x1x16x256.size (k0_off12_inb k 2))))
    (k0_pay5 (View.ld x5 (Rect.unit (s := S2x7x16384) (k0_off11 k 2#32) S1x1x256.size (k0_off11_inb k 2))) (View.ld x2 (Rect.unit (s := S2x7x16x16384) (k0_off12 k 2#32) S1x1x16x256.size (k0_off12_inb k 2))))
    (k0_pay5 (View.ld x5 (Rect.unit (s := S2x7x16384) (k0_off13 k 2#32) S1x1x256.size (k0_off13_inb k 2))) (View.ld x1 (Rect.unit (s := S2x7x16x16384) (k0_off14 k 2#32) S1x1x16x256.size (k0_off14_inb k 2))))
    (k0_pay5 (View.ld x5 (Rect.unit (s := S2x7x16384) (k0_off13 k 2#32) S1x1x256.size (k0_off13_inb k 2))) (View.ld x2 (Rect.unit (s := S2x7x16x16384) (k0_off14 k 2#32) S1x1x16x256.size (k0_off14_inb k 2))))
    (View.ld x3 (Rect.unit (s := S2x16x16384) (k0_off15 k 2#32) S1x16x256.size (k0_off15_inb k 2))) (View.ld x4 (Rect.unit (s := S2x16x16384) (k0_off15 k 2#32) S1x16x256.size (k0_off15_inb k 2))) s

/-- The unit's state after the tile of batch 1 that is number 2 of trip `k`. -/
def tile21 (x1 x2 : Vec F S2x7x16x16384 .fp8e4m3) (x3 x4 : Vec F S2x16x16384 .i8) (x5 : Vec F S2x7x16384 .f32) (k : Fin k0_t1_loop.trips) (s : Mxu F) : Mxu F :=
  tile 1
    (k0_pay5 (View.ld x5 (Rect.unit (s := S2x7x16384) (k0_off16 k 2#32) S1x1x256.size (k0_off16_inb k 2))) (View.ld x1 (Rect.unit (s := S2x7x16x16384) (k0_off17 k 2#32) S1x1x16x256.size (k0_off17_inb k 2))))
    (k0_pay5 (View.ld x5 (Rect.unit (s := S2x7x16384) (k0_off16 k 2#32) S1x1x256.size (k0_off16_inb k 2))) (View.ld x2 (Rect.unit (s := S2x7x16x16384) (k0_off17 k 2#32) S1x1x16x256.size (k0_off17_inb k 2))))
    (k0_pay5 (View.ld x5 (Rect.unit (s := S2x7x16384) (k0_off18 k 2#32) S1x1x256.size (k0_off18_inb k 2))) (View.ld x1 (Rect.unit (s := S2x7x16x16384) (k0_off19 k 2#32) S1x1x16x256.size (k0_off19_inb k 2))))
    (k0_pay5 (View.ld x5 (Rect.unit (s := S2x7x16384) (k0_off18 k 2#32) S1x1x256.size (k0_off18_inb k 2))) (View.ld x2 (Rect.unit (s := S2x7x16x16384) (k0_off19 k 2#32) S1x1x16x256.size (k0_off19_inb k 2))))
    (k0_pay5 (View.ld x5 (Rect.unit (s := S2x7x16384) (k0_off20 k 2#32) S1x1x256.size (k0_off20_inb k 2))) (View.ld x1 (Rect.unit (s := S2x7x16x16384) (k0_off21 k 2#32) S1x1x16x256.size (k0_off21_inb k 2))))
    (k0_pay5 (View.ld x5 (Rect.unit (s := S2x7x16384) (k0_off20 k 2#32) S1x1x256.size (k0_off20_inb k 2))) (View.ld x2 (Rect.unit (s := S2x7x16x16384) (k0_off21 k 2#32) S1x1x16x256.size (k0_off21_inb k 2))))
    (k0_pay5 (View.ld x5 (Rect.unit (s := S2x7x16384) (k0_off22 k 2#32) S1x1x256.size (k0_off22_inb k 2))) (View.ld x1 (Rect.unit (s := S2x7x16x16384) (k0_off23 k 2#32) S1x1x16x256.size (k0_off23_inb k 2))))
    (k0_pay5 (View.ld x5 (Rect.unit (s := S2x7x16384) (k0_off22 k 2#32) S1x1x256.size (k0_off22_inb k 2))) (View.ld x2 (Rect.unit (s := S2x7x16x16384) (k0_off23 k 2#32) S1x1x16x256.size (k0_off23_inb k 2))))
    (k0_pay5 (View.ld x5 (Rect.unit (s := S2x7x16384) (k0_off24 k 2#32) S1x1x256.size (k0_off24_inb k 2))) (View.ld x1 (Rect.unit (s := S2x7x16x16384) (k0_off25 k 2#32) S1x1x16x256.size (k0_off25_inb k 2))))
    (k0_pay5 (View.ld x5 (Rect.unit (s := S2x7x16384) (k0_off24 k 2#32) S1x1x256.size (k0_off24_inb k 2))) (View.ld x2 (Rect.unit (s := S2x7x16x16384) (k0_off25 k 2#32) S1x1x16x256.size (k0_off25_inb k 2))))
    (k0_pay5 (View.ld x5 (Rect.unit (s := S2x7x16384) (k0_off26 k 2#32) S1x1x256.size (k0_off26_inb k 2))) (View.ld x1 (Rect.unit (s := S2x7x16x16384) (k0_off27 k 2#32) S1x1x16x256.size (k0_off27_inb k 2))))
    (k0_pay5 (View.ld x5 (Rect.unit (s := S2x7x16384) (k0_off26 k 2#32) S1x1x256.size (k0_off26_inb k 2))) (View.ld x2 (Rect.unit (s := S2x7x16x16384) (k0_off27 k 2#32) S1x1x16x256.size (k0_off27_inb k 2))))
    (k0_pay5 (View.ld x5 (Rect.unit (s := S2x7x16384) (k0_off28 k 2#32) S1x1x256.size (k0_off28_inb k 2))) (View.ld x1 (Rect.unit (s := S2x7x16x16384) (k0_off29 k 2#32) S1x1x16x256.size (k0_off29_inb k 2))))
    (k0_pay5 (View.ld x5 (Rect.unit (s := S2x7x16384) (k0_off28 k 2#32) S1x1x256.size (k0_off28_inb k 2))) (View.ld x2 (Rect.unit (s := S2x7x16x16384) (k0_off29 k 2#32) S1x1x16x256.size (k0_off29_inb k 2))))
    (View.ld x3 (Rect.unit (s := S2x16x16384) (k0_off30 k 2#32) S1x16x256.size (k0_off30_inb k 2))) (View.ld x4 (Rect.unit (s := S2x16x16384) (k0_off30 k 2#32) S1x16x256.size (k0_off30_inb k 2))) s

/-- The unit's state after the tile of batch 0 that is number 3 of trip `k`. -/
def tile30 (x1 x2 : Vec F S2x7x16x16384 .fp8e4m3) (x3 x4 : Vec F S2x16x16384 .i8) (x5 : Vec F S2x7x16384 .f32) (k : Fin k0_t1_loop.trips) (s : Mxu F) : Mxu F :=
  tile 0
    (k0_pay5 (View.ld x5 (Rect.unit (s := S2x7x16384) (k0_off1 k 3#32) S1x1x256.size (k0_off1_inb k 3))) (View.ld x1 (Rect.unit (s := S2x7x16x16384) (k0_off2 k 3#32) S1x1x16x256.size (k0_off2_inb k 3))))
    (k0_pay5 (View.ld x5 (Rect.unit (s := S2x7x16384) (k0_off1 k 3#32) S1x1x256.size (k0_off1_inb k 3))) (View.ld x2 (Rect.unit (s := S2x7x16x16384) (k0_off2 k 3#32) S1x1x16x256.size (k0_off2_inb k 3))))
    (k0_pay5 (View.ld x5 (Rect.unit (s := S2x7x16384) (k0_off3 k 3#32) S1x1x256.size (k0_off3_inb k 3))) (View.ld x1 (Rect.unit (s := S2x7x16x16384) (k0_off4 k 3#32) S1x1x16x256.size (k0_off4_inb k 3))))
    (k0_pay5 (View.ld x5 (Rect.unit (s := S2x7x16384) (k0_off3 k 3#32) S1x1x256.size (k0_off3_inb k 3))) (View.ld x2 (Rect.unit (s := S2x7x16x16384) (k0_off4 k 3#32) S1x1x16x256.size (k0_off4_inb k 3))))
    (k0_pay5 (View.ld x5 (Rect.unit (s := S2x7x16384) (k0_off5 k 3#32) S1x1x256.size (k0_off5_inb k 3))) (View.ld x1 (Rect.unit (s := S2x7x16x16384) (k0_off6 k 3#32) S1x1x16x256.size (k0_off6_inb k 3))))
    (k0_pay5 (View.ld x5 (Rect.unit (s := S2x7x16384) (k0_off5 k 3#32) S1x1x256.size (k0_off5_inb k 3))) (View.ld x2 (Rect.unit (s := S2x7x16x16384) (k0_off6 k 3#32) S1x1x16x256.size (k0_off6_inb k 3))))
    (k0_pay5 (View.ld x5 (Rect.unit (s := S2x7x16384) (k0_off7 k 3#32) S1x1x256.size (k0_off7_inb k 3))) (View.ld x1 (Rect.unit (s := S2x7x16x16384) (k0_off8 k 3#32) S1x1x16x256.size (k0_off8_inb k 3))))
    (k0_pay5 (View.ld x5 (Rect.unit (s := S2x7x16384) (k0_off7 k 3#32) S1x1x256.size (k0_off7_inb k 3))) (View.ld x2 (Rect.unit (s := S2x7x16x16384) (k0_off8 k 3#32) S1x1x16x256.size (k0_off8_inb k 3))))
    (k0_pay5 (View.ld x5 (Rect.unit (s := S2x7x16384) (k0_off9 k 3#32) S1x1x256.size (k0_off9_inb k 3))) (View.ld x1 (Rect.unit (s := S2x7x16x16384) (k0_off10 k 3#32) S1x1x16x256.size (k0_off10_inb k 3))))
    (k0_pay5 (View.ld x5 (Rect.unit (s := S2x7x16384) (k0_off9 k 3#32) S1x1x256.size (k0_off9_inb k 3))) (View.ld x2 (Rect.unit (s := S2x7x16x16384) (k0_off10 k 3#32) S1x1x16x256.size (k0_off10_inb k 3))))
    (k0_pay5 (View.ld x5 (Rect.unit (s := S2x7x16384) (k0_off11 k 3#32) S1x1x256.size (k0_off11_inb k 3))) (View.ld x1 (Rect.unit (s := S2x7x16x16384) (k0_off12 k 3#32) S1x1x16x256.size (k0_off12_inb k 3))))
    (k0_pay5 (View.ld x5 (Rect.unit (s := S2x7x16384) (k0_off11 k 3#32) S1x1x256.size (k0_off11_inb k 3))) (View.ld x2 (Rect.unit (s := S2x7x16x16384) (k0_off12 k 3#32) S1x1x16x256.size (k0_off12_inb k 3))))
    (k0_pay5 (View.ld x5 (Rect.unit (s := S2x7x16384) (k0_off13 k 3#32) S1x1x256.size (k0_off13_inb k 3))) (View.ld x1 (Rect.unit (s := S2x7x16x16384) (k0_off14 k 3#32) S1x1x16x256.size (k0_off14_inb k 3))))
    (k0_pay5 (View.ld x5 (Rect.unit (s := S2x7x16384) (k0_off13 k 3#32) S1x1x256.size (k0_off13_inb k 3))) (View.ld x2 (Rect.unit (s := S2x7x16x16384) (k0_off14 k 3#32) S1x1x16x256.size (k0_off14_inb k 3))))
    (View.ld x3 (Rect.unit (s := S2x16x16384) (k0_off15 k 3#32) S1x16x256.size (k0_off15_inb k 3))) (View.ld x4 (Rect.unit (s := S2x16x16384) (k0_off15 k 3#32) S1x16x256.size (k0_off15_inb k 3))) s

/-- The unit's state after the tile of batch 1 that is number 3 of trip `k`. -/
def tile31 (x1 x2 : Vec F S2x7x16x16384 .fp8e4m3) (x3 x4 : Vec F S2x16x16384 .i8) (x5 : Vec F S2x7x16384 .f32) (k : Fin k0_t1_loop.trips) (s : Mxu F) : Mxu F :=
  tile 1
    (k0_pay5 (View.ld x5 (Rect.unit (s := S2x7x16384) (k0_off16 k 3#32) S1x1x256.size (k0_off16_inb k 3))) (View.ld x1 (Rect.unit (s := S2x7x16x16384) (k0_off17 k 3#32) S1x1x16x256.size (k0_off17_inb k 3))))
    (k0_pay5 (View.ld x5 (Rect.unit (s := S2x7x16384) (k0_off16 k 3#32) S1x1x256.size (k0_off16_inb k 3))) (View.ld x2 (Rect.unit (s := S2x7x16x16384) (k0_off17 k 3#32) S1x1x16x256.size (k0_off17_inb k 3))))
    (k0_pay5 (View.ld x5 (Rect.unit (s := S2x7x16384) (k0_off18 k 3#32) S1x1x256.size (k0_off18_inb k 3))) (View.ld x1 (Rect.unit (s := S2x7x16x16384) (k0_off19 k 3#32) S1x1x16x256.size (k0_off19_inb k 3))))
    (k0_pay5 (View.ld x5 (Rect.unit (s := S2x7x16384) (k0_off18 k 3#32) S1x1x256.size (k0_off18_inb k 3))) (View.ld x2 (Rect.unit (s := S2x7x16x16384) (k0_off19 k 3#32) S1x1x16x256.size (k0_off19_inb k 3))))
    (k0_pay5 (View.ld x5 (Rect.unit (s := S2x7x16384) (k0_off20 k 3#32) S1x1x256.size (k0_off20_inb k 3))) (View.ld x1 (Rect.unit (s := S2x7x16x16384) (k0_off21 k 3#32) S1x1x16x256.size (k0_off21_inb k 3))))
    (k0_pay5 (View.ld x5 (Rect.unit (s := S2x7x16384) (k0_off20 k 3#32) S1x1x256.size (k0_off20_inb k 3))) (View.ld x2 (Rect.unit (s := S2x7x16x16384) (k0_off21 k 3#32) S1x1x16x256.size (k0_off21_inb k 3))))
    (k0_pay5 (View.ld x5 (Rect.unit (s := S2x7x16384) (k0_off22 k 3#32) S1x1x256.size (k0_off22_inb k 3))) (View.ld x1 (Rect.unit (s := S2x7x16x16384) (k0_off23 k 3#32) S1x1x16x256.size (k0_off23_inb k 3))))
    (k0_pay5 (View.ld x5 (Rect.unit (s := S2x7x16384) (k0_off22 k 3#32) S1x1x256.size (k0_off22_inb k 3))) (View.ld x2 (Rect.unit (s := S2x7x16x16384) (k0_off23 k 3#32) S1x1x16x256.size (k0_off23_inb k 3))))
    (k0_pay5 (View.ld x5 (Rect.unit (s := S2x7x16384) (k0_off24 k 3#32) S1x1x256.size (k0_off24_inb k 3))) (View.ld x1 (Rect.unit (s := S2x7x16x16384) (k0_off25 k 3#32) S1x1x16x256.size (k0_off25_inb k 3))))
    (k0_pay5 (View.ld x5 (Rect.unit (s := S2x7x16384) (k0_off24 k 3#32) S1x1x256.size (k0_off24_inb k 3))) (View.ld x2 (Rect.unit (s := S2x7x16x16384) (k0_off25 k 3#32) S1x1x16x256.size (k0_off25_inb k 3))))
    (k0_pay5 (View.ld x5 (Rect.unit (s := S2x7x16384) (k0_off26 k 3#32) S1x1x256.size (k0_off26_inb k 3))) (View.ld x1 (Rect.unit (s := S2x7x16x16384) (k0_off27 k 3#32) S1x1x16x256.size (k0_off27_inb k 3))))
    (k0_pay5 (View.ld x5 (Rect.unit (s := S2x7x16384) (k0_off26 k 3#32) S1x1x256.size (k0_off26_inb k 3))) (View.ld x2 (Rect.unit (s := S2x7x16x16384) (k0_off27 k 3#32) S1x1x16x256.size (k0_off27_inb k 3))))
    (k0_pay5 (View.ld x5 (Rect.unit (s := S2x7x16384) (k0_off28 k 3#32) S1x1x256.size (k0_off28_inb k 3))) (View.ld x1 (Rect.unit (s := S2x7x16x16384) (k0_off29 k 3#32) S1x1x16x256.size (k0_off29_inb k 3))))
    (k0_pay5 (View.ld x5 (Rect.unit (s := S2x7x16384) (k0_off28 k 3#32) S1x1x256.size (k0_off28_inb k 3))) (View.ld x2 (Rect.unit (s := S2x7x16x16384) (k0_off29 k 3#32) S1x1x16x256.size (k0_off29_inb k 3))))
    (View.ld x3 (Rect.unit (s := S2x16x16384) (k0_off30 k 3#32) S1x16x256.size (k0_off30_inb k 3))) (View.ld x4 (Rect.unit (s := S2x16x16384) (k0_off30 k 3#32) S1x16x256.size (k0_off30_inb k 3))) s

/-- The unit's state at the loop's entry: four accumulators popped, which clears them. -/
def start : Mxu F :=
  (((Mxu.init.pop 0 0 320 fits_0_320).pop 0 80 128 fits_80_128).pop 1 0 320 fits_0_320).pop 1 80 128 fits_80_128

/-- One trip: its eight tiles. -/
def trip (x1 x2 : Vec F S2x7x16x16384 .fp8e4m3) (x3 x4 : Vec F S2x16x16384 .i8) (x5 : Vec F S2x7x16384 .f32) (k : Fin k0_t1_loop.trips) (s : Mxu F) : Mxu F :=
  (tile31 x1 x2 x3 x4 x5 k (tile30 x1 x2 x3 x4 x5 k (tile21 x1 x2 x3 x4 x5 k (tile20 x1 x2 x3 x4 x5 k (tile11 x1 x2 x3 x4 x5 k (tile10 x1 x2 x3 x4 x5 k (tile01 x1 x2 x3 x4 x5 k (tile00 x1 x2 x3 x4 x5 k s))))))))

/-- The unit's state before trip `n`: after the four pops that clear it, and the trips before. -/
def stateTo (x1 x2 : Vec F S2x7x16x16384 .fp8e4m3) (x3 x4 : Vec F S2x16x16384 .i8) (x5 : Vec F S2x7x16384 .f32) : ℕ → Mxu F
  | 0 => start
  | n + 1 => if h : n < k0_t1_loop.trips then trip x1 x2 x3 x4 x5 ⟨n, h⟩ (stateTo x1 x2 x3 x4 x5 n) else stateTo x1 x2 x3 x4 x5 n

/-- Every register is empty before every trip: the tile's loading accumulate empties the one it pushes. -/
theorem reg_tile (b : Fin 2) (z0 z1 z2 z3 z4 z5 z6 z7 z8 z9 z10 z11 z12 z13 : FVec F S16x256 .bf16) (ms mn : Vec F S1x16x256 .i8) (s : Mxu F)
    (hq : ∀ q r, s.reg q r = none) (q r : Fin 2) : (tile b z0 z1 z2 z3 z4 z5 z6 z7 z8 z9 z10 z11 z12 z13 ms mn s).reg q r = none := by
  unfold tile
  simp only [reg_accBy, accLhs]
  split
  · rfl
  · rename_i h
    unfold pushed
    split
    · exact hq q r
    · simp only [hq, ite_eq_right_iff]
      intro h'; exact absurd h' h

theorem reg_trip (x1 x2 : Vec F S2x7x16x16384 .fp8e4m3) (x3 x4 : Vec F S2x16x16384 .i8) (x5 : Vec F S2x7x16384 .f32) (k : Fin k0_t1_loop.trips) (s : Mxu F) (hq : ∀ q r, s.reg q r = none) (q r : Fin 2) :
    (trip x1 x2 x3 x4 x5 k s).reg q r = none := by
  unfold trip tile31 tile30 tile21 tile20 tile11 tile10 tile01 tile00
  revert q r
  iterate 8 refine reg_tile _ _ _ _ _ _ _ _ _ _ _ _ _ _ _ _ _ _ ?_
  exact hq

theorem reg_stateTo (x1 x2 : Vec F S2x7x16x16384 .fp8e4m3) (x3 x4 : Vec F S2x16x16384 .i8) (x5 : Vec F S2x7x16384 .f32) (n : ℕ) (q r : Fin 2) : (stateTo x1 x2 x3 x4 x5 n).reg q r = none := by
  induction n generalizing q r with
  | zero => rfl
  | succ n ih =>
    unfold stateTo
    split
    · exact reg_trip _ _ _ _ _ _ _ ih q r
    · exact ih q r

/-- Rows that no accumulator of the body owns stay clear. -/
theorem live_tile (b : Fin 2) (z0 z1 z2 z3 z4 z5 z6 z7 z8 z9 z10 z11 z12 z13 : FVec F S16x256 .bf16) (ms mn : Vec F S1x16x256 .i8) (s : Mxu F)
    (hq : ∀ q (R : Fin 1024), 448 ≤ R.val → s.live q R = false) (q : Fin 2) (R : Fin 1024) (hR : 448 ≤ R.val) :
    (tile b z0 z1 z2 z3 z4 z5 z6 z7 z8 z9 z10 z11 z12 z13 ms mn s).live q R = false := by
  unfold tile
  simp only [accBy, accLhs]
  have hp : ∀ (v : FVec F S256x256 .bf16), (s.pushed b 0 true v).live q R = false := by
    intro v; unfold pushed; split <;> exact hq q R hR
  rw [if_neg (by omega), if_neg (by omega), if_neg (by omega)]
  exact hp _

theorem live_trip (x1 x2 : Vec F S2x7x16x16384 .fp8e4m3) (x3 x4 : Vec F S2x16x16384 .i8) (x5 : Vec F S2x7x16384 .f32) (k : Fin k0_t1_loop.trips) (s : Mxu F) (hq : ∀ q (R : Fin 1024), 448 ≤ R.val → s.live q R = false)
    (q : Fin 2) (R : Fin 1024) (hR : 448 ≤ R.val) : (trip x1 x2 x3 x4 x5 k s).live q R = false := by
  unfold trip tile31 tile30 tile21 tile20 tile11 tile10 tile01 tile00
  revert q R
  iterate 8 refine live_tile _ _ _ _ _ _ _ _ _ _ _ _ _ _ _ _ _ _ ?_
  exact hq

theorem live_stateTo (x1 x2 : Vec F S2x7x16x16384 .fp8e4m3) (x3 x4 : Vec F S2x16x16384 .i8) (x5 : Vec F S2x7x16384 .f32) (n : ℕ) (q : Fin 2) (R : Fin 1024) (hR : 448 ≤ R.val) :
    (stateTo x1 x2 x3 x4 x5 n).live q R = false := by
  induction n generalizing q R with
  | zero =>
    show start.live q R = false
    unfold start
    simp only [pop, init, ite_self]
  | succ n ih =>
    unfold stateTo
    split
    · exact live_trip _ _ _ _ _ _ _ ih q R hR
    · exact ih q R hR

/-- After the four pops nothing is left in the unit. -/
theorem drained_stateTo (x1 x2 : Vec F S2x7x16x16384 .fp8e4m3) (x3 x4 : Vec F S2x16x16384 .i8) (x5 : Vec F S2x7x16384 .f32) (n : ℕ) :
    (((((stateTo x1 x2 x3 x4 x5 n).pop 0 0 320 fits_0_320).pop 0 80 128 fits_80_128).pop 1 0 320 fits_0_320).pop 1 80 128 fits_80_128).Drained := by
  refine ⟨fun q r => ?_, fun q R => ?_⟩
  · show ((stateTo x1 x2 x3 x4 x5 n).reg q r).isNone = true
    rw [reg_stateTo]; rfl
  · simp only [pop]
    by_cases h : 448 ≤ R.val
    · rw [live_stateTo _ _ _ _ _ n q R h]; simp
    · have hq : q = 0 ∨ q = 1 := by omega
      rcases hq with rfl | rfl <;> by_cases h' : R.val < 320 <;> simp <;> omega

/-- The diagonal of a block of sixteen rows: row `g` gives its lanes `16 j + g`. -/
def diagRow (v : FVec F S16x256 .f32) : FVec F S1x1x1x256 .f32 :=
  shapeCast S1x1x1x256 (multiReduction .add [0] S256 (select k0_pay330 v (broadcast S16x256 (Scalar.ofBits .f32 0x00000000#32)))
    0x00000000#32 reduces_S16x256_S256 (.inl rfl) rfl) shapeCasts_S256_S1x1x1x256

/-- The rows popped for unit `b`: the masked ones, and the products of the last two microphones. -/
def wide (s : Mxu F) : Fin 2 → FVec F S320x256 .f32
  | 0 => s.read 0 0 fits_0_320
  | 1 => ((s.pop 0 0 320 fits_0_320).pop 0 80 128 fits_80_128).read 1 0 fits_0_320
def prods (s : Mxu F) : Fin 2 → FVec F S128x256 .f32
  | 0 => (s.pop 0 0 320 fits_0_320).read 0 80 fits_80_128
  | 1 => (((s.pop 0 0 320 fits_0_320).pop 0 80 128 fits_80_128).pop 1 0 320 fits_0_320).read 1 80 fits_80_128

/-- The fifty-six stores of the body, last first. -/
def pieces (w : Fin 2 → FVec F S320x256 .f32) (p : Fin 2 → FVec F S128x256 .f32) : List (View.Piece (Elt F) S1x2x28x256 .f32) :=
  [⟨Rect.unit (s := S1x2x28x256) ![0, 1, 27, 0] S1x1x1x256.size inb_S1x2x28x256_S1x1x1x256_0_1_27_0, diagRow (extractStridedSlice S16x256 ![112, 0] (p 1) slices_S128x256_o112_0_S16x256)⟩,
   ⟨Rect.unit (s := S1x2x28x256) ![0, 1, 26, 0] S1x1x1x256.size inb_S1x2x28x256_S1x1x1x256_0_1_26_0, diagRow (extractStridedSlice S16x256 ![96, 0] (p 1) slices_S128x256_o96_0_S16x256)⟩,
   ⟨Rect.unit (s := S1x2x28x256) ![0, 1, 25, 0] S1x1x1x256.size inb_S1x2x28x256_S1x1x1x256_0_1_25_0, diagRow (extractStridedSlice S16x256 ![80, 0] (p 1) slices_S128x256_o80_0_S16x256)⟩,
   ⟨Rect.unit (s := S1x2x28x256) ![0, 1, 24, 0] S1x1x1x256.size inb_S1x2x28x256_S1x1x1x256_0_1_24_0, diagRow (extractStridedSlice S16x256 ![64, 0] (p 1) slices_S128x256_o64_0_S16x256)⟩,
   ⟨Rect.unit (s := S1x2x28x256) ![0, 1, 23, 0] S1x1x1x256.size inb_S1x2x28x256_S1x1x1x256_0_1_23_0, diagRow (extractStridedSlice S16x256 ![48, 0] (p 1) slices_S128x256_o48_0_S16x256)⟩,
   ⟨Rect.unit (s := S1x2x28x256) ![0, 1, 22, 0] S1x1x1x256.size inb_S1x2x28x256_S1x1x1x256_0_1_22_0, diagRow (extractStridedSlice S16x256 ![32, 0] (p 1) slices_S128x256_o32_0_S16x256)⟩,
   ⟨Rect.unit (s := S1x2x28x256) ![0, 1, 21, 0] S1x1x1x256.size inb_S1x2x28x256_S1x1x1x256_0_1_21_0, diagRow (extractStridedSlice S16x256 ![16, 0] (p 1) slices_S128x256_o16_0_S16x256)⟩,
   ⟨Rect.unit (s := S1x2x28x256) ![0, 1, 20, 0] S1x1x1x256.size inb_S1x2x28x256_S1x1x1x256_0_1_20_0, diagRow (extractStridedSlice S16x256 ![0, 0] (p 1) slices_S128x256_o0_0_S16x256)⟩,
   ⟨Rect.unit (s := S1x2x28x256) ![0, 1, 19, 0] S1x1x1x256.size inb_S1x2x28x256_S1x1x1x256_0_1_19_0, diagRow (extractStridedSlice S16x256 ![304, 0] (w 1) slices_S320x256_o304_0_S16x256)⟩,
   ⟨Rect.unit (s := S1x2x28x256) ![0, 1, 18, 0] S1x1x1x256.size inb_S1x2x28x256_S1x1x1x256_0_1_18_0, diagRow (extractStridedSlice S16x256 ![288, 0] (w 1) slices_S320x256_o288_0_S16x256)⟩,
   ⟨Rect.unit (s := S1x2x28x256) ![0, 1, 17, 0] S1x1x1x256.size inb_S1x2x28x256_S1x1x1x256_0_1_17_0, diagRow (extractStridedSlice S16x256 ![272, 0] (w 1) slices_S320x256_o272_0_S16x256)⟩,
   ⟨Rect.unit (s := S1x2x28x256) ![0, 1, 16, 0] S1x1x1x256.size inb_S1x2x28x256_S1x1x1x256_0_1_16_0, diagRow (extractStridedSlice S16x256 ![256, 0] (w 1) slices_S320x256_o256_0_S16x256)⟩,
   ⟨Rect.unit (s := S1x2x28x256) ![0, 1, 15, 0] S1x1x1x256.size inb_S1x2x28x256_S1x1x1x256_0_1_15_0, diagRow (extractStridedSlice S16x256 ![240, 0] (w 1) slices_S320x256_o240_0_S16x256)⟩,
   ⟨Rect.unit (s := S1x2x28x256) ![0, 1, 14, 0] S1x1x1x256.size inb_S1x2x28x256_S1x1x1x256_0_1_14_0, diagRow (extractStridedSlice S16x256 ![224, 0] (w 1) slices_S320x256_o224_0_S16x256)⟩,
   ⟨Rect.unit (s := S1x2x28x256) ![0, 1, 13, 0] S1x1x1x256.size inb_S1x2x28x256_S1x1x1x256_0_1_13_0, diagRow (extractStridedSlice S16x256 ![208, 0] (w 1) slices_S320x256_o208_0_S16x256)⟩,
   ⟨Rect.unit (s := S1x2x28x256) ![0, 1, 12, 0] S1x1x1x256.size inb_S1x2x28x256_S1x1x1x256_0_1_12_0, diagRow (extractStridedSlice S16x256 ![192, 0] (w 1) slices_S320x256_o192_0_S16x256)⟩,
   ⟨Rect.unit (s := S1x2x28x256) ![0, 1, 11, 0] S1x1x1x256.size inb_S1x2x28x256_S1x1x1x256_0_1_11_0, diagRow (extractStridedSlice S16x256 ![176, 0] (w 1) slices_S320x256_o176_0_S16x256)⟩,
   ⟨Rect.unit (s := S1x2x28x256) ![0, 1, 10, 0] S1x1x1x256.size inb_S1x2x28x256_S1x1x1x256_0_1_10_0, diagRow (extractStridedSlice S16x256 ![160, 0] (w 1) slices_S320x256_o160_0_S16x256)⟩,
   ⟨Rect.unit (s := S1x2x28x256) ![0, 1, 9, 0] S1x1x1x256.size inb_S1x2x28x256_S1x1x1x256_0_1_9_0, diagRow (extractStridedSlice S16x256 ![144, 0] (w 1) slices_S320x256_o144_0_S16x256)⟩,
   ⟨Rect.unit (s := S1x2x28x256) ![0, 1, 8, 0] S1x1x1x256.size inb_S1x2x28x256_S1x1x1x256_0_1_8_0, diagRow (extractStridedSlice S16x256 ![128, 0] (w 1) slices_S320x256_o128_0_S16x256)⟩,
   ⟨Rect.unit (s := S1x2x28x256) ![0, 1, 7, 0] S1x1x1x256.size inb_S1x2x28x256_S1x1x1x256_0_1_7_0, diagRow (extractStridedSlice S16x256 ![112, 0] (w 1) slices_S320x256_o112_0_S16x256)⟩,
   ⟨Rect.unit (s := S1x2x28x256) ![0, 1, 6, 0] S1x1x1x256.size inb_S1x2x28x256_S1x1x1x256_0_1_6_0, diagRow (extractStridedSlice S16x256 ![96, 0] (w 1) slices_S320x256_o96_0_S16x256)⟩,
   ⟨Rect.unit (s := S1x2x28x256) ![0, 1, 5, 0] S1x1x1x256.size inb_S1x2x28x256_S1x1x1x256_0_1_5_0, diagRow (extractStridedSlice S16x256 ![80, 0] (w 1) slices_S320x256_o80_0_S16x256)⟩,
   ⟨Rect.unit (s := S1x2x28x256) ![0, 1, 4, 0] S1x1x1x256.size inb_S1x2x28x256_S1x1x1x256_0_1_4_0, diagRow (extractStridedSlice S16x256 ![64, 0] (w 1) slices_S320x256_o64_0_S16x256)⟩,
   ⟨Rect.unit (s := S1x2x28x256) ![0, 1, 3, 0] S1x1x1x256.size inb_S1x2x28x256_S1x1x1x256_0_1_3_0, diagRow (extractStridedSlice S16x256 ![48, 0] (w 1) slices_S320x256_o48_0_S16x256)⟩,
   ⟨Rect.unit (s := S1x2x28x256) ![0, 1, 2, 0] S1x1x1x256.size inb_S1x2x28x256_S1x1x1x256_0_1_2_0, diagRow (extractStridedSlice S16x256 ![32, 0] (w 1) slices_S320x256_o32_0_S16x256)⟩,
   ⟨Rect.unit (s := S1x2x28x256) ![0, 1, 1, 0] S1x1x1x256.size inb_S1x2x28x256_S1x1x1x256_0_1_1_0, diagRow (extractStridedSlice S16x256 ![16, 0] (w 1) slices_S320x256_o16_0_S16x256)⟩,
   ⟨Rect.unit (s := S1x2x28x256) ![0, 1, 0, 0] S1x1x1x256.size inb_S1x2x28x256_S1x1x1x256_0_1_0_0, diagRow (extractStridedSlice S16x256 ![0, 0] (w 1) slices_S320x256_o0_0_S16x256)⟩,
   ⟨Rect.unit (s := S1x2x28x256) ![0, 0, 27, 0] S1x1x1x256.size inb_S1x2x28x256_S1x1x1x256_0_0_27_0, diagRow (extractStridedSlice S16x256 ![112, 0] (p 0) slices_S128x256_o112_0_S16x256)⟩,
   ⟨Rect.unit (s := S1x2x28x256) ![0, 0, 26, 0] S1x1x1x256.size inb_S1x2x28x256_S1x1x1x256_0_0_26_0, diagRow (extractStridedSlice S16x256 ![96, 0] (p 0) slices_S128x256_o96_0_S16x256)⟩,
   ⟨Rect.unit (s := S1x2x28x256) ![0, 0, 25, 0] S1x1x1x256.size inb_S1x2x28x256_S1x1x1x256_0_0_25_0, diagRow (extractStridedSlice S16x256 ![80, 0] (p 0) slices_S128x256_o80_0_S16x256)⟩,
   ⟨Rect.unit (s := S1x2x28x256) ![0, 0, 24, 0] S1x1x1x256.size inb_S1x2x28x256_S1x1x1x256_0_0_24_0, diagRow (extractStridedSlice S16x256 ![64, 0] (p 0) slices_S128x256_o64_0_S16x256)⟩,
   ⟨Rect.unit (s := S1x2x28x256) ![0, 0, 23, 0] S1x1x1x256.size inb_S1x2x28x256_S1x1x1x256_0_0_23_0, diagRow (extractStridedSlice S16x256 ![48, 0] (p 0) slices_S128x256_o48_0_S16x256)⟩,
   ⟨Rect.unit (s := S1x2x28x256) ![0, 0, 22, 0] S1x1x1x256.size inb_S1x2x28x256_S1x1x1x256_0_0_22_0, diagRow (extractStridedSlice S16x256 ![32, 0] (p 0) slices_S128x256_o32_0_S16x256)⟩,
   ⟨Rect.unit (s := S1x2x28x256) ![0, 0, 21, 0] S1x1x1x256.size inb_S1x2x28x256_S1x1x1x256_0_0_21_0, diagRow (extractStridedSlice S16x256 ![16, 0] (p 0) slices_S128x256_o16_0_S16x256)⟩,
   ⟨Rect.unit (s := S1x2x28x256) ![0, 0, 20, 0] S1x1x1x256.size inb_S1x2x28x256_S1x1x1x256_0_0_20_0, diagRow (extractStridedSlice S16x256 ![0, 0] (p 0) slices_S128x256_o0_0_S16x256)⟩,
   ⟨Rect.unit (s := S1x2x28x256) ![0, 0, 19, 0] S1x1x1x256.size inb_S1x2x28x256_S1x1x1x256_0_0_19_0, diagRow (extractStridedSlice S16x256 ![304, 0] (w 0) slices_S320x256_o304_0_S16x256)⟩,
   ⟨Rect.unit (s := S1x2x28x256) ![0, 0, 18, 0] S1x1x1x256.size inb_S1x2x28x256_S1x1x1x256_0_0_18_0, diagRow (extractStridedSlice S16x256 ![288, 0] (w 0) slices_S320x256_o288_0_S16x256)⟩,
   ⟨Rect.unit (s := S1x2x28x256) ![0, 0, 17, 0] S1x1x1x256.size inb_S1x2x28x256_S1x1x1x256_0_0_17_0, diagRow (extractStridedSlice S16x256 ![272, 0] (w 0) slices_S320x256_o272_0_S16x256)⟩,
   ⟨Rect.unit (s := S1x2x28x256) ![0, 0, 16, 0] S1x1x1x256.size inb_S1x2x28x256_S1x1x1x256_0_0_16_0, diagRow (extractStridedSlice S16x256 ![256, 0] (w 0) slices_S320x256_o256_0_S16x256)⟩,
   ⟨Rect.unit (s := S1x2x28x256) ![0, 0, 15, 0] S1x1x1x256.size inb_S1x2x28x256_S1x1x1x256_0_0_15_0, diagRow (extractStridedSlice S16x256 ![240, 0] (w 0) slices_S320x256_o240_0_S16x256)⟩,
   ⟨Rect.unit (s := S1x2x28x256) ![0, 0, 14, 0] S1x1x1x256.size inb_S1x2x28x256_S1x1x1x256_0_0_14_0, diagRow (extractStridedSlice S16x256 ![224, 0] (w 0) slices_S320x256_o224_0_S16x256)⟩,
   ⟨Rect.unit (s := S1x2x28x256) ![0, 0, 13, 0] S1x1x1x256.size inb_S1x2x28x256_S1x1x1x256_0_0_13_0, diagRow (extractStridedSlice S16x256 ![208, 0] (w 0) slices_S320x256_o208_0_S16x256)⟩,
   ⟨Rect.unit (s := S1x2x28x256) ![0, 0, 12, 0] S1x1x1x256.size inb_S1x2x28x256_S1x1x1x256_0_0_12_0, diagRow (extractStridedSlice S16x256 ![192, 0] (w 0) slices_S320x256_o192_0_S16x256)⟩,
   ⟨Rect.unit (s := S1x2x28x256) ![0, 0, 11, 0] S1x1x1x256.size inb_S1x2x28x256_S1x1x1x256_0_0_11_0, diagRow (extractStridedSlice S16x256 ![176, 0] (w 0) slices_S320x256_o176_0_S16x256)⟩,
   ⟨Rect.unit (s := S1x2x28x256) ![0, 0, 10, 0] S1x1x1x256.size inb_S1x2x28x256_S1x1x1x256_0_0_10_0, diagRow (extractStridedSlice S16x256 ![160, 0] (w 0) slices_S320x256_o160_0_S16x256)⟩,
   ⟨Rect.unit (s := S1x2x28x256) ![0, 0, 9, 0] S1x1x1x256.size inb_S1x2x28x256_S1x1x1x256_0_0_9_0, diagRow (extractStridedSlice S16x256 ![144, 0] (w 0) slices_S320x256_o144_0_S16x256)⟩,
   ⟨Rect.unit (s := S1x2x28x256) ![0, 0, 8, 0] S1x1x1x256.size inb_S1x2x28x256_S1x1x1x256_0_0_8_0, diagRow (extractStridedSlice S16x256 ![128, 0] (w 0) slices_S320x256_o128_0_S16x256)⟩,
   ⟨Rect.unit (s := S1x2x28x256) ![0, 0, 7, 0] S1x1x1x256.size inb_S1x2x28x256_S1x1x1x256_0_0_7_0, diagRow (extractStridedSlice S16x256 ![112, 0] (w 0) slices_S320x256_o112_0_S16x256)⟩,
   ⟨Rect.unit (s := S1x2x28x256) ![0, 0, 6, 0] S1x1x1x256.size inb_S1x2x28x256_S1x1x1x256_0_0_6_0, diagRow (extractStridedSlice S16x256 ![96, 0] (w 0) slices_S320x256_o96_0_S16x256)⟩,
   ⟨Rect.unit (s := S1x2x28x256) ![0, 0, 5, 0] S1x1x1x256.size inb_S1x2x28x256_S1x1x1x256_0_0_5_0, diagRow (extractStridedSlice S16x256 ![80, 0] (w 0) slices_S320x256_o80_0_S16x256)⟩,
   ⟨Rect.unit (s := S1x2x28x256) ![0, 0, 4, 0] S1x1x1x256.size inb_S1x2x28x256_S1x1x1x256_0_0_4_0, diagRow (extractStridedSlice S16x256 ![64, 0] (w 0) slices_S320x256_o64_0_S16x256)⟩,
   ⟨Rect.unit (s := S1x2x28x256) ![0, 0, 3, 0] S1x1x1x256.size inb_S1x2x28x256_S1x1x1x256_0_0_3_0, diagRow (extractStridedSlice S16x256 ![48, 0] (w 0) slices_S320x256_o48_0_S16x256)⟩,
   ⟨Rect.unit (s := S1x2x28x256) ![0, 0, 2, 0] S1x1x1x256.size inb_S1x2x28x256_S1x1x1x256_0_0_2_0, diagRow (extractStridedSlice S16x256 ![32, 0] (w 0) slices_S320x256_o32_0_S16x256)⟩,
   ⟨Rect.unit (s := S1x2x28x256) ![0, 0, 1, 0] S1x1x1x256.size inb_S1x2x28x256_S1x1x1x256_0_0_1_0, diagRow (extractStridedSlice S16x256 ![16, 0] (w 0) slices_S320x256_o16_0_S16x256)⟩,
   ⟨Rect.unit (s := S1x2x28x256) ![0, 0, 0, 0] S1x1x1x256.size inb_S1x2x28x256_S1x1x1x256_0_0_0_0, diagRow (extractStridedSlice S16x256 ![0, 0] (w 0) slices_S320x256_o0_0_S16x256)⟩]

/-- The output window's buffer after the body. -/
def covOut (x1 x2 : Vec F S2x7x16x16384 .fp8e4m3) (x3 x4 : Vec F S2x16x16384 .i8) (x5 : Vec F S2x7x16384 .f32) : Vec F S1x2x28x256 .f32 :=
  View.canon (pieces (wide (stateTo x1 x2 x3 x4 x5 k0_t1_loop.trips)) (prods (stateTo x1 x2 x3 x4 x5 k0_t1_loop.trips)))

/-- The stores tile the buffer. -/
theorem cover (w : Fin 2 → FVec F S320x256 .f32) (p : Fin 2 → FVec F S128x256 .f32) (y : S1x2x28x256.Idx) :
    ∃ pc ∈ pieces w p, y ∈ pc.1.set :=
  View.cover_of_tiled (pieces w p) S1x1x1x256.size (by rfl) y

/-- Before trip `k`: the unit at `stateTo k`, the five inputs held. -/
def inv (c : Dev nD) (arg1 : Memref sig .tc .vmem S2x7x16x16384 .fp8e4m3) (harg1 : arg1.IsWhole) (arg2 : Memref sig .tc .vmem S2x7x16x16384 .fp8e4m3) (harg2 : arg2.IsWhole) (arg3 : Memref sig .tc .vmem S2x16x16384 .i8) (harg3 : arg3.IsWhole) (arg4 : Memref sig .tc .vmem S2x16x16384 .i8) (harg4 : arg4.IsWhole) (arg5 : Memref sig .tc .vmem S2x7x16384 .f32) (harg5 : arg5.IsWhole) (arg6 : Memref sig .tc .vmem S1x2x28x256 .f32) (harg6 : arg6.IsWhole)
    (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (k : ℕ) (s : Mxu F) : sProp 𝕄 :=
  iprop(⌜s = stateTo (arg1.view.read (Elt F) f1) (arg2.view.read (Elt F) f2) (arg3.view.read (Elt F) f3) (arg4.view.read (Elt F) f4) (arg5.view.read (Elt F) f5) k⌝ ∗ (arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5))

set_option maxHeartbeats 8000000 in
theorem cov_trip (c : Dev nD) (i : grid0.Coords) (arg1 : Memref sig .tc .vmem S2x7x16x16384 .fp8e4m3) (harg1 : arg1.IsWhole) (arg2 : Memref sig .tc .vmem S2x7x16x16384 .fp8e4m3) (harg2 : arg2.IsWhole) (arg3 : Memref sig .tc .vmem S2x16x16384 .i8) (harg3 : arg3.IsWhole) (arg4 : Memref sig .tc .vmem S2x16x16384 .i8) (harg4 : arg4.IsWhole) (arg5 : Memref sig .tc .vmem S2x7x16384 .f32) (harg5 : arg5.IsWhole) (arg6 : Memref sig .tc .vmem S1x2x28x256 .f32) (harg6 : arg6.IsWhole)
    (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (k : Fin k0_t1_loop.trips) (s : Mxu F) :
    inv c arg1 harg1 arg2 harg2 arg3 harg3 arg4 harg4 arg5 harg5 arg6 harg6 f1 f2 f3 f4 f5 k s
      ⊢ wp frame (wpE (defs₀ (F := F)) Variants.none (c : Thread nD τ) none) Set.univ (k0_t1_body (F := F) i arg1 harg1 arg2 harg2 arg3 harg3 arg4 harg4 arg5 harg5 arg6 harg6 k s)
          (fun s' => inv c arg1 harg1 arg2 harg2 arg3 harg3 arg4 harg4 arg5 harg5 arg6 harg6 f1 f2 f3 f4 f5 (k + 1) s') := by
  unfold inv
  iintro ⟨%hs, H1, H2, H3, H4, H5⟩
  have hr := reg_stateTo (arg1.view.read (Elt F) f1) (arg2.view.read (Elt F) f2) (arg3.view.read (Elt F) f3) (arg4.view.read (Elt F) f4) (arg5.view.read (Elt F) f5) k
  rw [← hs] at hr
  have hst : stateTo (arg1.view.read (Elt F) f1) (arg2.view.read (Elt F) f2) (arg3.view.read (Elt F) f3) (arg4.view.read (Elt F) f4) (arg5.view.read (Elt F) f5) (k + 1) = trip (arg1.view.read (Elt F) f1) (arg2.view.read (Elt F) f2) (arg3.view.read (Elt F) f3) (arg4.view.read (Elt F) f4) (arg5.view.read (Elt F) f5) k s := by
    rw [hs, stateTo, dif_pos k.isLt]
  rw [hst]
  clear hst hs
  obtain ⟨reg, gmr, acc, live, clean⟩ := s
  obtain rfl : reg = fun _ _ => none := funext fun q => funext fun r => hr q r
  unfold k0_t1_body
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
  sl_exec (disch := exact pushOk_of_none _ _ _ _ rfl)
  sl_step
  isplitr; · ipureintro; rfl
  isplitl [H1]; · iexact H1
  isplitl [H2]; · iexact H2
  isplitl [H3]; · iexact H3
  isplitl [H4]; · iexact H4
  iexact H5

end Cert.Kernel.Cov

end
-- ==== Proof.CovRunKernel.lean ====
/-
  The covariance call's body as one triple: `cov_sound` runs the loop by its invariant (`cov_trip`), then the pops and the stores.
-/
module

public import proofs.«01_k».proof.Proof.CovKernel
public import Idealize.ShloMosaic.Lib.Mxu.Lemmas
public import Idealize.ShloMosaic.Lib.Pipeline.FrameBody
public import Idealize.ShloMosaic.Lib.Tactic

@[expose] public section

set_option maxRecDepth 16384

noncomputable section

namespace Cert.Kernel.Cov

open Cert.Kernel Cert.Kernel.Gen
open Idealize.ShloMosaic Idealize.ShloMosaic.TcCoe Idealize.ShloMosaic.Tactic Idealize.ShloMosaic.Mxu
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body on whole staging buffers: the inputs as they were, the output at `covOut` of them. -/
theorem cov_sound (c : Dev nD) (i : grid0.Coords) (arg1 : Memref sig .tc .vmem S2x7x16x16384 .fp8e4m3) (harg1 : arg1.IsWhole) (arg2 : Memref sig .tc .vmem S2x7x16x16384 .fp8e4m3) (harg2 : arg2.IsWhole) (arg3 : Memref sig .tc .vmem S2x16x16384 .i8) (harg3 : arg3.IsWhole) (arg4 : Memref sig .tc .vmem S2x16x16384 .i8) (harg4 : arg4.IsWhole) (arg5 : Memref sig .tc .vmem S2x7x16384 .f32) (harg5 : arg5.IsWhole) (arg6 : Memref sig .tc .vmem S1x2x28x256 .f32) (harg6 : arg6.IsWhole)
    (x1 x2 : Vec F S2x7x16x16384 .fp8e4m3) (x3 x4 : Vec F S2x16x16384 .i8) (x5 : Vec F S2x7x16384 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (covOut x1 x2 x3 x4 x5)) -∗ K ⟨⟩))
      ⊢ wp frame (wpE (defs₀ (F := F)) Variants.none (c : Thread nD τ) none) Set.univ (cc0_mvdr_cov i arg1 harg1 arg2 harg2 arg3 harg3 arg4 harg4 arg5 harg5 arg6 harg6) K := by
  simp only [cc0_mvdr_cov_eq_skeleton]; unfold cc0_mvdr_cov_skel
  simp only [k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_for (inv c arg1 harg1 arg2 harg2 arg3 harg3 arg4 harg4 arg5 harg5 arg6 harg6 f1 f2 f3 f4 f5) $$ [H1 H2 H3 H4 H5]
  case region =>
    intro k s
    exact cov_trip c i arg1 harg1 arg2 harg2 arg3 harg3 arg4 harg4 arg5 harg5 arg6 harg6 f1 f2 f3 f4 f5 k s
  · unfold inv; isplitr; · ipureintro; rw [stateTo, start]; rfl
    isplitl [H1]; · iexact H1
    isplitl [H2]; · iexact H2
    isplitl [H3]; · iexact H3
    isplitl [H4]; · iexact H4
    iexact H5
  iintro %s HI
  unfold inv; icases HI with ⟨%hs, H1, H2, H3, H4, H5⟩
  have hex : ((((s.pop 0 0 320 fits_0_320).pop 0 80 128 fits_80_128).pop 1 0 320 fits_0_320).pop 1 80 128 fits_80_128).Drained := by
    rw [hs]; exact drained_stateTo (arg1.view.read (Elt F) f1) (arg2.view.read (Elt F) f2) (arg3.view.read (Elt F) f3) (arg4.view.read (Elt F) f4) (arg5.view.read (Elt F) f5) _
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  unfold covOut
  rw [show k0_t1_loop.trips = (k0_t1_loop.trips : ℕ) from rfl, ← hs]
  exact View.read_writes_eq_canon _ _ _ (cover (wide s) (prods s))

end Cert.Kernel.Cov

end
-- ==== Proof.SolveKernel.lean ====
/-
  The solve call (`mvdr_solve`) of one program: its body on any whole staging buffers.

  The covariance matrices it stores are given entry by entry (`phiRe`, `phiIm`): each is two rows of the first call's array,
  added or subtracted and scaled by 1/255. The weights it stores besides are some array `W`, fixed by the two inputs.
-/
module

public import proofs.«01_k».proof.Proof.Gen.Kernel.Loops
public import proofs.«01_k».proof.Proof.Gen.Kernel.Launch
public import Idealize.ShloMosaic.Lib.Pipeline.FrameBody
public import Idealize.ShloMosaic.Lib.Tactic

@[expose] public section

set_option maxRecDepth 16384

noncomputable section

namespace Cert.Kernel.Solve

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

theorem inb_row (r k : ℕ) (hr : r < 28) (hk : k < 16) (a) : (![r, k, 0, 0] : Fin 4 → ℕ) a + S1x1x2x528.size a ≤ S28x16x2x528.size a := by
  fin_cases a <;> simp [S1x1x2x528, S28x16x2x528] <;> omega

/-- Row `r`, lane `k` of the first call's array: one number per batch and frequency. -/
def row (x : Vec F S28x16x2x528 .f32) (r k : ℕ) (hr : r < 28) (hk : k < 16) : Vec F S1x1x2x528 .f32 :=
  View.ld x (Rect.unit (s := S28x16x2x528) ![r, k, 0, 0] S1x1x2x528.size (inb_row r k hr hk))

/-- Where entry `(c, d)`, `c ≤ d`, of mask `m`'s matrix lies: the two rows of its real part and their lanes. -/
def reAt (m : Fin 2) (c d : Fin 7) : (ℕ × ℕ) × (ℕ × ℕ) :=
  if c.val < 5 then ((10 * m.val + 2 * c.val, 2 * d.val), (10 * m.val + 2 * c.val + 1, 2 * d.val + 1))
  else if c.val = d.val then ((20 + 2 * (c.val - 5), 14 + m.val), (20 + 2 * (c.val - 5) + 1, 14 + m.val))
  else ((24, 14 + m.val), (25, 14 + m.val))

/-- The same of its imaginary part. -/
def imAt (m : Fin 2) (c d : Fin 7) : (ℕ × ℕ) × (ℕ × ℕ) :=
  if c.val < 5 then ((10 * m.val + 2 * c.val + 1, 2 * d.val), (10 * m.val + 2 * c.val, 2 * d.val + 1))
  else ((26, 14 + m.val), (27, 14 + m.val))

theorem reAt_lt : ∀ (m : Fin 2) (c d : Fin 7), (reAt m c d).1.1 < 28 ∧ (reAt m c d).1.2 < 16 ∧ (reAt m c d).2.1 < 28 ∧ (reAt m c d).2.2 < 16 := by
  decide

theorem imAt_lt : ∀ (m : Fin 2) (c d : Fin 7), (imAt m c d).1.1 < 28 ∧ (imAt m c d).1.2 < 16 ∧ (imAt m c d).2.1 < 28 ∧ (imAt m c d).2.2 < 16 := by
  decide

/-- The real part of an entry on or above the diagonal. -/
def reUp (x : Vec F S28x16x2x528 .f32) (m : Fin 2) (c d : Fin 7) : FVec F S2x528 .f32 :=
  k1_pay2 (row x _ _ (reAt_lt m c d).1 (reAt_lt m c d).2.1) (row x _ _ (reAt_lt m c d).2.2.1 (reAt_lt m c d).2.2.2)

/-- The imaginary part of an entry on or above the diagonal: nought on the last two diagonal entries. -/
def imUp (x : Vec F S28x16x2x528 .f32) (m : Fin 2) (c d : Fin 7) : FVec F S2x528 .f32 :=
  if 5 ≤ c.val ∧ c.val = d.val then k1_pay64 (F := F)
  else k1_pay3 (row x _ _ (imAt_lt m c d).1 (imAt_lt m c d).2.1) (row x _ _ (imAt_lt m c d).2.2.1 (imAt_lt m c d).2.2.2)

/-- The real part of entry `(c, d)`: below the diagonal that of `(d, c)`. -/
def phiRe (x : Vec F S28x16x2x528 .f32) (m : Fin 2) (c d : Fin 7) : FVec F S2x528 .f32 :=
  if c.val ≤ d.val then reUp x m c d else reUp x m d c

/-- The imaginary part of entry `(c, d)`: below the diagonal that of `(d, c)` negated. -/
def phiIm (x : Vec F S28x16x2x528 .f32) (m : Fin 2) (c d : Fin 7) : FVec F S2x528 .f32 :=
  if c.val ≤ d.val then imUp x m c d else k1_pay175 (imUp x m d c) (Scalar.ofBits .f32 0x00000000#32)

/-- The entries in the order of their stores, last first. -/
def order : List (Fin 7 × Fin 7) :=
  [(6, 6), (6, 5), (6, 4), (6, 3), (6, 2), (6, 1), (6, 0), (5, 6), (5, 5), (5, 4), (5, 3), (5, 2), (5, 1), (5, 0), (4, 6), (4, 5), (4, 4), (4, 3), (4, 2), (4, 1), (4, 0), (3, 6), (3, 5), (3, 4), (3, 3), (3, 2), (3, 1), (3, 0), (2, 6), (2, 5), (2, 4), (2, 3), (2, 2), (2, 1), (2, 0), (1, 6), (1, 5), (1, 4), (1, 3), (1, 2), (1, 1), (1, 0), (0, 6), (0, 5), (0, 4), (0, 3), (0, 2), (0, 1), (0, 0)]

theorem inb_entry (p : Fin 7 × Fin 7) (a) : (![p.1.val, p.2.val, 0, 0] : Fin 4 → ℕ) a + S1x1x2x513.size a ≤ S7x7x2x513.size a := by
  have := p.1.isLt; have := p.2.isLt
  fin_cases a <;> simp [S1x1x2x513, S7x7x2x513] <;> omega

/-- One store of a matrix: the first 513 frequencies of one entry. -/
def piece (e : Fin 7 → Fin 7 → FVec F S2x528 .f32) (p : Fin 7 × Fin 7) : View.Piece (Elt F) S7x7x2x513 .f32 :=
  ⟨Rect.unit (s := S7x7x2x513) ![p.1.val, p.2.val, 0, 0] S1x1x2x513.size (inb_entry p), k1_pay176 (e p.1 p.2)⟩

/-- A matrix's stores, last first. -/
def pieces (e : Fin 7 → Fin 7 → FVec F S2x528 .f32) : List (View.Piece (Elt F) S7x7x2x513 .f32) := order.map (piece e)

/-- The stores tile the buffer. -/
theorem cover (e : Fin 7 → Fin 7 → FVec F S2x528 .f32) (y : S7x7x2x513.Idx) : ∃ pc ∈ pieces e, y ∈ pc.1.set :=
  View.cover_of_tiled (pieces e) S1x1x2x513.size (by rfl) y

/-- A matrix's buffer after the body. -/
def matOut (e : Fin 7 → Fin 7 → FVec F S2x528 .f32) : Vec F S7x7x2x513 .f32 := View.canon (pieces e)

set_option maxHeartbeats 20000000 in
/-- The body on whole staging buffers: the two inputs as they were, the weights at some `W` the inputs fix, the four matrices
    at `phiRe` and `phiIm` of the first input. -/
theorem solve_sound (c : Dev nD) (arg0 : Memref sig .tc .vmem S28x16x2x528 .f32) (harg0 : arg0.IsWhole) (arg1 : Memref sig .tc .vmem S2x1 .i32) (harg1 : arg1.IsWhole) (arg2 : Memref sig .tc .vmem S14x2x528 .f32) (harg2 : arg2.IsWhole) (arg3 : Memref sig .tc .vmem S7x7x2x513 .f32) (harg3 : arg3.IsWhole) (arg4 : Memref sig .tc .vmem S7x7x2x513 .f32) (harg4 : arg4.IsWhole) (arg5 : Memref sig .tc .vmem S7x7x2x513 .f32) (harg5 : arg5.IsWhole) (arg6 : Memref sig .tc .vmem S7x7x2x513 .f32) (harg6 : arg6.IsWhole)
    (f0 : Buf (Elt F) (arg0.view.loc (c : Thread nD τ))) (f1 : Buf (Elt F) (arg1.view.loc (c : Thread nD τ))) :
    ∃ W : Vec F S14x2x528 .f32, ∀ K : PUnit → sProp 𝕄,
    iprop((arg0.view.loc (c : Thread nD τ) ↦[arg0.view.set]{fullShare} f0) ∗ (arg1.view.loc (c : Thread nD τ) ↦[arg1.view.set]{fullShare} f1) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
        ∗ (iprop((arg0.view.loc (c : Thread nD τ) ↦[arg0.view.set]{fullShare} f0) ∗ (arg1.view.loc (c : Thread nD τ) ↦[arg1.view.set]{fullShare} f1) ∗ owns (c : Thread nD τ) arg2 fullShare W
            ∗ owns (c : Thread nD τ) arg3 fullShare (matOut (phiRe (arg0.view.read (Elt F) f0) 0)) ∗ owns (c : Thread nD τ) arg4 fullShare (matOut (phiIm (arg0.view.read (Elt F) f0) 0))
            ∗ owns (c : Thread nD τ) arg5 fullShare (matOut (phiRe (arg0.view.read (Elt F) f0) 1)) ∗ owns (c : Thread nD τ) arg6 fullShare (matOut (phiIm (arg0.view.read (Elt F) f0) 1))) -∗ K ⟨⟩))
      ⊢ wp frame (wpE (defs₀ (F := F)) Variants.none (c : Thread nD τ) none) Set.univ (cc1_mvdr_solve arg0 harg0 arg1 harg1 arg2 harg2 arg3 harg3 arg4 harg4 arg5 harg5 arg6 harg6) K := by
  apply Exists.intro
  intro K
  simp only [cc1_mvdr_solve_eq_skeleton]; unfold cc1_mvdr_solve_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton, k1_part59_eq_skeleton, k1_part60_eq_skeleton, k1_part61_eq_skeleton, k1_part62_eq_skeleton, k1_part63_eq_skeleton, k1_part64_eq_skeleton, k1_part65_eq_skeleton, k1_part66_eq_skeleton, k1_part67_eq_skeleton, k1_part68_eq_skeleton, k1_part69_eq_skeleton, k1_part70_eq_skeleton, k1_part71_eq_skeleton, k1_part72_eq_skeleton, k1_part73_eq_skeleton, k1_part74_eq_skeleton, k1_part75_eq_skeleton, k1_part76_eq_skeleton, k1_part77_eq_skeleton, k1_part78_eq_skeleton, k1_part79_eq_skeleton, k1_part80_eq_skeleton, k1_part81_eq_skeleton, k1_part82_eq_skeleton, k1_part83_eq_skeleton, k1_part84_eq_skeleton, k1_part85_eq_skeleton, k1_part86_eq_skeleton, k1_part87_eq_skeleton, k1_part88_eq_skeleton, k1_part89_eq_skeleton]
  unfold owns
  iintro ⟨H0, H1, ⟨%d2, %f2, -, H2⟩, ⟨%d3, %f3, -, H3⟩, ⟨%d4, %f4, -, H4⟩, ⟨%d5, %f5, -, H5⟩, ⟨%d6, %f6, -, H6⟩, Hk⟩
  sl_exec
  sl_step
  iapply Hk
  isplitl [H0]; · iexact H0
  isplitl [H1]; · iexact H1
  isplitl [H2]
  · iexists _; isplitr
    swap; · iexact H2
    ipureintro
    refine View.read_writes_eq_canon _ _ _ fun y => ?_
    exact View.cover_of_tiled (s := S14x2x528) _ S1x2x528.size (by rfl) y
  isplitl [H3]
  · iexists _; isplitr
    swap; · iexact H3
    ipureintro
    exact View.read_writes_eq_canon _ _ _ (cover (phiRe (arg0.view.read (Elt F) f0) 0))
  isplitl [H4]
  · iexists _; isplitr
    swap; · iexact H4
    ipureintro
    exact View.read_writes_eq_canon _ _ _ (cover (phiIm (arg0.view.read (Elt F) f0) 0))
  isplitl [H5]
  · iexists _; isplitr
    swap; · iexact H5
    ipureintro
    exact View.read_writes_eq_canon _ _ _ (cover (phiRe (arg0.view.read (Elt F) f0) 1))
  iexists _; isplitr
  swap; · iexact H6
  ipureintro
  exact View.read_writes_eq_canon _ _ _ (cover (phiIm (arg0.view.read (Elt F) f0) 1))

end Cert.Kernel.Solve

end
-- ==== Proof.RunKernel.lean ====
/-
  The whole run of one program: the two calls' proof data, their segments, and @main run over them. The final state holds
  every unscoped buffer at the valuation `V5`, computed from the launch memory (`run_main`).
-/
module

public import proofs.«01_k».proof.Proof.CovRunKernel
public import proofs.«01_k».proof.Proof.SolveKernel
public import proofs.«01_k».proof.Proof.Gen.Kernel.Points
public import proofs.«01_k».proof.Proof.Gen.Kernel.Regions
public import Idealize.ShloMosaic.Lib.Pipeline.FrameBody
public import Idealize.ShloMosaic.Lib.Pipeline.RegionArraysS
public import Idealize.ShloMosaic.Lib.Pipeline.Regions

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The first call -/

/-- The buffers when the first call is entered. -/
abbrev V1 (c : Dev nD) : Valuation τ sig (Elt F) := Gen.V1 m c

/-- Window `w`'s block at point `t` of the first call. -/
def iblk0 (c : Dev nD) (w : Fin cfg0.W) (t : Fin cfg0.N) : ((cfg0.win w).xblock (cfg0.grid.coords t)).Idx → Elt F (cfg0.win w).elt :=
  ((cfg0.win w).blk t).view.read (Elt F) (V1 m c (Proc.devRef .tc (Pipeline.arrRef spec0 w)))

/-- The first call's proof data: inputs left as fetched, the output at `Cov.covOut` of them. -/
def dat0 (c : Dev nD) : Dat τ (Elt F) Unit ℕ (UR sig nD τ) ℕ cfg0 c where
  A w := V1 m c (Proc.devRef .tc (Pipeline.arrRef spec0 w))
  after w t := match w with
    | ⟨0, _⟩ => iblk0 m c 0 t
    | ⟨1, _⟩ => iblk0 m c 1 t
    | ⟨2, _⟩ => iblk0 m c 2 t
    | ⟨3, _⟩ => iblk0 m c 3 t
    | ⟨4, _⟩ => iblk0 m c 4 t
    | ⟨5, _⟩ => Cov.covOut (iblk0 m c 0 t) (iblk0 m c 1 t) (iblk0 m c 2 t) (iblk0 m c 3 t) (iblk0 m c 4 t)
  Φ _ := Pipeline.ΦA spec0 c
  q _ := fullShare
  owed _ := 0

theorem A0_eq (c : Dev nD) (w : Fin cfg0.W) : (dat0 m c).A w = V1 m c (Proc.devRef .tc (Pipeline.arrRef spec0 w)) := by
  dsimp only [dat0]

theorem after0_0 (c : Dev nD) (t : Fin cfg0.N) : (dat0 m c).after 0 t = iblk0 m c 0 t := by dsimp only [dat0]
theorem after0_1 (c : Dev nD) (t : Fin cfg0.N) : (dat0 m c).after 1 t = iblk0 m c 1 t := by dsimp only [dat0]
theorem after0_2 (c : Dev nD) (t : Fin cfg0.N) : (dat0 m c).after 2 t = iblk0 m c 2 t := by dsimp only [dat0]
theorem after0_3 (c : Dev nD) (t : Fin cfg0.N) : (dat0 m c).after 3 t = iblk0 m c 3 t := by dsimp only [dat0]
theorem after0_4 (c : Dev nD) (t : Fin cfg0.N) : (dat0 m c).after 4 t = iblk0 m c 4 t := by dsimp only [dat0]
theorem after0_5 (c : Dev nD) (t : Fin cfg0.N) : (dat0 m c).after 5 t = Cov.covOut (iblk0 m c 0 t) (iblk0 m c 1 t) (iblk0 m c 2 t) (iblk0 m c 3 t) (iblk0 m c 4 t) := by dsimp only [dat0]

theorem before0_0 (c : Dev nD) (t : Fin cfg0.N) (d) : (dat0 m c).before 0 t d = iblk0 m c 0 t :=
  ((dat0 m c).before_in_eq_fetched 0 rfl (fun _ => rfl) (fun _ _ _ => rfl) (fun t => by rw [after0_0]; unfold Dat.blockOf iblk0; rw [A0_eq]; try rfl) t d).trans
    (by unfold Dat.fetched Dat.blockOf iblk0; rw [A0_eq]; try rfl)
theorem before0_1 (c : Dev nD) (t : Fin cfg0.N) (d) : (dat0 m c).before 1 t d = iblk0 m c 1 t :=
  ((dat0 m c).before_in_eq_fetched 1 rfl (fun _ => rfl) (fun _ _ _ => rfl) (fun t => by rw [after0_1]; unfold Dat.blockOf iblk0; rw [A0_eq]; try rfl) t d).trans
    (by unfold Dat.fetched Dat.blockOf iblk0; rw [A0_eq]; try rfl)
theorem before0_2 (c : Dev nD) (t : Fin cfg0.N) (d) : (dat0 m c).before 2 t d = iblk0 m c 2 t :=
  ((dat0 m c).before_in_eq_fetched 2 rfl (fun _ => rfl) (fun _ _ _ => rfl) (fun t => by rw [after0_2]; unfold Dat.blockOf iblk0; rw [A0_eq]; try rfl) t d).trans
    (by unfold Dat.fetched Dat.blockOf iblk0; rw [A0_eq]; try rfl)
theorem before0_3 (c : Dev nD) (t : Fin cfg0.N) (d) : (dat0 m c).before 3 t d = iblk0 m c 3 t :=
  ((dat0 m c).before_in_eq_fetched 3 rfl (fun _ => rfl) (fun _ _ _ => rfl) (fun t => by rw [after0_3]; unfold Dat.blockOf iblk0; rw [A0_eq]; try rfl) t d).trans
    (by unfold Dat.fetched Dat.blockOf iblk0; rw [A0_eq]; try rfl)
theorem before0_4 (c : Dev nD) (t : Fin cfg0.N) (d) : (dat0 m c).before 4 t d = iblk0 m c 4 t :=
  ((dat0 m c).before_in_eq_fetched 4 rfl (fun _ => rfl) (fun _ _ _ => rfl) (fun t => by rw [after0_4]; unfold Dat.blockOf iblk0; rw [A0_eq]; try rfl) t d).trans
    (by unfold Dat.fetched Dat.blockOf iblk0; rw [A0_eq]; try rfl)

/-- What the body is called with at point `t`, -/
def pre0 (c : Dev nD) (t : Fin cfg0.N) : sProp 𝕄 :=
  iprop((dat0 m c).Φ t.castSucc ∗ (dat0 m c).owesAt () t.castSucc
    ∗ (∃ d, owns (c : Thread nD τ) (st0_0 t) fullShare ((dat0 m c).before 0 t d))
    ∗ (∃ d, owns (c : Thread nD τ) (st0_1 t) fullShare ((dat0 m c).before 1 t d))
    ∗ (∃ d, owns (c : Thread nD τ) (st0_2 t) fullShare ((dat0 m c).before 2 t d))
    ∗ (∃ d, owns (c : Thread nD τ) (st0_3 t) fullShare ((dat0 m c).before 3 t d))
    ∗ (∃ d, owns (c : Thread nD τ) (st0_4 t) fullShare ((dat0 m c).before 4 t d))
    ∗ (∃ d, owns (c : Thread nD τ) (st0_5 t) fullShare ((dat0 m c).before 5 t d)))

/-- and what it returns. -/
def post0 (c : Dev nD) (t : Fin cfg0.N) : sProp 𝕄 :=
  iprop((dat0 m c).Φ t.succ ∗ (dat0 m c).owesAt () t.succ
    ∗ owns (c : Thread nD τ) (st0_0 t) fullShare ((dat0 m c).after 0 t)
    ∗ owns (c : Thread nD τ) (st0_1 t) fullShare ((dat0 m c).after 1 t)
    ∗ owns (c : Thread nD τ) (st0_2 t) fullShare ((dat0 m c).after 2 t)
    ∗ owns (c : Thread nD τ) (st0_3 t) fullShare ((dat0 m c).after 3 t)
    ∗ owns (c : Thread nD τ) (st0_4 t) fullShare ((dat0 m c).after 4 t)
    ∗ owns (c : Thread nD τ) (st0_5 t) fullShare ((dat0 m c).after 5 t))

theorem sound_body0 (c : Dev nD) (t : Fin cfg0.N) :
    pre0 m c t ⊢ wp frame (wpE (defs₀ (F := F)) Variants.none c none) Set.univ (bodyAt0 t) (fun _ => post0 m c t) := by
  unfold pre0 post0 bodyAt0
  simp only [before0_0, before0_1, before0_2, before0_3, before0_4]
  rw [show (dat0 m c).Φ t.succ = (dat0 m c).Φ t.castSucc from rfl,
    show (dat0 m c).owesAt () t.succ = (dat0 m c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (Cov.cov_sound c _ _ _ _ _ _ _ _ _ _ _ _ _ (iblk0 m c 0 t) (iblk0 m c 1 t) (iblk0 m c 2 t) (iblk0 m c 3 t) (iblk0 m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem row0 (t : Fin cfg0.N) : defs₀ (F := F) .tc cfg0.body (cfg0.bodyArgs t (cfg0.slots t)) = bodyAt0 t := by
  unfold defs₀; rw [Defs.onTc_tc]

theorem body0 (c : Dev nD) : BodyObligation (dat0 (F := F) m c) (defs₀ (F := F)) Variants.none () Set.univ := fun t => by
  rw [bigSep_W0, bigSep_W0, row0]
  exact triple_restated (sound_body0 m c t) rfl .rfl fun _ => .rfl

/-! ## The second call -/

/-- The buffers after the first call, -/
def V2 (c : Dev nD) : Valuation τ sig (Elt F) := Pipeline.afterRegion (dat0 m c) (V1 m c)
/-- and when the second is entered. -/
def V3 (c : Dev nD) : Valuation τ sig (Elt F) := StableHlo.after hostOps1 (V2 m c)

/-- The weights the second call stores, fixed by its two inputs. -/
def weights (c : Dev nD) (x0 : Vec F S28x16x2x528 .f32) (x1 : Vec F S2x1 .i32) : Vec F S14x2x528 .f32 :=
  Classical.choose (Solve.solve_sound (F := F) c (stage1_0 0) (hstage1_0 0) (stage1_1 0) (hstage1_1 0) (stage1_2 0) (hstage1_2 0) (stage1_3 0) (hstage1_3 0) (stage1_4 0) (hstage1_4 0) (stage1_5 0) (hstage1_5 0) (stage1_6 0) (hstage1_6 0) x0 x1)

/-- The second call's body on its own staging buffers. -/
theorem solve_body (c : Dev nD) (x0 : Vec F S28x16x2x528 .f32) (x1 : Vec F S2x1 .i32) (K : PUnit → sProp 𝕄) :
    iprop(owns (c : Thread nD τ) (stage1_0 0) fullShare x0 ∗ owns (c : Thread nD τ) (stage1_1 0) fullShare x1
        ∗ (∃ d, owns (c : Thread nD τ) (stage1_2 0) fullShare d) ∗ (∃ d, owns (c : Thread nD τ) (stage1_3 0) fullShare d) ∗ (∃ d, owns (c : Thread nD τ) (stage1_4 0) fullShare d) ∗ (∃ d, owns (c : Thread nD τ) (stage1_5 0) fullShare d) ∗ (∃ d, owns (c : Thread nD τ) (stage1_6 0) fullShare d)
        ∗ (iprop(owns (c : Thread nD τ) (stage1_0 0) fullShare x0 ∗ owns (c : Thread nD τ) (stage1_1 0) fullShare x1
            ∗ owns (c : Thread nD τ) (stage1_2 0) fullShare (weights c x0 x1)
            ∗ owns (c : Thread nD τ) (stage1_3 0) fullShare (Solve.matOut (Solve.phiRe x0 0)) ∗ owns (c : Thread nD τ) (stage1_4 0) fullShare (Solve.matOut (Solve.phiIm x0 0))
            ∗ owns (c : Thread nD τ) (stage1_5 0) fullShare (Solve.matOut (Solve.phiRe x0 1)) ∗ owns (c : Thread nD τ) (stage1_6 0) fullShare (Solve.matOut (Solve.phiIm x0 1))) -∗ K ⟨⟩))
      ⊢ wp frame (wpE (defs₀ (F := F)) Variants.none (c : Thread nD τ) none) Set.univ
          (cc1_mvdr_solve (stage1_0 0) (hstage1_0 0) (stage1_1 0) (hstage1_1 0) (stage1_2 0) (hstage1_2 0) (stage1_3 0) (hstage1_3 0) (stage1_4 0) (hstage1_4 0) (stage1_5 0) (hstage1_5 0) (stage1_6 0) (hstage1_6 0)) K := by
  have h := Classical.choose_spec (Solve.solve_sound (F := F) c (stage1_0 0) (hstage1_0 0) (stage1_1 0) (hstage1_1 0) (stage1_2 0) (hstage1_2 0) (stage1_3 0) (hstage1_3 0) (stage1_4 0) (hstage1_4 0) (stage1_5 0) (hstage1_5 0) (stage1_6 0) (hstage1_6 0) x0 x1) K
  rw [show Classical.choose (Solve.solve_sound (F := F) c (stage1_0 0) (hstage1_0 0) (stage1_1 0) (hstage1_1 0) (stage1_2 0) (hstage1_2 0) (stage1_3 0) (hstage1_3 0) (stage1_4 0) (hstage1_4 0) (stage1_5 0) (hstage1_5 0) (stage1_6 0) (hstage1_6 0) x0 x1) = weights c x0 x1 from rfl] at h
  unfold owns at h ⊢
  iintro ⟨⟨%f0, %hf0, H0⟩, ⟨%f1, %hf1, H1⟩, H2, H3, H4, H5, H6, Hk⟩
  obtain rfl : f0 = x0 := hf0
  obtain rfl : f1 = x1 := hf1
  iapply h
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  iapply Hk
  isplitl [H0]
  · iexists f0; isplitr
    · ipureintro; rfl
    iexact H0
  isplitl [H1]
  · iexists f1; isplitr
    · ipureintro; rfl
    iexact H1
  isplitl [H2]; · iexact H2
  isplitl [H3]; · iexact H3
  isplitl [H4]; · iexact H4
  isplitl [H5]; · iexact H5
  iexact H6

/-- Window `w`'s block of the second call: its whole array. -/
def iblk1 (c : Dev nD) (w : Fin cfg1.W) (t : Fin cfg1.N) : ((cfg1.win w).xblock (cfg1.grid.coords t)).Idx → Elt F (cfg1.win w).elt :=
  ((cfg1.win w).blk t).view.read (Elt F) (V3 m c (Proc.devRef .tc (Pipeline.arrRef spec1 w)))

/-- The second call's proof data. -/
def dat1 (c : Dev nD) : Dat τ (Elt F) Unit ℕ (UR sig nD τ) ℕ cfg1 c where
  A w := V3 m c (Proc.devRef .tc (Pipeline.arrRef spec1 w))
  after w t := match w with
    | ⟨0, _⟩ => iblk1 m c 0 t
    | ⟨1, _⟩ => iblk1 m c 1 t
    | ⟨2, _⟩ => weights c (iblk1 m c 0 t) (iblk1 m c 1 t)
    | ⟨3, _⟩ => Solve.matOut (Solve.phiRe (iblk1 m c 0 t) 0)
    | ⟨4, _⟩ => Solve.matOut (Solve.phiIm (iblk1 m c 0 t) 0)
    | ⟨5, _⟩ => Solve.matOut (Solve.phiRe (iblk1 m c 0 t) 1)
    | ⟨6, _⟩ => Solve.matOut (Solve.phiIm (iblk1 m c 0 t) 1)
  Φ _ := Pipeline.ΦA spec1 c
  q _ := fullShare
  owed _ := 0

theorem A1_eq (c : Dev nD) (w : Fin cfg1.W) : (dat1 m c).A w = V3 m c (Proc.devRef .tc (Pipeline.arrRef spec1 w)) := by
  dsimp only [dat1]

theorem after1_0 (c : Dev nD) (t : Fin cfg1.N) : (dat1 m c).after 0 t = iblk1 m c 0 t := by dsimp only [dat1]
theorem after1_1 (c : Dev nD) (t : Fin cfg1.N) : (dat1 m c).after 1 t = iblk1 m c 1 t := by dsimp only [dat1]
theorem after1_2 (c : Dev nD) (t : Fin cfg1.N) : (dat1 m c).after 2 t = weights c (iblk1 m c 0 t) (iblk1 m c 1 t) := by dsimp only [dat1]
theorem after1_3 (c : Dev nD) (t : Fin cfg1.N) : (dat1 m c).after 3 t = Solve.matOut (Solve.phiRe (iblk1 m c 0 t) 0) := by dsimp only [dat1]
theorem after1_4 (c : Dev nD) (t : Fin cfg1.N) : (dat1 m c).after 4 t = Solve.matOut (Solve.phiIm (iblk1 m c 0 t) 0) := by dsimp only [dat1]
theorem after1_5 (c : Dev nD) (t : Fin cfg1.N) : (dat1 m c).after 5 t = Solve.matOut (Solve.phiRe (iblk1 m c 0 t) 1) := by dsimp only [dat1]
theorem after1_6 (c : Dev nD) (t : Fin cfg1.N) : (dat1 m c).after 6 t = Solve.matOut (Solve.phiIm (iblk1 m c 0 t) 1) := by dsimp only [dat1]

theorem before1_0 (c : Dev nD) (t : Fin cfg1.N) (d) : (dat1 m c).before 0 t d = iblk1 m c 0 t :=
  ((dat1 m c).before_in_eq_fetched 0 rfl (fun _ => rfl) (fun _ _ _ => rfl) (fun t => by rw [after1_0]; unfold Dat.blockOf iblk1; rw [A1_eq]; try rfl) t d).trans
    (by unfold Dat.fetched Dat.blockOf iblk1; rw [A1_eq]; try rfl)
theorem before1_1 (c : Dev nD) (t : Fin cfg1.N) (d) : (dat1 m c).before 1 t d = iblk1 m c 1 t :=
  ((dat1 m c).before_in_eq_fetched 1 rfl (fun _ => rfl) (fun _ _ _ => rfl) (fun t => by rw [after1_1]; unfold Dat.blockOf iblk1; rw [A1_eq]; try rfl) t d).trans
    (by unfold Dat.fetched Dat.blockOf iblk1; rw [A1_eq]; try rfl)

/-- What the body is called with, -/
def pre1 (c : Dev nD) (t : Fin cfg1.N) : sProp 𝕄 :=
  iprop((dat1 m c).Φ t.castSucc ∗ (dat1 m c).owesAt () t.castSucc
    ∗ (∃ d, owns (c : Thread nD τ) (st1_0 t) fullShare ((dat1 m c).before 0 t d))
    ∗ (∃ d, owns (c : Thread nD τ) (st1_1 t) fullShare ((dat1 m c).before 1 t d))
    ∗ (∃ d, owns (c : Thread nD τ) (st1_2 t) fullShare ((dat1 m c).before 2 t d))
    ∗ (∃ d, owns (c : Thread nD τ) (st1_3 t) fullShare ((dat1 m c).before 3 t d))
    ∗ (∃ d, owns (c : Thread nD τ) (st1_4 t) fullShare ((dat1 m c).before 4 t d))
    ∗ (∃ d, owns (c : Thread nD τ) (st1_5 t) fullShare ((dat1 m c).before 5 t d))
    ∗ (∃ d, owns (c : Thread nD τ) (st1_6 t) fullShare ((dat1 m c).before 6 t d)))

/-- and what it returns. -/
def post1 (c : Dev nD) (t : Fin cfg1.N) : sProp 𝕄 :=
  iprop((dat1 m c).Φ t.succ ∗ (dat1 m c).owesAt () t.succ
    ∗ owns (c : Thread nD τ) (st1_0 t) fullShare ((dat1 m c).after 0 t)
    ∗ owns (c : Thread nD τ) (st1_1 t) fullShare ((dat1 m c).after 1 t)
    ∗ owns (c : Thread nD τ) (st1_2 t) fullShare ((dat1 m c).after 2 t)
    ∗ owns (c : Thread nD τ) (st1_3 t) fullShare ((dat1 m c).after 3 t)
    ∗ owns (c : Thread nD τ) (st1_4 t) fullShare ((dat1 m c).after 4 t)
    ∗ owns (c : Thread nD τ) (st1_5 t) fullShare ((dat1 m c).after 5 t)
    ∗ owns (c : Thread nD τ) (st1_6 t) fullShare ((dat1 m c).after 6 t))

theorem sound_body1 (c : Dev nD) (t : Fin cfg1.N) :
    pre1 m c t ⊢ wp frame (wpE (defs₀ (F := F)) Variants.none c none) Set.univ (bodyAt1 t) (fun _ => post1 m c t) := by
  obtain rfl := fin_N1 t
  unfold pre1 post1 bodyAt1
  simp only [before1_0, before1_1]
  rw [show (dat1 m c).Φ t1_0.succ = (dat1 m c).Φ t1_0.castSucc from rfl,
    show (dat1 m c).owesAt () t1_0.succ = (dat1 m c).owesAt () t1_0.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (solve_body c (iblk1 m c 0 t1_0) (iblk1 m c 1 t1_0) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem row1 (t : Fin cfg1.N) : defs₀ (F := F) .tc cfg1.body (cfg1.bodyArgs t (cfg1.slots t)) = bodyAt1 t := by
  unfold defs₀; rw [Defs.onTc_tc]

theorem body1 (c : Dev nD) : BodyObligation (dat1 (F := F) m c) (defs₀ (F := F)) Variants.none () Set.univ := fun t => by
  rw [bigSep_W1, bigSep_W1, row1]
  exact triple_restated (sound_body1 m c t) rfl .rfl fun _ => .rfl

/-! ## The run -/

/-- The buffers after the second call, -/
def V4 (c : Dev nD) : Valuation τ sig (Elt F) := Pipeline.afterRegion (dat1 m c) (V3 m c)
/-- and at the end. -/
def V5 (c : Dev nD) : Valuation τ sig (Elt F) := StableHlo.after hostOps2 (V4 m c)

/-- The two calls' proof data. -/
def pdats : (p : Fin 2) → (c : Dev nD) → Dat τ (Elt F) Unit ℕ (UR sig nD τ) ℕ (cfgs p) c
  | 0 => dat0 m
  | 1 => dat1 m

/-- Only the TensorCores wait, all at one level. -/
def L : GSem nD τ sig → Finset Unit := fun g => if g.1.2 = .tc then {()} else ∅
abbrev lv : GSem nD τ sig → Unit → ℕ := fun _ _ => 0

/-- What rides beside the buffers: nothing owed, and the generator register. -/
def E (_ : Fin 3) (c : Dev nD) : sProp 𝕄 :=
  iprop((∃ W, owes (c : Thread nD τ) (0 : CellTallies nD τ sig Unit) W) ∗ (∃ r, prngReg c r) ∗ emp)

set_option backward.isDefEq.respectTransparency.types false in
/-- The first call's segment. -/
def reg0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    (fun c => iprop(∃ r, prngReg c r)) (fun c => iprop(∃ r, prngReg c r)) launch0.toP rfl (fun c => (body0 m c).loose)
    (fun _ _ => rfl) (fun _ => rfl) (fun c => (dat0 m c).share_full fun _ => rfl)
    (fun c => .rfl) (fun c => .rfl) (fun _ => 0)
    ⟨fun c w s => by simp [L], fun c w s => le_rfl, fun c g i h => absurd h (lt_irrefl _)⟩ (fun _ => iprop(emp)) (V1 m)
    (fun c w => A0_eq m c w)

set_option backward.isDefEq.respectTransparency.types false in
/-- The second call's segment. -/
def reg1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig)
    (fun c => iprop(∃ r, prngReg c r)) (fun c => iprop(∃ r, prngReg c r)) launch1.toP rfl (fun c => (body1 m c).loose)
    (fun _ _ => rfl) (fun _ => rfl) (fun c => (dat1 m c).share_full fun _ => rfl)
    (fun c => .rfl) (fun c => .rfl) (fun _ => 0)
    ⟨fun c w s => by simp [L], fun c w s => le_rfl, fun c g i h => absurd h (lt_irrefl _)⟩ (fun _ => iprop(emp)) (V3 m)
    (fun c w => A1_eq m c w)

/-- The host lines before, between and after the calls. -/
def host0 : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (Gen.V0 m) (E 0)
def host1 : HostSeg (Ix := Unit) (Name := ℕ) (U := UR sig nD τ) (Lvl := ℕ) (pcfgs (F := F)) defs₀ Variants.none L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m) (E 1)
def host2 : HostSeg (Ix := Unit) (Name := ℕ) (U := UR sig nD τ) (Lvl := ℕ) (pcfgs (F := F)) defs₀ Variants.none L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (V4 m) (E 2)

theorem entail_of_eq {P Q : sProp 𝕄} (h : P = Q) : P ⊢ Q := h ▸ .rfl

set_option maxHeartbeats 400000

theorem host0_pre (c : Dev nD) : (host0 m).pre c = iprop(StableHlo.held (c : Thread nD τ) (Pipeline.ucRefs τ sig) (Gen.V0 m c) ∗ E 0 c) := rfl
theorem host0_post (c : Dev nD) : (host0 m).post c = iprop(StableHlo.held (c : Thread nD τ) (Pipeline.ucRefs τ sig) (V1 m c) ∗ E 0 c) := rfl
theorem host1_pre (c : Dev nD) : (host1 m).pre c = iprop(StableHlo.held (c : Thread nD τ) (Pipeline.ucRefs τ sig) (V2 m c) ∗ E 1 c) := rfl
theorem host1_post (c : Dev nD) : (host1 m).post c = iprop(StableHlo.held (c : Thread nD τ) (Pipeline.ucRefs τ sig) (V3 m c) ∗ E 1 c) := rfl
theorem host2_pre (c : Dev nD) : (host2 m).pre c = iprop(StableHlo.held (c : Thread nD τ) (Pipeline.ucRefs τ sig) (V4 m c) ∗ E 2 c) := rfl
theorem host2_post (c : Dev nD) : (host2 m).post c = iprop(StableHlo.held (c : Thread nD τ) (Pipeline.ucRefs τ sig) (V5 m c) ∗ E 2 c) := rfl

set_option backward.isDefEq.respectTransparency.types false in
theorem reg0_pre (c : Dev nD) : iprop(StableHlo.held (c : Thread nD τ) (Pipeline.ucRefs τ sig) (V1 m c) ∗ E 0 c) ⊢ (reg0 m).pre c := by
  have hS : Pipeline.arrRefs (pcfgs (F := F) 0).spec ⊆ Pipeline.ucRefs τ sig := Pipeline.arrRefs_sub_ucRefs spec0 launch0.win.arr_unscoped
  unfold reg0 E
  refine BIBase.Entails.trans ?_ (RegionSeg.ofHeldIn_pre hS c)
  exact .rfl
set_option backward.isDefEq.respectTransparency.types false in
theorem reg0_post (c : Dev nD) : (reg0 m).post c ⊢ iprop(StableHlo.held (c : Thread nD τ) (Pipeline.ucRefs τ sig) (V2 m c) ∗ E 1 c) := by
  have hS : Pipeline.arrRefs (pcfgs (F := F) 0).spec ⊆ Pipeline.ucRefs τ sig := Pipeline.arrRefs_sub_ucRefs spec0 launch0.win.arr_unscoped
  unfold reg0 E
  exact RegionSeg.ofHeldIn_post hS c

set_option backward.isDefEq.respectTransparency.types false in
theorem reg1_pre (c : Dev nD) : iprop(StableHlo.held (c : Thread nD τ) (Pipeline.ucRefs τ sig) (V3 m c) ∗ E 1 c) ⊢ (reg1 m).pre c := by
  have hS : Pipeline.arrRefs (pcfgs (F := F) 1).spec ⊆ Pipeline.ucRefs τ sig := Pipeline.arrRefs_sub_ucRefs spec1 launch1.win.arr_unscoped
  unfold reg1 E
  refine BIBase.Entails.trans ?_ (RegionSeg.ofHeldIn_pre hS c)
  exact .rfl
set_option backward.isDefEq.respectTransparency.types false in
theorem reg1_post (c : Dev nD) : (reg1 m).post c ⊢ iprop(StableHlo.held (c : Thread nD τ) (Pipeline.ucRefs τ sig) (V4 m c) ∗ E 2 c) := by
  have hS : Pipeline.arrRefs (pcfgs (F := F) 1).spec ⊆ Pipeline.ucRefs τ sig := Pipeline.arrRefs_sub_ucRefs spec1 launch1.win.arr_unscoped
  unfold reg1 E
  exact RegionSeg.ofHeldIn_post hS c

abbrev segs : Dev nD → List (Seg (pcfgs (F := F)) adm (pdats m) () defs₀ Variants.none L lv) := fun _ =>
  [.host (host0 m), .region (reg0 m), .host (host1 m), .region (reg1 m), .host (host2 m)]

/-- The pipeline library's launch element. -/
abbrev EP : Emb (UR sig nD τ) 𝕄 := emb₁

set_option backward.isDefEq.respectTransparency.types false in
/-- Every weakly fair run of @main from zero counters ends with every unscoped buffer at `V5` and every counter at zero. -/
theorem run_main : θ_run defs (onTc (τ := τ) (main (F := F))) ⟨m, fun _ => 0, ρ⟩ (fun r =>
    (∀ c : Dev nD, ∀ b ∈ Pipeline.ucRefs τ sig, r.2.mem (((c : Thread nD τ).1, b) : Loc nD τ sig) = V5 m c b) ∧ r.2.sem = fun _ => 0) := by
  refine Pipeline.θ_run_regions_kit_dev_sems (pcfgs (F := F)) adm (pdats m) () cellOf_inj EP defs₀ Variants.none L lv m ρ main
    (segs m)
    (fun c Q => by
      rewrite [main_chain c, Seg.run_eq_chain,
        show (segs m c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0)
    (fun g hg => by simp [L, hg]) (fun _ => iprop(emp)) (initOf (Pipeline.cells cfgs cellOf_inj) (Pipeline.launchToks cfgs cellOf_inj)) ?hu
    (T₀ := fun c => iprop(StableHlo.held (c : Thread nD τ) (Pipeline.ucRefs τ sig) (Gen.V0 m c) ∗ E 0 c))
    (Tₙ := fun c => StableHlo.held (c : Thread nD τ) (Pipeline.ucRefs τ sig) (V5 m c))
    (hch := fun c => ⟨entail_of_eq (host0_pre m c).symm,
      (entail_of_eq (host0_post m c)).trans (reg0_pre m c), (reg0_post m c).trans (entail_of_eq (host1_pre m c).symm),
      (entail_of_eq (host1_post m c)).trans (reg1_pre m c), (reg1_post m c).trans (entail_of_eq (host2_pre m c).symm), (entail_of_eq (host2_post m c)).trans ?hend⟩)
    (hinit := ?hinit) (QY := fun c s => ∀ b ∈ Pipeline.ucRefs τ sig, s.mem (((c : Thread nD τ).1, b) : Loc nD τ sig) = V5 m c b)
    (hfin := fun c s' => ?hfin) (hQ := fun _ h hz => ⟨h, funext fun g => hz g (.inr (regions_no_unscoped g.2))⟩)
  case hu =>
    iintro Hu
    imodintro
    isplitl [Hu]
    · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl)
      iexact Hu
    iapply (show (BI.emp : sProp 𝕄) ⊢ bigSep Finset.univ (fun _ : Dev nD => (BI.emp : sProp 𝕄)) from by rw [BI.bigSep_emp_const])
    iempintro
  case hend =>
    unfold E
    iintro ⟨Hh, HO, -, -⟩
    isplitl [Hh]; · iexact Hh
    iexact HO
  case hinit =>
    refine Pipeline.initEach L lv fun c => ?_
    rw [show unscopedBufs c (fun b => m ((c : Thread nD τ).loc b)) = StableHlo.held (c : Thread nD τ) (Pipeline.ucRefs τ sig) (Gen.V0 m c) from
      Pipeline.unscopedBufs_held (Ix := Unit) (Name := ℕ) (U := UR sig nD τ) (Lvl := ℕ) c (Gen.V0 m c)]
    unfold E
    iintro ⟨⟨Hh, -, HO, -, HP, -⟩, -⟩
    imodintro
    isplitl [Hh]; · iexact Hh
    isplitl [HO]; · iexists ∅; iexact HO
    isplitl [HP]; · iexists _; iexact HP
    iempintro
  case hfin =>
    unfold StableHlo.held
    iintro ⟨Hh, HSI⟩
    ihave Hr := (pointsTo_read_all (Pipeline.ucRefs τ sig) (fun b => ((c : Thread nD τ).1, b)) (V5 m c) s') $$ [Hh HSI]
    · isplitl [Hh] <;> iassumption
    icases Hr with ⟨%h, HSI⟩
    imodintro
    isplitr
    · ipureintro
      exact h
    · iexact HSI

/-- An argument is a buffer no call's window stores to and no host line writes. -/
theorem V5_arg (c : Dev nD) (r : Ref sig .tc) (h0 : r ∉ hostOps0_W) (h1 : r ∉ hostOps1_W) (h2 : r ∉ hostOps2_W)
    (k0 : ∀ w, Pipeline.arrRef cfg0.spec w = r → (cfg0.win w).isOut = false) (k1 : ∀ w, Pipeline.arrRef cfg1.spec w = r → (cfg1.win w).isOut = false) :
    V5 m c (Proc.devRef .tc r) = m ((c : Thread nD τ).loc r) :=
  (StableHlo.after_of_writes_sub hostOps2 _ hostOps2_writes h2).trans <|
    (Pipeline.afterRegion_keeps (dat1 m c) (V3 m c) launch1.win.arr_inj (A1_eq m c) r k1).trans <|
    (StableHlo.after_of_writes_sub hostOps1 _ hostOps1_writes h1).trans <|
    (Pipeline.afterRegion_keeps (dat0 m c) (V1 m c) launch0.win.arr_inj (A0_eq m c) r k0).trans <|
    StableHlo.after_of_writes_sub hostOps0 _ hostOps0_writes h0

theorem mem_uc (r : Ref sig .tc) (h : r.isScoped = false) : (Proc.devRef .tc r : DevRef τ sig) ∈ Pipeline.ucRefs τ sig :=
  Finset.mem_filter.mpr ⟨StableHlo.devRef_mem_tcRefs r, fun h' => Bool.false_ne_true (h.symm.trans h')⟩

/-- The arguments end as launched. -/
theorem args_kept (c : Dev nD) :
    V5 m c (Proc.devRef .tc main_arg0) = m ((c : Thread nD τ).loc main_arg0)
    ∧ V5 m c (Proc.devRef .tc main_arg1) = m ((c : Thread nD τ).loc main_arg1)
    ∧ V5 m c (Proc.devRef .tc main_arg2) = m ((c : Thread nD τ).loc main_arg2)
    ∧ V5 m c (Proc.devRef .tc main_arg3) = m ((c : Thread nD τ).loc main_arg3)
    ∧ V5 m c (Proc.devRef .tc main_arg4) = m ((c : Thread nD τ).loc main_arg4)
    ∧ V5 m c (Proc.devRef .tc main_arg5) = m ((c : Thread nD τ).loc main_arg5) :=
  ⟨V5_arg m c main_arg0 (by decide) (by decide) (by decide) (by decide) (by decide),
   V5_arg m c main_arg1 (by decide) (by decide) (by decide) (by decide) (by decide),
   V5_arg m c main_arg2 (by decide) (by decide) (by decide) (by decide) (by decide),
   V5_arg m c main_arg3 (by decide) (by decide) (by decide) (by decide) (by decide),
   V5_arg m c main_arg4 (by decide) (by decide) (by decide) (by decide) (by decide),
   V5_arg m c main_arg5 (by decide) (by decide) (by decide) (by decide) (by decide)⟩

/-- The frame: every argument as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => by
    obtain ⟨a0, a1, a2, a3, a4, a5⟩ := args_kept m c
    exact ⟨(h.1 c _ (mem_uc main_arg0 (by decide))).trans a0, (h.1 c _ (mem_uc main_arg1 (by decide))).trans a1, (h.1 c _ (mem_uc main_arg2 (by decide))).trans a2, (h.1 c _ (mem_uc main_arg3 (by decide))).trans a3, (h.1 c _ (mem_uc main_arg4 (by decide))).trans a4, (h.1 c _ (mem_uc main_arg5 (by decide))).trans a5⟩, h.2⟩) (run_main m ρ)

end Cert.Kernel.Run

end
-- ==== Proof.CovIdeal.lean ====
/-
  The covariance call (`mvdr_cov`) of one program: its body on any whole staging buffers.

  The matrix unit's state before trip `n` of the loop is `stateTo n`, by recursion on the trips, each trip eight tiles (`tile`).
  After the loop the four accumulators are popped, and each block of sixteen rows leaves its diagonal in one row of the output
  (`covOut`). `cov_sound` is the body's triple; the loads, the pushes, the accumulates and the stores are run by `sl_exec`.
-/
module

public import proofs.«01_k».proof.Proof.Gen.KernelIdeal.Loops
public import proofs.«01_k».proof.Proof.Gen.KernelIdeal.Launch
public import Idealize.ShloMosaic.Lib.Mxu.Lemmas
public import Idealize.ShloMosaic.Lib.Pipeline.FrameBody
public import Idealize.ShloMosaic.Lib.Tactic

@[expose] public section

set_option maxRecDepth 16384

noncomputable section

namespace Cert.KernelIdeal.Cov

open Cert.KernelIdeal Cert.KernelIdeal.Gen
open Idealize.ShloMosaic Idealize.ShloMosaic.TcCoe Idealize.ShloMosaic.Tactic Idealize.ShloMosaic.Mxu
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-- One tile: the sixteen column blocks pushed (the register read transposed), the eight product rows of the last two
    microphones accumulated at row 320, the twenty masked rows at row 0 twice, once by each half of the mask's bits. -/
def tile (b : Fin 2) (z0 z1 z2 z3 z4 z5 z6 z7 z8 z9 z10 z11 z12 z13 : FVec F S16x256 .bf16) (ms mn : Vec F S1x16x256 .i8) (s : Mxu F) : Mxu F :=
  let s1 := s.pushed b 0 true (k0_pay27 z0 z1 z2 z3 z4 z5 z6 z7 z8 z9 z10 z11 z12 z13 ms mn)
  let s2 := s1.accLhs b 0 80 (k0_pay28 z10 z11 z12 z13) fits_80_128
  let s3 := s2.accBy b (s1.staged b 0) 0 (k0_pay29 z0 z1 z2 z3 z4 z5 z6 z7 z8 z9 ms mn) fits_0_320
  s3.accBy b (s1.staged b 0) 0 (k0_pay37 z0 z1 z2 z3 z4 z5 z6 z7 z8 z9 (k0_pay26 mn) (k0_pay30 ms) (k0_pay31 z0 ms) (k0_pay32 z1 ms) (k0_pay33 z2 ms) (k0_pay34 z3 ms) (k0_pay35 z4 ms) (k0_pay36 z5 ms)) fits_0_320

/-- The unit's state after the tile of batch 0 that is number 0 of trip `k`. -/
def tile00 (x1 x2 : Vec F S2x7x16x16384 .fp8e4m3) (x3 x4 : Vec F S2x16x16384 .i8) (x5 : Vec F S2x7x16384 .f32) (k : Fin k0_t1_loop.trips) (s : Mxu F) : Mxu F :=
  tile 0
    (k0_pay5 (View.ld x5 (Rect.unit (s := S2x7x16384) (k0_off1 k 0#32) S1x1x256.size (k0_off1_inb k 0))) (View.ld x1 (Rect.unit (s := S2x7x16x16384) (k0_off2 k 0#32) S1x1x16x256.size (k0_off2_inb k 0))))
    (k0_pay5 (View.ld x5 (Rect.unit (s := S2x7x16384) (k0_off1 k 0#32) S1x1x256.size (k0_off1_inb k 0))) (View.ld x2 (Rect.unit (s := S2x7x16x16384) (k0_off2 k 0#32) S1x1x16x256.size (k0_off2_inb k 0))))
    (k0_pay5 (View.ld x5 (Rect.unit (s := S2x7x16384) (k0_off3 k 0#32) S1x1x256.size (k0_off3_inb k 0))) (View.ld x1 (Rect.unit (s := S2x7x16x16384) (k0_off4 k 0#32) S1x1x16x256.size (k0_off4_inb k 0))))
    (k0_pay5 (View.ld x5 (Rect.unit (s := S2x7x16384) (k0_off3 k 0#32) S1x1x256.size (k0_off3_inb k 0))) (View.ld x2 (Rect.unit (s := S2x7x16x16384) (k0_off4 k 0#32) S1x1x16x256.size (k0_off4_inb k 0))))
    (k0_pay5 (View.ld x5 (Rect.unit (s := S2x7x16384) (k0_off5 k 0#32) S1x1x256.size (k0_off5_inb k 0))) (View.ld x1 (Rect.unit (s := S2x7x16x16384) (k0_off6 k 0#32) S1x1x16x256.size (k0_off6_inb k 0))))
    (k0_pay5 (View.ld x5 (Rect.unit (s := S2x7x16384) (k0_off5 k 0#32) S1x1x256.size (k0_off5_inb k 0))) (View.ld x2 (Rect.unit (s := S2x7x16x16384) (k0_off6 k 0#32) S1x1x16x256.size (k0_off6_inb k 0))))
    (k0_pay5 (View.ld x5 (Rect.unit (s := S2x7x16384) (k0_off7 k 0#32) S1x1x256.size (k0_off7_inb k 0))) (View.ld x1 (Rect.unit (s := S2x7x16x16384) (k0_off8 k 0#32) S1x1x16x256.size (k0_off8_inb k 0))))
    (k0_pay5 (View.ld x5 (Rect.unit (s := S2x7x16384) (k0_off7 k 0#32) S1x1x256.size (k0_off7_inb k 0))) (View.ld x2 (Rect.unit (s := S2x7x16x16384) (k0_off8 k 0#32) S1x1x16x256.size (k0_off8_inb k 0))))
    (k0_pay5 (View.ld x5 (Rect.unit (s := S2x7x16384) (k0_off9 k 0#32) S1x1x256.size (k0_off9_inb k 0))) (View.ld x1 (Rect.unit (s := S2x7x16x16384) (k0_off10 k 0#32) S1x1x16x256.size (k0_off10_inb k 0))))
    (k0_pay5 (View.ld x5 (Rect.unit (s := S2x7x16384) (k0_off9 k 0#32) S1x1x256.size (k0_off9_inb k 0))) (View.ld x2 (Rect.unit (s := S2x7x16x16384) (k0_off10 k 0#32) S1x1x16x256.size (k0_off10_inb k 0))))
    (k0_pay5 (View.ld x5 (Rect.unit (s := S2x7x16384) (k0_off11 k 0#32) S1x1x256.size (k0_off11_inb k 0))) (View.ld x1 (Rect.unit (s := S2x7x16x16384) (k0_off12 k 0#32) S1x1x16x256.size (k0_off12_inb k 0))))
    (k0_pay5 (View.ld x5 (Rect.unit (s := S2x7x16384) (k0_off11 k 0#32) S1x1x256.size (k0_off11_inb k 0))) (View.ld x2 (Rect.unit (s := S2x7x16x16384) (k0_off12 k 0#32) S1x1x16x256.size (k0_off12_inb k 0))))
    (k0_pay5 (View.ld x5 (Rect.unit (s := S2x7x16384) (k0_off13 k 0#32) S1x1x256.size (k0_off13_inb k 0))) (View.ld x1 (Rect.unit (s := S2x7x16x16384) (k0_off14 k 0#32) S1x1x16x256.size (k0_off14_inb k 0))))
    (k0_pay5 (View.ld x5 (Rect.unit (s := S2x7x16384) (k0_off13 k 0#32) S1x1x256.size (k0_off13_inb k 0))) (View.ld x2 (Rect.unit (s := S2x7x16x16384) (k0_off14 k 0#32) S1x1x16x256.size (k0_off14_inb k 0))))
    (View.ld x3 (Rect.unit (s := S2x16x16384) (k0_off15 k 0#32) S1x16x256.size (k0_off15_inb k 0))) (View.ld x4 (Rect.unit (s := S2x16x16384) (k0_off15 k 0#32) S1x16x256.size (k0_off15_inb k 0))) s

/-- The unit's state after the tile of batch 1 that is number 0 of trip `k`. -/
def tile01 (x1 x2 : Vec F S2x7x16x16384 .fp8e4m3) (x3 x4 : Vec F S2x16x16384 .i8) (x5 : Vec F S2x7x16384 .f32) (k : Fin k0_t1_loop.trips) (s : Mxu F) : Mxu F :=
  tile 1
    (k0_pay5 (View.ld x5 (Rect.unit (s := S2x7x16384) (k0_off16 k 0#32) S1x1x256.size (k0_off16_inb k 0))) (View.ld x1 (Rect.unit (s := S2x7x16x16384) (k0_off17 k 0#32) S1x1x16x256.size (k0_off17_inb k 0))))
    (k0_pay5 (View.ld x5 (Rect.unit (s := S2x7x16384) (k0_off16 k 0#32) S1x1x256.size (k0_off16_inb k 0))) (View.ld x2 (Rect.unit (s := S2x7x16x16384) (k0_off17 k 0#32) S1x1x16x256.size (k0_off17_inb k 0))))
    (k0_pay5 (View.ld x5 (Rect.unit (s := S2x7x16384) (k0_off18 k 0#32) S1x1x256.size (k0_off18_inb k 0))) (View.ld x1 (Rect.unit (s := S2x7x16x16384) (k0_off19 k 0#32) S1x1x16x256.size (k0_off19_inb k 0))))
    (k0_pay5 (View.ld x5 (Rect.unit (s := S2x7x16384) (k0_off18 k 0#32) S1x1x256.size (k0_off18_inb k 0))) (View.ld x2 (Rect.unit (s := S2x7x16x16384) (k0_off19 k 0#32) S1x1x16x256.size (k0_off19_inb k 0))))
    (k0_pay5 (View.ld x5 (Rect.unit (s := S2x7x16384) (k0_off20 k 0#32) S1x1x256.size (k0_off20_inb k 0))) (View.ld x1 (Rect.unit (s := S2x7x16x16384) (k0_off21 k 0#32) S1x1x16x256.size (k0_off21_inb k 0))))
    (k0_pay5 (View.ld x5 (Rect.unit (s := S2x7x16384) (k0_off20 k 0#32) S1x1x256.size (k0_off20_inb k 0))) (View.ld x2 (Rect.unit (s := S2x7x16x16384) (k0_off21 k 0#32) S1x1x16x256.size (k0_off21_inb k 0))))
    (k0_pay5 (View.ld x5 (Rect.unit (s := S2x7x16384) (k0_off22 k 0#32) S1x1x256.size (k0_off22_inb k 0))) (View.ld x1 (Rect.unit (s := S2x7x16x16384) (k0_off23 k 0#32) S1x1x16x256.size (k0_off23_inb k 0))))
    (k0_pay5 (View.ld x5 (Rect.unit (s := S2x7x16384) (k0_off22 k 0#32) S1x1x256.size (k0_off22_inb k 0))) (View.ld x2 (Rect.unit (s := S2x7x16x16384) (k0_off23 k 0#32) S1x1x16x256.size (k0_off23_inb k 0))))
    (k0_pay5 (View.ld x5 (Rect.unit (s := S2x7x16384) (k0_off24 k 0#32) S1x1x256.size (k0_off24_inb k 0))) (View.ld x1 (Rect.unit (s := S2x7x16x16384) (k0_off25 k 0#32) S1x1x16x256.size (k0_off25_inb k 0))))
    (k0_pay5 (View.ld x5 (Rect.unit (s := S2x7x16384) (k0_off24 k 0#32) S1x1x256.size (k0_off24_inb k 0))) (View.ld x2 (Rect.unit (s := S2x7x16x16384) (k0_off25 k 0#32) S1x1x16x256.size (k0_off25_inb k 0))))
    (k0_pay5 (View.ld x5 (Rect.unit (s := S2x7x16384) (k0_off26 k 0#32) S1x1x256.size (k0_off26_inb k 0))) (View.ld x1 (Rect.unit (s := S2x7x16x16384) (k0_off27 k 0#32) S1x1x16x256.size (k0_off27_inb k 0))))
    (k0_pay5 (View.ld x5 (Rect.unit (s := S2x7x16384) (k0_off26 k 0#32) S1x1x256.size (k0_off26_inb k 0))) (View.ld x2 (Rect.unit (s := S2x7x16x16384) (k0_off27 k 0#32) S1x1x16x256.size (k0_off27_inb k 0))))
    (k0_pay5 (View.ld x5 (Rect.unit (s := S2x7x16384) (k0_off28 k 0#32) S1x1x256.size (k0_off28_inb k 0))) (View.ld x1 (Rect.unit (s := S2x7x16x16384) (k0_off29 k 0#32) S1x1x16x256.size (k0_off29_inb k 0))))
    (k0_pay5 (View.ld x5 (Rect.unit (s := S2x7x16384) (k0_off28 k 0#32) S1x1x256.size (k0_off28_inb k 0))) (View.ld x2 (Rect.unit (s := S2x7x16x16384) (k0_off29 k 0#32) S1x1x16x256.size (k0_off29_inb k 0))))
    (View.ld x3 (Rect.unit (s := S2x16x16384) (k0_off30 k 0#32) S1x16x256.size (k0_off30_inb k 0))) (View.ld x4 (Rect.unit (s := S2x16x16384) (k0_off30 k 0#32) S1x16x256.size (k0_off30_inb k 0))) s

/-- The unit's state after the tile of batch 0 that is number 1 of trip `k`. -/
def tile10 (x1 x2 : Vec F S2x7x16x16384 .fp8e4m3) (x3 x4 : Vec F S2x16x16384 .i8) (x5 : Vec F S2x7x16384 .f32) (k : Fin k0_t1_loop.trips) (s : Mxu F) : Mxu F :=
  tile 0
    (k0_pay5 (View.ld x5 (Rect.unit (s := S2x7x16384) (k0_off1 k 1#32) S1x1x256.size (k0_off1_inb k 1))) (View.ld x1 (Rect.unit (s := S2x7x16x16384) (k0_off2 k 1#32) S1x1x16x256.size (k0_off2_inb k 1))))
    (k0_pay5 (View.ld x5 (Rect.unit (s := S2x7x16384) (k0_off1 k 1#32) S1x1x256.size (k0_off1_inb k 1))) (View.ld x2 (Rect.unit (s := S2x7x16x16384) (k0_off2 k 1#32) S1x1x16x256.size (k0_off2_inb k 1))))
    (k0_pay5 (View.ld x5 (Rect.unit (s := S2x7x16384) (k0_off3 k 1#32) S1x1x256.size (k0_off3_inb k 1))) (View.ld x1 (Rect.unit (s := S2x7x16x16384) (k0_off4 k 1#32) S1x1x16x256.size (k0_off4_inb k 1))))
    (k0_pay5 (View.ld x5 (Rect.unit (s := S2x7x16384) (k0_off3 k 1#32) S1x1x256.size (k0_off3_inb k 1))) (View.ld x2 (Rect.unit (s := S2x7x16x16384) (k0_off4 k 1#32) S1x1x16x256.size (k0_off4_inb k 1))))
    (k0_pay5 (View.ld x5 (Rect.unit (s := S2x7x16384) (k0_off5 k 1#32) S1x1x256.size (k0_off5_inb k 1))) (View.ld x1 (Rect.unit (s := S2x7x16x16384) (k0_off6 k 1#32) S1x1x16x256.size (k0_off6_inb k 1))))
    (k0_pay5 (View.ld x5 (Rect.unit (s := S2x7x16384) (k0_off5 k 1#32) S1x1x256.size (k0_off5_inb k 1))) (View.ld x2 (Rect.unit (s := S2x7x16x16384) (k0_off6 k 1#32) S1x1x16x256.size (k0_off6_inb k 1))))
    (k0_pay5 (View.ld x5 (Rect.unit (s := S2x7x16384) (k0_off7 k 1#32) S1x1x256.size (k0_off7_inb k 1))) (View.ld x1 (Rect.unit (s := S2x7x16x16384) (k0_off8 k 1#32) S1x1x16x256.size (k0_off8_inb k 1))))
    (k0_pay5 (View.ld x5 (Rect.unit (s := S2x7x16384) (k0_off7 k 1#32) S1x1x256.size (k0_off7_inb k 1))) (View.ld x2 (Rect.unit (s := S2x7x16x16384) (k0_off8 k 1#32) S1x1x16x256.size (k0_off8_inb k 1))))
    (k0_pay5 (View.ld x5 (Rect.unit (s := S2x7x16384) (k0_off9 k 1#32) S1x1x256.size (k0_off9_inb k 1))) (View.ld x1 (Rect.unit (s := S2x7x16x16384) (k0_off10 k 1#32) S1x1x16x256.size (k0_off10_inb k 1))))
    (k0_pay5 (View.ld x5 (Rect.unit (s := S2x7x16384) (k0_off9 k 1#32) S1x1x256.size (k0_off9_inb k 1))) (View.ld x2 (Rect.unit (s := S2x7x16x16384) (k0_off10 k 1#32) S1x1x16x256.size (k0_off10_inb k 1))))
    (k0_pay5 (View.ld x5 (Rect.unit (s := S2x7x16384) (k0_off11 k 1#32) S1x1x256.size (k0_off11_inb k 1))) (View.ld x1 (Rect.unit (s := S2x7x16x16384) (k0_off12 k 1#32) S1x1x16x256.size (k0_off12_inb k 1))))
    (k0_pay5 (View.ld x5 (Rect.unit (s := S2x7x16384) (k0_off11 k 1#32) S1x1x256.size (k0_off11_inb k 1))) (View.ld x2 (Rect.unit (s := S2x7x16x16384) (k0_off12 k 1#32) S1x1x16x256.size (k0_off12_inb k 1))))
    (k0_pay5 (View.ld x5 (Rect.unit (s := S2x7x16384) (k0_off13 k 1#32) S1x1x256.size (k0_off13_inb k 1))) (View.ld x1 (Rect.unit (s := S2x7x16x16384) (k0_off14 k 1#32) S1x1x16x256.size (k0_off14_inb k 1))))
    (k0_pay5 (View.ld x5 (Rect.unit (s := S2x7x16384) (k0_off13 k 1#32) S1x1x256.size (k0_off13_inb k 1))) (View.ld x2 (Rect.unit (s := S2x7x16x16384) (k0_off14 k 1#32) S1x1x16x256.size (k0_off14_inb k 1))))
    (View.ld x3 (Rect.unit (s := S2x16x16384) (k0_off15 k 1#32) S1x16x256.size (k0_off15_inb k 1))) (View.ld x4 (Rect.unit (s := S2x16x16384) (k0_off15 k 1#32) S1x16x256.size (k0_off15_inb k 1))) s

/-- The unit's state after the tile of batch 1 that is number 1 of trip `k`. -/
def tile11 (x1 x2 : Vec F S2x7x16x16384 .fp8e4m3) (x3 x4 : Vec F S2x16x16384 .i8) (x5 : Vec F S2x7x16384 .f32) (k : Fin k0_t1_loop.trips) (s : Mxu F) : Mxu F :=
  tile 1
    (k0_pay5 (View.ld x5 (Rect.unit (s := S2x7x16384) (k0_off16 k 1#32) S1x1x256.size (k0_off16_inb k 1))) (View.ld x1 (Rect.unit (s := S2x7x16x16384) (k0_off17 k 1#32) S1x1x16x256.size (k0_off17_inb k 1))))
    (k0_pay5 (View.ld x5 (Rect.unit (s := S2x7x16384) (k0_off16 k 1#32) S1x1x256.size (k0_off16_inb k 1))) (View.ld x2 (Rect.unit (s := S2x7x16x16384) (k0_off17 k 1#32) S1x1x16x256.size (k0_off17_inb k 1))))
    (k0_pay5 (View.ld x5 (Rect.unit (s := S2x7x16384) (k0_off18 k 1#32) S1x1x256.size (k0_off18_inb k 1))) (View.ld x1 (Rect.unit (s := S2x7x16x16384) (k0_off19 k 1#32) S1x1x16x256.size (k0_off19_inb k 1))))
    (k0_pay5 (View.ld x5 (Rect.unit (s := S2x7x16384) (k0_off18 k 1#32) S1x1x256.size (k0_off18_inb k 1))) (View.ld x2 (Rect.unit (s := S2x7x16x16384) (k0_off19 k 1#32) S1x1x16x256.size (k0_off19_inb k 1))))
    (k0_pay5 (View.ld x5 (Rect.unit (s := S2x7x16384) (k0_off20 k 1#32) S1x1x256.size (k0_off20_inb k 1))) (View.ld x1 (Rect.unit (s := S2x7x16x16384) (k0_off21 k 1#32) S1x1x16x256.size (k0_off21_inb k 1))))
    (k0_pay5 (View.ld x5 (Rect.unit (s := S2x7x16384) (k0_off20 k 1#32) S1x1x256.size (k0_off20_inb k 1))) (View.ld x2 (Rect.unit (s := S2x7x16x16384) (k0_off21 k 1#32) S1x1x16x256.size (k0_off21_inb k 1))))
    (k0_pay5 (View.ld x5 (Rect.unit (s := S2x7x16384) (k0_off22 k 1#32) S1x1x256.size (k0_off22_inb k 1))) (View.ld x1 (Rect.unit (s := S2x7x16x16384) (k0_off23 k 1#32) S1x1x16x256.size (k0_off23_inb k 1))))
    (k0_pay5 (View.ld x5 (Rect.unit (s := S2x7x16384) (k0_off22 k 1#32) S1x1x256.size (k0_off22_inb k 1))) (View.ld x2 (Rect.unit (s := S2x7x16x16384) (k0_off23 k 1#32) S1x1x16x256.size (k0_off23_inb k 1))))
    (k0_pay5 (View.ld x5 (Rect.unit (s := S2x7x16384) (k0_off24 k 1#32) S1x1x256.size (k0_off24_inb k 1))) (View.ld x1 (Rect.unit (s := S2x7x16x16384) (k0_off25 k 1#32) S1x1x16x256.size (k0_off25_inb k 1))))
    (k0_pay5 (View.ld x5 (Rect.unit (s := S2x7x16384) (k0_off24 k 1#32) S1x1x256.size (k0_off24_inb k 1))) (View.ld x2 (Rect.unit (s := S2x7x16x16384) (k0_off25 k 1#32) S1x1x16x256.size (k0_off25_inb k 1))))
    (k0_pay5 (View.ld x5 (Rect.unit (s := S2x7x16384) (k0_off26 k 1#32) S1x1x256.size (k0_off26_inb k 1))) (View.ld x1 (Rect.unit (s := S2x7x16x16384) (k0_off27 k 1#32) S1x1x16x256.size (k0_off27_inb k 1))))
    (k0_pay5 (View.ld x5 (Rect.unit (s := S2x7x16384) (k0_off26 k 1#32) S1x1x256.size (k0_off26_inb k 1))) (View.ld x2 (Rect.unit (s := S2x7x16x16384) (k0_off27 k 1#32) S1x1x16x256.size (k0_off27_inb k 1))))
    (k0_pay5 (View.ld x5 (Rect.unit (s := S2x7x16384) (k0_off28 k 1#32) S1x1x256.size (k0_off28_inb k 1))) (View.ld x1 (Rect.unit (s := S2x7x16x16384) (k0_off29 k 1#32) S1x1x16x256.size (k0_off29_inb k 1))))
    (k0_pay5 (View.ld x5 (Rect.unit (s := S2x7x16384) (k0_off28 k 1#32) S1x1x256.size (k0_off28_inb k 1))) (View.ld x2 (Rect.unit (s := S2x7x16x16384) (k0_off29 k 1#32) S1x1x16x256.size (k0_off29_inb k 1))))
    (View.ld x3 (Rect.unit (s := S2x16x16384) (k0_off30 k 1#32) S1x16x256.size (k0_off30_inb k 1))) (View.ld x4 (Rect.unit (s := S2x16x16384) (k0_off30 k 1#32) S1x16x256.size (k0_off30_inb k 1))) s

/-- The unit's state after the tile of batch 0 that is number 2 of trip `k`. -/
def tile20 (x1 x2 : Vec F S2x7x16x16384 .fp8e4m3) (x3 x4 : Vec F S2x16x16384 .i8) (x5 : Vec F S2x7x16384 .f32) (k : Fin k0_t1_loop.trips) (s : Mxu F) : Mxu F :=
  tile 0
    (k0_pay5 (View.ld x5 (Rect.unit (s := S2x7x16384) (k0_off1 k 2#32) S1x1x256.size (k0_off1_inb k 2))) (View.ld x1 (Rect.unit (s := S2x7x16x16384) (k0_off2 k 2#32) S1x1x16x256.size (k0_off2_inb k 2))))
    (k0_pay5 (View.ld x5 (Rect.unit (s := S2x7x16384) (k0_off1 k 2#32) S1x1x256.size (k0_off1_inb k 2))) (View.ld x2 (Rect.unit (s := S2x7x16x16384) (k0_off2 k 2#32) S1x1x16x256.size (k0_off2_inb k 2))))
    (k0_pay5 (View.ld x5 (Rect.unit (s := S2x7x16384) (k0_off3 k 2#32) S1x1x256.size (k0_off3_inb k 2))) (View.ld x1 (Rect.unit (s := S2x7x16x16384) (k0_off4 k 2#32) S1x1x16x256.size (k0_off4_inb k 2))))
    (k0_pay5 (View.ld x5 (Rect.unit (s := S2x7x16384) (k0_off3 k 2#32) S1x1x256.size (k0_off3_inb k 2))) (View.ld x2 (Rect.unit (s := S2x7x16x16384) (k0_off4 k 2#32) S1x1x16x256.size (k0_off4_inb k 2))))
    (k0_pay5 (View.ld x5 (Rect.unit (s := S2x7x16384) (k0_off5 k 2#32) S1x1x256.size (k0_off5_inb k 2))) (View.ld x1 (Rect.unit (s := S2x7x16x16384) (k0_off6 k 2#32) S1x1x16x256.size (k0_off6_inb k 2))))
    (k0_pay5 (View.ld x5 (Rect.unit (s := S2x7x16384) (k0_off5 k 2#32) S1x1x256.size (k0_off5_inb k 2))) (View.ld x2 (Rect.unit (s := S2x7x16x16384) (k0_off6 k 2#32) S1x1x16x256.size (k0_off6_inb k 2))))
    (k0_pay5 (View.ld x5 (Rect.unit (s := S2x7x16384) (k0_off7 k 2#32) S1x1x256.size (k0_off7_inb k 2))) (View.ld x1 (Rect.unit (s := S2x7x16x16384) (k0_off8 k 2#32) S1x1x16x256.size (k0_off8_inb k 2))))
    (k0_pay5 (View.ld x5 (Rect.unit (s := S2x7x16384) (k0_off7 k 2#32) S1x1x256.size (k0_off7_inb k 2))) (View.ld x2 (Rect.unit (s := S2x7x16x16384) (k0_off8 k 2#32) S1x1x16x256.size (k0_off8_inb k 2))))
    (k0_pay5 (View.ld x5 (Rect.unit (s := S2x7x16384) (k0_off9 k 2#32) S1x1x256.size (k0_off9_inb k 2))) (View.ld x1 (Rect.unit (s := S2x7x16x16384) (k0_off10 k 2#32) S1x1x16x256.size (k0_off10_inb k 2))))
    (k0_pay5 (View.ld x5 (Rect.unit (s := S2x7x16384) (k0_off9 k 2#32) S1x1x256.size (k0_off9_inb k 2))) (View.ld x2 (Rect.unit (s := S2x7x16x16384) (k0_off10 k 2#32) S1x1x16x256.size (k0_off10_inb k 2))))
    (k0_pay5 (View.ld x5 (Rect.unit (s := S2x7x16384) (k0_off11 k 2#32) S1x1x256.size (k0_off11_inb k 2))) (View.ld x1 (Rect.unit (s := S2x7x16x16384) (k0_off12 k 2#32) S1x1x16x256.size (k0_off12_inb k 2))))
    (k0_pay5 (View.ld x5 (Rect.unit (s := S2x7x16384) (k0_off11 k 2#32) S1x1x256.size (k0_off11_inb k 2))) (View.ld x2 (Rect.unit (s := S2x7x16x16384) (k0_off12 k 2#32) S1x1x16x256.size (k0_off12_inb k 2))))
    (k0_pay5 (View.ld x5 (Rect.unit (s := S2x7x16384) (k0_off13 k 2#32) S1x1x256.size (k0_off13_inb k 2))) (View.ld x1 (Rect.unit (s := S2x7x16x16384) (k0_off14 k 2#32) S1x1x16x256.size (k0_off14_inb k 2))))
    (k0_pay5 (View.ld x5 (Rect.unit (s := S2x7x16384) (k0_off13 k 2#32) S1x1x256.size (k0_off13_inb k 2))) (View.ld x2 (Rect.unit (s := S2x7x16x16384) (k0_off14 k 2#32) S1x1x16x256.size (k0_off14_inb k 2))))
    (View.ld x3 (Rect.unit (s := S2x16x16384) (k0_off15 k 2#32) S1x16x256.size (k0_off15_inb k 2))) (View.ld x4 (Rect.unit (s := S2x16x16384) (k0_off15 k 2#32) S1x16x256.size (k0_off15_inb k 2))) s

/-- The unit's state after the tile of batch 1 that is number 2 of trip `k`. -/
def tile21 (x1 x2 : Vec F S2x7x16x16384 .fp8e4m3) (x3 x4 : Vec F S2x16x16384 .i8) (x5 : Vec F S2x7x16384 .f32) (k : Fin k0_t1_loop.trips) (s : Mxu F) : Mxu F :=
  tile 1
    (k0_pay5 (View.ld x5 (Rect.unit (s := S2x7x16384) (k0_off16 k 2#32) S1x1x256.size (k0_off16_inb k 2))) (View.ld x1 (Rect.unit (s := S2x7x16x16384) (k0_off17 k 2#32) S1x1x16x256.size (k0_off17_inb k 2))))
    (k0_pay5 (View.ld x5 (Rect.unit (s := S2x7x16384) (k0_off16 k 2#32) S1x1x256.size (k0_off16_inb k 2))) (View.ld x2 (Rect.unit (s := S2x7x16x16384) (k0_off17 k 2#32) S1x1x16x256.size (k0_off17_inb k 2))))
    (k0_pay5 (View.ld x5 (Rect.unit (s := S2x7x16384) (k0_off18 k 2#32) S1x1x256.size (k0_off18_inb k 2))) (View.ld x1 (Rect.unit (s := S2x7x16x16384) (k0_off19 k 2#32) S1x1x16x256.size (k0_off19_inb k 2))))
    (k0_pay5 (View.ld x5 (Rect.unit (s := S2x7x16384) (k0_off18 k 2#32) S1x1x256.size (k0_off18_inb k 2))) (View.ld x2 (Rect.unit (s := S2x7x16x16384) (k0_off19 k 2#32) S1x1x16x256.size (k0_off19_inb k 2))))
    (k0_pay5 (View.ld x5 (Rect.unit (s := S2x7x16384) (k0_off20 k 2#32) S1x1x256.size (k0_off20_inb k 2))) (View.ld x1 (Rect.unit (s := S2x7x16x16384) (k0_off21 k 2#32) S1x1x16x256.size (k0_off21_inb k 2))))
    (k0_pay5 (View.ld x5 (Rect.unit (s := S2x7x16384) (k0_off20 k 2#32) S1x1x256.size (k0_off20_inb k 2))) (View.ld x2 (Rect.unit (s := S2x7x16x16384) (k0_off21 k 2#32) S1x1x16x256.size (k0_off21_inb k 2))))
    (k0_pay5 (View.ld x5 (Rect.unit (s := S2x7x16384) (k0_off22 k 2#32) S1x1x256.size (k0_off22_inb k 2))) (View.ld x1 (Rect.unit (s := S2x7x16x16384) (k0_off23 k 2#32) S1x1x16x256.size (k0_off23_inb k 2))))
    (k0_pay5 (View.ld x5 (Rect.unit (s := S2x7x16384) (k0_off22 k 2#32) S1x1x256.size (k0_off22_inb k 2))) (View.ld x2 (Rect.unit (s := S2x7x16x16384) (k0_off23 k 2#32) S1x1x16x256.size (k0_off23_inb k 2))))
    (k0_pay5 (View.ld x5 (Rect.unit (s := S2x7x16384) (k0_off24 k 2#32) S1x1x256.size (k0_off24_inb k 2))) (View.ld x1 (Rect.unit (s := S2x7x16x16384) (k0_off25 k 2#32) S1x1x16x256.size (k0_off25_inb k 2))))
    (k0_pay5 (View.ld x5 (Rect.unit (s := S2x7x16384) (k0_off24 k 2#32) S1x1x256.size (k0_off24_inb k 2))) (View.ld x2 (Rect.unit (s := S2x7x16x16384) (k0_off25 k 2#32) S1x1x16x256.size (k0_off25_inb k 2))))
    (k0_pay5 (View.ld x5 (Rect.unit (s := S2x7x16384) (k0_off26 k 2#32) S1x1x256.size (k0_off26_inb k 2))) (View.ld x1 (Rect.unit (s := S2x7x16x16384) (k0_off27 k 2#32) S1x1x16x256.size (k0_off27_inb k 2))))
    (k0_pay5 (View.ld x5 (Rect.unit (s := S2x7x16384) (k0_off26 k 2#32) S1x1x256.size (k0_off26_inb k 2))) (View.ld x2 (Rect.unit (s := S2x7x16x16384) (k0_off27 k 2#32) S1x1x16x256.size (k0_off27_inb k 2))))
    (k0_pay5 (View.ld x5 (Rect.unit (s := S2x7x16384) (k0_off28 k 2#32) S1x1x256.size (k0_off28_inb k 2))) (View.ld x1 (Rect.unit (s := S2x7x16x16384) (k0_off29 k 2#32) S1x1x16x256.size (k0_off29_inb k 2))))
    (k0_pay5 (View.ld x5 (Rect.unit (s := S2x7x16384) (k0_off28 k 2#32) S1x1x256.size (k0_off28_inb k 2))) (View.ld x2 (Rect.unit (s := S2x7x16x16384) (k0_off29 k 2#32) S1x1x16x256.size (k0_off29_inb k 2))))
    (View.ld x3 (Rect.unit (s := S2x16x16384) (k0_off30 k 2#32) S1x16x256.size (k0_off30_inb k 2))) (View.ld x4 (Rect.unit (s := S2x16x16384) (k0_off30 k 2#32) S1x16x256.size (k0_off30_inb k 2))) s

/-- The unit's state after the tile of batch 0 that is number 3 of trip `k`. -/
def tile30 (x1 x2 : Vec F S2x7x16x16384 .fp8e4m3) (x3 x4 : Vec F S2x16x16384 .i8) (x5 : Vec F S2x7x16384 .f32) (k : Fin k0_t1_loop.trips) (s : Mxu F) : Mxu F :=
  tile 0
    (k0_pay5 (View.ld x5 (Rect.unit (s := S2x7x16384) (k0_off1 k 3#32) S1x1x256.size (k0_off1_inb k 3))) (View.ld x1 (Rect.unit (s := S2x7x16x16384) (k0_off2 k 3#32) S1x1x16x256.size (k0_off2_inb k 3))))
    (k0_pay5 (View.ld x5 (Rect.unit (s := S2x7x16384) (k0_off1 k 3#32) S1x1x256.size (k0_off1_inb k 3))) (View.ld x2 (Rect.unit (s := S2x7x16x16384) (k0_off2 k 3#32) S1x1x16x256.size (k0_off2_inb k 3))))
    (k0_pay5 (View.ld x5 (Rect.unit (s := S2x7x16384) (k0_off3 k 3#32) S1x1x256.size (k0_off3_inb k 3))) (View.ld x1 (Rect.unit (s := S2x7x16x16384) (k0_off4 k 3#32) S1x1x16x256.size (k0_off4_inb k 3))))
    (k0_pay5 (View.ld x5 (Rect.unit (s := S2x7x16384) (k0_off3 k 3#32) S1x1x256.size (k0_off3_inb k 3))) (View.ld x2 (Rect.unit (s := S2x7x16x16384) (k0_off4 k 3#32) S1x1x16x256.size (k0_off4_inb k 3))))
    (k0_pay5 (View.ld x5 (Rect.unit (s := S2x7x16384) (k0_off5 k 3#32) S1x1x256.size (k0_off5_inb k 3))) (View.ld x1 (Rect.unit (s := S2x7x16x16384) (k0_off6 k 3#32) S1x1x16x256.size (k0_off6_inb k 3))))
    (k0_pay5 (View.ld x5 (Rect.unit (s := S2x7x16384) (k0_off5 k 3#32) S1x1x256.size (k0_off5_inb k 3))) (View.ld x2 (Rect.unit (s := S2x7x16x16384) (k0_off6 k 3#32) S1x1x16x256.size (k0_off6_inb k 3))))
    (k0_pay5 (View.ld x5 (Rect.unit (s := S2x7x16384) (k0_off7 k 3#32) S1x1x256.size (k0_off7_inb k 3))) (View.ld x1 (Rect.unit (s := S2x7x16x16384) (k0_off8 k 3#32) S1x1x16x256.size (k0_off8_inb k 3))))
    (k0_pay5 (View.ld x5 (Rect.unit (s := S2x7x16384) (k0_off7 k 3#32) S1x1x256.size (k0_off7_inb k 3))) (View.ld x2 (Rect.unit (s := S2x7x16x16384) (k0_off8 k 3#32) S1x1x16x256.size (k0_off8_inb k 3))))
    (k0_pay5 (View.ld x5 (Rect.unit (s := S2x7x16384) (k0_off9 k 3#32) S1x1x256.size (k0_off9_inb k 3))) (View.ld x1 (Rect.unit (s := S2x7x16x16384) (k0_off10 k 3#32) S1x1x16x256.size (k0_off10_inb k 3))))
    (k0_pay5 (View.ld x5 (Rect.unit (s := S2x7x16384) (k0_off9 k 3#32) S1x1x256.size (k0_off9_inb k 3))) (View.ld x2 (Rect.unit (s := S2x7x16x16384) (k0_off10 k 3#32) S1x1x16x256.size (k0_off10_inb k 3))))
    (k0_pay5 (View.ld x5 (Rect.unit (s := S2x7x16384) (k0_off11 k 3#32) S1x1x256.size (k0_off11_inb k 3))) (View.ld x1 (Rect.unit (s := S2x7x16x16384) (k0_off12 k 3#32) S1x1x16x256.size (k0_off12_inb k 3))))
    (k0_pay5 (View.ld x5 (Rect.unit (s := S2x7x16384) (k0_off11 k 3#32) S1x1x256.size (k0_off11_inb k 3))) (View.ld x2 (Rect.unit (s := S2x7x16x16384) (k0_off12 k 3#32) S1x1x16x256.size (k0_off12_inb k 3))))
    (k0_pay5 (View.ld x5 (Rect.unit (s := S2x7x16384) (k0_off13 k 3#32) S1x1x256.size (k0_off13_inb k 3))) (View.ld x1 (Rect.unit (s := S2x7x16x16384) (k0_off14 k 3#32) S1x1x16x256.size (k0_off14_inb k 3))))
    (k0_pay5 (View.ld x5 (Rect.unit (s := S2x7x16384) (k0_off13 k 3#32) S1x1x256.size (k0_off13_inb k 3))) (View.ld x2 (Rect.unit (s := S2x7x16x16384) (k0_off14 k 3#32) S1x1x16x256.size (k0_off14_inb k 3))))
    (View.ld x3 (Rect.unit (s := S2x16x16384) (k0_off15 k 3#32) S1x16x256.size (k0_off15_inb k 3))) (View.ld x4 (Rect.unit (s := S2x16x16384) (k0_off15 k 3#32) S1x16x256.size (k0_off15_inb k 3))) s

/-- The unit's state after the tile of batch 1 that is number 3 of trip `k`. -/
def tile31 (x1 x2 : Vec F S2x7x16x16384 .fp8e4m3) (x3 x4 : Vec F S2x16x16384 .i8) (x5 : Vec F S2x7x16384 .f32) (k : Fin k0_t1_loop.trips) (s : Mxu F) : Mxu F :=
  tile 1
    (k0_pay5 (View.ld x5 (Rect.unit (s := S2x7x16384) (k0_off16 k 3#32) S1x1x256.size (k0_off16_inb k 3))) (View.ld x1 (Rect.unit (s := S2x7x16x16384) (k0_off17 k 3#32) S1x1x16x256.size (k0_off17_inb k 3))))
    (k0_pay5 (View.ld x5 (Rect.unit (s := S2x7x16384) (k0_off16 k 3#32) S1x1x256.size (k0_off16_inb k 3))) (View.ld x2 (Rect.unit (s := S2x7x16x16384) (k0_off17 k 3#32) S1x1x16x256.size (k0_off17_inb k 3))))
    (k0_pay5 (View.ld x5 (Rect.unit (s := S2x7x16384) (k0_off18 k 3#32) S1x1x256.size (k0_off18_inb k 3))) (View.ld x1 (Rect.unit (s := S2x7x16x16384) (k0_off19 k 3#32) S1x1x16x256.size (k0_off19_inb k 3))))
    (k0_pay5 (View.ld x5 (Rect.unit (s := S2x7x16384) (k0_off18 k 3#32) S1x1x256.size (k0_off18_inb k 3))) (View.ld x2 (Rect.unit (s := S2x7x16x16384) (k0_off19 k 3#32) S1x1x16x256.size (k0_off19_inb k 3))))
    (k0_pay5 (View.ld x5 (Rect.unit (s := S2x7x16384) (k0_off20 k 3#32) S1x1x256.size (k0_off20_inb k 3))) (View.ld x1 (Rect.unit (s := S2x7x16x16384) (k0_off21 k 3#32) S1x1x16x256.size (k0_off21_inb k 3))))
    (k0_pay5 (View.ld x5 (Rect.unit (s := S2x7x16384) (k0_off20 k 3#32) S1x1x256.size (k0_off20_inb k 3))) (View.ld x2 (Rect.unit (s := S2x7x16x16384) (k0_off21 k 3#32) S1x1x16x256.size (k0_off21_inb k 3))))
    (k0_pay5 (View.ld x5 (Rect.unit (s := S2x7x16384) (k0_off22 k 3#32) S1x1x256.size (k0_off22_inb k 3))) (View.ld x1 (Rect.unit (s := S2x7x16x16384) (k0_off23 k 3#32) S1x1x16x256.size (k0_off23_inb k 3))))
    (k0_pay5 (View.ld x5 (Rect.unit (s := S2x7x16384) (k0_off22 k 3#32) S1x1x256.size (k0_off22_inb k 3))) (View.ld x2 (Rect.unit (s := S2x7x16x16384) (k0_off23 k 3#32) S1x1x16x256.size (k0_off23_inb k 3))))
    (k0_pay5 (View.ld x5 (Rect.unit (s := S2x7x16384) (k0_off24 k 3#32) S1x1x256.size (k0_off24_inb k 3))) (View.ld x1 (Rect.unit (s := S2x7x16x16384) (k0_off25 k 3#32) S1x1x16x256.size (k0_off25_inb k 3))))
    (k0_pay5 (View.ld x5 (Rect.unit (s := S2x7x16384) (k0_off24 k 3#32) S1x1x256.size (k0_off24_inb k 3))) (View.ld x2 (Rect.unit (s := S2x7x16x16384) (k0_off25 k 3#32) S1x1x16x256.size (k0_off25_inb k 3))))
    (k0_pay5 (View.ld x5 (Rect.unit (s := S2x7x16384) (k0_off26 k 3#32) S1x1x256.size (k0_off26_inb k 3))) (View.ld x1 (Rect.unit (s := S2x7x16x16384) (k0_off27 k 3#32) S1x1x16x256.size (k0_off27_inb k 3))))
    (k0_pay5 (View.ld x5 (Rect.unit (s := S2x7x16384) (k0_off26 k 3#32) S1x1x256.size (k0_off26_inb k 3))) (View.ld x2 (Rect.unit (s := S2x7x16x16384) (k0_off27 k 3#32) S1x1x16x256.size (k0_off27_inb k 3))))
    (k0_pay5 (View.ld x5 (Rect.unit (s := S2x7x16384) (k0_off28 k 3#32) S1x1x256.size (k0_off28_inb k 3))) (View.ld x1 (Rect.unit (s := S2x7x16x16384) (k0_off29 k 3#32) S1x1x16x256.size (k0_off29_inb k 3))))
    (k0_pay5 (View.ld x5 (Rect.unit (s := S2x7x16384) (k0_off28 k 3#32) S1x1x256.size (k0_off28_inb k 3))) (View.ld x2 (Rect.unit (s := S2x7x16x16384) (k0_off29 k 3#32) S1x1x16x256.size (k0_off29_inb k 3))))
    (View.ld x3 (Rect.unit (s := S2x16x16384) (k0_off30 k 3#32) S1x16x256.size (k0_off30_inb k 3))) (View.ld x4 (Rect.unit (s := S2x16x16384) (k0_off30 k 3#32) S1x16x256.size (k0_off30_inb k 3))) s

/-- The unit's state at the loop's entry: four accumulators popped, which clears them. -/
def start : Mxu F :=
  (((Mxu.init.pop 0 0 320 fits_0_320).pop 0 80 128 fits_80_128).pop 1 0 320 fits_0_320).pop 1 80 128 fits_80_128

/-- One trip: its eight tiles. -/
def trip (x1 x2 : Vec F S2x7x16x16384 .fp8e4m3) (x3 x4 : Vec F S2x16x16384 .i8) (x5 : Vec F S2x7x16384 .f32) (k : Fin k0_t1_loop.trips) (s : Mxu F) : Mxu F :=
  (tile31 x1 x2 x3 x4 x5 k (tile30 x1 x2 x3 x4 x5 k (tile21 x1 x2 x3 x4 x5 k (tile20 x1 x2 x3 x4 x5 k (tile11 x1 x2 x3 x4 x5 k (tile10 x1 x2 x3 x4 x5 k (tile01 x1 x2 x3 x4 x5 k (tile00 x1 x2 x3 x4 x5 k s))))))))

/-- The unit's state before trip `n`: after the four pops that clear it, and the trips before. -/
def stateTo (x1 x2 : Vec F S2x7x16x16384 .fp8e4m3) (x3 x4 : Vec F S2x16x16384 .i8) (x5 : Vec F S2x7x16384 .f32) : ℕ → Mxu F
  | 0 => start
  | n + 1 => if h : n < k0_t1_loop.trips then trip x1 x2 x3 x4 x5 ⟨n, h⟩ (stateTo x1 x2 x3 x4 x5 n) else stateTo x1 x2 x3 x4 x5 n

/-- Every register is empty before every trip: the tile's loading accumulate empties the one it pushes. -/
theorem reg_tile (b : Fin 2) (z0 z1 z2 z3 z4 z5 z6 z7 z8 z9 z10 z11 z12 z13 : FVec F S16x256 .bf16) (ms mn : Vec F S1x16x256 .i8) (s : Mxu F)
    (hq : ∀ q r, s.reg q r = none) (q r : Fin 2) : (tile b z0 z1 z2 z3 z4 z5 z6 z7 z8 z9 z10 z11 z12 z13 ms mn s).reg q r = none := by
  unfold tile
  simp only [reg_accBy, accLhs]
  split
  · rfl
  · rename_i h
    unfold pushed
    split
    · exact hq q r
    · simp only [hq, ite_eq_right_iff]
      intro h'; exact absurd h' h

theorem reg_trip (x1 x2 : Vec F S2x7x16x16384 .fp8e4m3) (x3 x4 : Vec F S2x16x16384 .i8) (x5 : Vec F S2x7x16384 .f32) (k : Fin k0_t1_loop.trips) (s : Mxu F) (hq : ∀ q r, s.reg q r = none) (q r : Fin 2) :
    (trip x1 x2 x3 x4 x5 k s).reg q r = none := by
  unfold trip tile31 tile30 tile21 tile20 tile11 tile10 tile01 tile00
  revert q r
  iterate 8 refine reg_tile _ _ _ _ _ _ _ _ _ _ _ _ _ _ _ _ _ _ ?_
  exact hq

theorem reg_stateTo (x1 x2 : Vec F S2x7x16x16384 .fp8e4m3) (x3 x4 : Vec F S2x16x16384 .i8) (x5 : Vec F S2x7x16384 .f32) (n : ℕ) (q r : Fin 2) : (stateTo x1 x2 x3 x4 x5 n).reg q r = none := by
  induction n generalizing q r with
  | zero => rfl
  | succ n ih =>
    unfold stateTo
    split
    · exact reg_trip _ _ _ _ _ _ _ ih q r
    · exact ih q r

/-- Rows that no accumulator of the body owns stay clear. -/
theorem live_tile (b : Fin 2) (z0 z1 z2 z3 z4 z5 z6 z7 z8 z9 z10 z11 z12 z13 : FVec F S16x256 .bf16) (ms mn : Vec F S1x16x256 .i8) (s : Mxu F)
    (hq : ∀ q (R : Fin 1024), 448 ≤ R.val → s.live q R = false) (q : Fin 2) (R : Fin 1024) (hR : 448 ≤ R.val) :
    (tile b z0 z1 z2 z3 z4 z5 z6 z7 z8 z9 z10 z11 z12 z13 ms mn s).live q R = false := by
  unfold tile
  simp only [accBy, accLhs]
  have hp : ∀ (v : FVec F S256x256 .bf16), (s.pushed b 0 true v).live q R = false := by
    intro v; unfold pushed; split <;> exact hq q R hR
  rw [if_neg (by omega), if_neg (by omega), if_neg (by omega)]
  exact hp _

theorem live_trip (x1 x2 : Vec F S2x7x16x16384 .fp8e4m3) (x3 x4 : Vec F S2x16x16384 .i8) (x5 : Vec F S2x7x16384 .f32) (k : Fin k0_t1_loop.trips) (s : Mxu F) (hq : ∀ q (R : Fin 1024), 448 ≤ R.val → s.live q R = false)
    (q : Fin 2) (R : Fin 1024) (hR : 448 ≤ R.val) : (trip x1 x2 x3 x4 x5 k s).live q R = false := by
  unfold trip tile31 tile30 tile21 tile20 tile11 tile10 tile01 tile00
  revert q R
  iterate 8 refine live_tile _ _ _ _ _ _ _ _ _ _ _ _ _ _ _ _ _ _ ?_
  exact hq

theorem live_stateTo (x1 x2 : Vec F S2x7x16x16384 .fp8e4m3) (x3 x4 : Vec F S2x16x16384 .i8) (x5 : Vec F S2x7x16384 .f32) (n : ℕ) (q : Fin 2) (R : Fin 1024) (hR : 448 ≤ R.val) :
    (stateTo x1 x2 x3 x4 x5 n).live q R = false := by
  induction n generalizing q R with
  | zero =>
    show start.live q R = false
    unfold start
    simp only [pop, init, ite_self]
  | succ n ih =>
    unfold stateTo
    split
    · exact live_trip _ _ _ _ _ _ _ ih q R hR
    · exact ih q R hR

/-- After the four pops nothing is left in the unit. -/
theorem drained_stateTo (x1 x2 : Vec F S2x7x16x16384 .fp8e4m3) (x3 x4 : Vec F S2x16x16384 .i8) (x5 : Vec F S2x7x16384 .f32) (n : ℕ) :
    (((((stateTo x1 x2 x3 x4 x5 n).pop 0 0 320 fits_0_320).pop 0 80 128 fits_80_128).pop 1 0 320 fits_0_320).pop 1 80 128 fits_80_128).Drained := by
  refine ⟨fun q r => ?_, fun q R => ?_⟩
  · show ((stateTo x1 x2 x3 x4 x5 n).reg q r).isNone = true
    rw [reg_stateTo]; rfl
  · simp only [pop]
    by_cases h : 448 ≤ R.val
    · rw [live_stateTo _ _ _ _ _ n q R h]; simp
    · have hq : q = 0 ∨ q = 1 := by omega
      rcases hq with rfl | rfl <;> by_cases h' : R.val < 320 <;> simp <;> omega

/-- The diagonal of a block of sixteen rows: row `g` gives its lanes `16 j + g`. -/
def diagRow (v : FVec F S16x256 .f32) : FVec F S1x1x1x256 .f32 :=
  shapeCast S1x1x1x256 (multiReduction .add [0] S256 (select k0_pay330 v (broadcast S16x256 (Scalar.ofBits .f32 0x00000000#32)))
    0x00000000#32 reduces_S16x256_S256 (.inl rfl) rfl) shapeCasts_S256_S1x1x1x256

/-- The rows popped for unit `b`: the masked ones, and the products of the last two microphones. -/
def wide (s : Mxu F) : Fin 2 → FVec F S320x256 .f32
  | 0 => s.read 0 0 fits_0_320
  | 1 => ((s.pop 0 0 320 fits_0_320).pop 0 80 128 fits_80_128).read 1 0 fits_0_320
def prods (s : Mxu F) : Fin 2 → FVec F S128x256 .f32
  | 0 => (s.pop 0 0 320 fits_0_320).read 0 80 fits_80_128
  | 1 => (((s.pop 0 0 320 fits_0_320).pop 0 80 128 fits_80_128).pop 1 0 320 fits_0_320).read 1 80 fits_80_128

/-- The fifty-six stores of the body, last first. -/
def pieces (w : Fin 2 → FVec F S320x256 .f32) (p : Fin 2 → FVec F S128x256 .f32) : List (View.Piece (Elt F) S1x2x28x256 .f32) :=
  [⟨Rect.unit (s := S1x2x28x256) ![0, 1, 27, 0] S1x1x1x256.size inb_S1x2x28x256_S1x1x1x256_0_1_27_0, diagRow (extractStridedSlice S16x256 ![112, 0] (p 1) slices_S128x256_o112_0_S16x256)⟩,
   ⟨Rect.unit (s := S1x2x28x256) ![0, 1, 26, 0] S1x1x1x256.size inb_S1x2x28x256_S1x1x1x256_0_1_26_0, diagRow (extractStridedSlice S16x256 ![96, 0] (p 1) slices_S128x256_o96_0_S16x256)⟩,
   ⟨Rect.unit (s := S1x2x28x256) ![0, 1, 25, 0] S1x1x1x256.size inb_S1x2x28x256_S1x1x1x256_0_1_25_0, diagRow (extractStridedSlice S16x256 ![80, 0] (p 1) slices_S128x256_o80_0_S16x256)⟩,
   ⟨Rect.unit (s := S1x2x28x256) ![0, 1, 24, 0] S1x1x1x256.size inb_S1x2x28x256_S1x1x1x256_0_1_24_0, diagRow (extractStridedSlice S16x256 ![64, 0] (p 1) slices_S128x256_o64_0_S16x256)⟩,
   ⟨Rect.unit (s := S1x2x28x256) ![0, 1, 23, 0] S1x1x1x256.size inb_S1x2x28x256_S1x1x1x256_0_1_23_0, diagRow (extractStridedSlice S16x256 ![48, 0] (p 1) slices_S128x256_o48_0_S16x256)⟩,
   ⟨Rect.unit (s := S1x2x28x256) ![0, 1, 22, 0] S1x1x1x256.size inb_S1x2x28x256_S1x1x1x256_0_1_22_0, diagRow (extractStridedSlice S16x256 ![32, 0] (p 1) slices_S128x256_o32_0_S16x256)⟩,
   ⟨Rect.unit (s := S1x2x28x256) ![0, 1, 21, 0] S1x1x1x256.size inb_S1x2x28x256_S1x1x1x256_0_1_21_0, diagRow (extractStridedSlice S16x256 ![16, 0] (p 1) slices_S128x256_o16_0_S16x256)⟩,
   ⟨Rect.unit (s := S1x2x28x256) ![0, 1, 20, 0] S1x1x1x256.size inb_S1x2x28x256_S1x1x1x256_0_1_20_0, diagRow (extractStridedSlice S16x256 ![0, 0] (p 1) slices_S128x256_o0_0_S16x256)⟩,
   ⟨Rect.unit (s := S1x2x28x256) ![0, 1, 19, 0] S1x1x1x256.size inb_S1x2x28x256_S1x1x1x256_0_1_19_0, diagRow (extractStridedSlice S16x256 ![304, 0] (w 1) slices_S320x256_o304_0_S16x256)⟩,
   ⟨Rect.unit (s := S1x2x28x256) ![0, 1, 18, 0] S1x1x1x256.size inb_S1x2x28x256_S1x1x1x256_0_1_18_0, diagRow (extractStridedSlice S16x256 ![288, 0] (w 1) slices_S320x256_o288_0_S16x256)⟩,
   ⟨Rect.unit (s := S1x2x28x256) ![0, 1, 17, 0] S1x1x1x256.size inb_S1x2x28x256_S1x1x1x256_0_1_17_0, diagRow (extractStridedSlice S16x256 ![272, 0] (w 1) slices_S320x256_o272_0_S16x256)⟩,
   ⟨Rect.unit (s := S1x2x28x256) ![0, 1, 16, 0] S1x1x1x256.size inb_S1x2x28x256_S1x1x1x256_0_1_16_0, diagRow (extractStridedSlice S16x256 ![256, 0] (w 1) slices_S320x256_o256_0_S16x256)⟩,
   ⟨Rect.unit (s := S1x2x28x256) ![0, 1, 15, 0] S1x1x1x256.size inb_S1x2x28x256_S1x1x1x256_0_1_15_0, diagRow (extractStridedSlice S16x256 ![240, 0] (w 1) slices_S320x256_o240_0_S16x256)⟩,
   ⟨Rect.unit (s := S1x2x28x256) ![0, 1, 14, 0] S1x1x1x256.size inb_S1x2x28x256_S1x1x1x256_0_1_14_0, diagRow (extractStridedSlice S16x256 ![224, 0] (w 1) slices_S320x256_o224_0_S16x256)⟩,
   ⟨Rect.unit (s := S1x2x28x256) ![0, 1, 13, 0] S1x1x1x256.size inb_S1x2x28x256_S1x1x1x256_0_1_13_0, diagRow (extractStridedSlice S16x256 ![208, 0] (w 1) slices_S320x256_o208_0_S16x256)⟩,
   ⟨Rect.unit (s := S1x2x28x256) ![0, 1, 12, 0] S1x1x1x256.size inb_S1x2x28x256_S1x1x1x256_0_1_12_0, diagRow (extractStridedSlice S16x256 ![192, 0] (w 1) slices_S320x256_o192_0_S16x256)⟩,
   ⟨Rect.unit (s := S1x2x28x256) ![0, 1, 11, 0] S1x1x1x256.size inb_S1x2x28x256_S1x1x1x256_0_1_11_0, diagRow (extractStridedSlice S16x256 ![176, 0] (w 1) slices_S320x256_o176_0_S16x256)⟩,
   ⟨Rect.unit (s := S1x2x28x256) ![0, 1, 10, 0] S1x1x1x256.size inb_S1x2x28x256_S1x1x1x256_0_1_10_0, diagRow (extractStridedSlice S16x256 ![160, 0] (w 1) slices_S320x256_o160_0_S16x256)⟩,
   ⟨Rect.unit (s := S1x2x28x256) ![0, 1, 9, 0] S1x1x1x256.size inb_S1x2x28x256_S1x1x1x256_0_1_9_0, diagRow (extractStridedSlice S16x256 ![144, 0] (w 1) slices_S320x256_o144_0_S16x256)⟩,
   ⟨Rect.unit (s := S1x2x28x256) ![0, 1, 8, 0] S1x1x1x256.size inb_S1x2x28x256_S1x1x1x256_0_1_8_0, diagRow (extractStridedSlice S16x256 ![128, 0] (w 1) slices_S320x256_o128_0_S16x256)⟩,
   ⟨Rect.unit (s := S1x2x28x256) ![0, 1, 7, 0] S1x1x1x256.size inb_S1x2x28x256_S1x1x1x256_0_1_7_0, diagRow (extractStridedSlice S16x256 ![112, 0] (w 1) slices_S320x256_o112_0_S16x256)⟩,
   ⟨Rect.unit (s := S1x2x28x256) ![0, 1, 6, 0] S1x1x1x256.size inb_S1x2x28x256_S1x1x1x256_0_1_6_0, diagRow (extractStridedSlice S16x256 ![96, 0] (w 1) slices_S320x256_o96_0_S16x256)⟩,
   ⟨Rect.unit (s := S1x2x28x256) ![0, 1, 5, 0] S1x1x1x256.size inb_S1x2x28x256_S1x1x1x256_0_1_5_0, diagRow (extractStridedSlice S16x256 ![80, 0] (w 1) slices_S320x256_o80_0_S16x256)⟩,
   ⟨Rect.unit (s := S1x2x28x256) ![0, 1, 4, 0] S1x1x1x256.size inb_S1x2x28x256_S1x1x1x256_0_1_4_0, diagRow (extractStridedSlice S16x256 ![64, 0] (w 1) slices_S320x256_o64_0_S16x256)⟩,
   ⟨Rect.unit (s := S1x2x28x256) ![0, 1, 3, 0] S1x1x1x256.size inb_S1x2x28x256_S1x1x1x256_0_1_3_0, diagRow (extractStridedSlice S16x256 ![48, 0] (w 1) slices_S320x256_o48_0_S16x256)⟩,
   ⟨Rect.unit (s := S1x2x28x256) ![0, 1, 2, 0] S1x1x1x256.size inb_S1x2x28x256_S1x1x1x256_0_1_2_0, diagRow (extractStridedSlice S16x256 ![32, 0] (w 1) slices_S320x256_o32_0_S16x256)⟩,
   ⟨Rect.unit (s := S1x2x28x256) ![0, 1, 1, 0] S1x1x1x256.size inb_S1x2x28x256_S1x1x1x256_0_1_1_0, diagRow (extractStridedSlice S16x256 ![16, 0] (w 1) slices_S320x256_o16_0_S16x256)⟩,
   ⟨Rect.unit (s := S1x2x28x256) ![0, 1, 0, 0] S1x1x1x256.size inb_S1x2x28x256_S1x1x1x256_0_1_0_0, diagRow (extractStridedSlice S16x256 ![0, 0] (w 1) slices_S320x256_o0_0_S16x256)⟩,
   ⟨Rect.unit (s := S1x2x28x256) ![0, 0, 27, 0] S1x1x1x256.size inb_S1x2x28x256_S1x1x1x256_0_0_27_0, diagRow (extractStridedSlice S16x256 ![112, 0] (p 0) slices_S128x256_o112_0_S16x256)⟩,
   ⟨Rect.unit (s := S1x2x28x256) ![0, 0, 26, 0] S1x1x1x256.size inb_S1x2x28x256_S1x1x1x256_0_0_26_0, diagRow (extractStridedSlice S16x256 ![96, 0] (p 0) slices_S128x256_o96_0_S16x256)⟩,
   ⟨Rect.unit (s := S1x2x28x256) ![0, 0, 25, 0] S1x1x1x256.size inb_S1x2x28x256_S1x1x1x256_0_0_25_0, diagRow (extractStridedSlice S16x256 ![80, 0] (p 0) slices_S128x256_o80_0_S16x256)⟩,
   ⟨Rect.unit (s := S1x2x28x256) ![0, 0, 24, 0] S1x1x1x256.size inb_S1x2x28x256_S1x1x1x256_0_0_24_0, diagRow (extractStridedSlice S16x256 ![64, 0] (p 0) slices_S128x256_o64_0_S16x256)⟩,
   ⟨Rect.unit (s := S1x2x28x256) ![0, 0, 23, 0] S1x1x1x256.size inb_S1x2x28x256_S1x1x1x256_0_0_23_0, diagRow (extractStridedSlice S16x256 ![48, 0] (p 0) slices_S128x256_o48_0_S16x256)⟩,
   ⟨Rect.unit (s := S1x2x28x256) ![0, 0, 22, 0] S1x1x1x256.size inb_S1x2x28x256_S1x1x1x256_0_0_22_0, diagRow (extractStridedSlice S16x256 ![32, 0] (p 0) slices_S128x256_o32_0_S16x256)⟩,
   ⟨Rect.unit (s := S1x2x28x256) ![0, 0, 21, 0] S1x1x1x256.size inb_S1x2x28x256_S1x1x1x256_0_0_21_0, diagRow (extractStridedSlice S16x256 ![16, 0] (p 0) slices_S128x256_o16_0_S16x256)⟩,
   ⟨Rect.unit (s := S1x2x28x256) ![0, 0, 20, 0] S1x1x1x256.size inb_S1x2x28x256_S1x1x1x256_0_0_20_0, diagRow (extractStridedSlice S16x256 ![0, 0] (p 0) slices_S128x256_o0_0_S16x256)⟩,
   ⟨Rect.unit (s := S1x2x28x256) ![0, 0, 19, 0] S1x1x1x256.size inb_S1x2x28x256_S1x1x1x256_0_0_19_0, diagRow (extractStridedSlice S16x256 ![304, 0] (w 0) slices_S320x256_o304_0_S16x256)⟩,
   ⟨Rect.unit (s := S1x2x28x256) ![0, 0, 18, 0] S1x1x1x256.size inb_S1x2x28x256_S1x1x1x256_0_0_18_0, diagRow (extractStridedSlice S16x256 ![288, 0] (w 0) slices_S320x256_o288_0_S16x256)⟩,
   ⟨Rect.unit (s := S1x2x28x256) ![0, 0, 17, 0] S1x1x1x256.size inb_S1x2x28x256_S1x1x1x256_0_0_17_0, diagRow (extractStridedSlice S16x256 ![272, 0] (w 0) slices_S320x256_o272_0_S16x256)⟩,
   ⟨Rect.unit (s := S1x2x28x256) ![0, 0, 16, 0] S1x1x1x256.size inb_S1x2x28x256_S1x1x1x256_0_0_16_0, diagRow (extractStridedSlice S16x256 ![256, 0] (w 0) slices_S320x256_o256_0_S16x256)⟩,
   ⟨Rect.unit (s := S1x2x28x256) ![0, 0, 15, 0] S1x1x1x256.size inb_S1x2x28x256_S1x1x1x256_0_0_15_0, diagRow (extractStridedSlice S16x256 ![240, 0] (w 0) slices_S320x256_o240_0_S16x256)⟩,
   ⟨Rect.unit (s := S1x2x28x256) ![0, 0, 14, 0] S1x1x1x256.size inb_S1x2x28x256_S1x1x1x256_0_0_14_0, diagRow (extractStridedSlice S16x256 ![224, 0] (w 0) slices_S320x256_o224_0_S16x256)⟩,
   ⟨Rect.unit (s := S1x2x28x256) ![0, 0, 13, 0] S1x1x1x256.size inb_S1x2x28x256_S1x1x1x256_0_0_13_0, diagRow (extractStridedSlice S16x256 ![208, 0] (w 0) slices_S320x256_o208_0_S16x256)⟩,
   ⟨Rect.unit (s := S1x2x28x256) ![0, 0, 12, 0] S1x1x1x256.size inb_S1x2x28x256_S1x1x1x256_0_0_12_0, diagRow (extractStridedSlice S16x256 ![192, 0] (w 0) slices_S320x256_o192_0_S16x256)⟩,
   ⟨Rect.unit (s := S1x2x28x256) ![0, 0, 11, 0] S1x1x1x256.size inb_S1x2x28x256_S1x1x1x256_0_0_11_0, diagRow (extractStridedSlice S16x256 ![176, 0] (w 0) slices_S320x256_o176_0_S16x256)⟩,
   ⟨Rect.unit (s := S1x2x28x256) ![0, 0, 10, 0] S1x1x1x256.size inb_S1x2x28x256_S1x1x1x256_0_0_10_0, diagRow (extractStridedSlice S16x256 ![160, 0] (w 0) slices_S320x256_o160_0_S16x256)⟩,
   ⟨Rect.unit (s := S1x2x28x256) ![0, 0, 9, 0] S1x1x1x256.size inb_S1x2x28x256_S1x1x1x256_0_0_9_0, diagRow (extractStridedSlice S16x256 ![144, 0] (w 0) slices_S320x256_o144_0_S16x256)⟩,
   ⟨Rect.unit (s := S1x2x28x256) ![0, 0, 8, 0] S1x1x1x256.size inb_S1x2x28x256_S1x1x1x256_0_0_8_0, diagRow (extractStridedSlice S16x256 ![128, 0] (w 0) slices_S320x256_o128_0_S16x256)⟩,
   ⟨Rect.unit (s := S1x2x28x256) ![0, 0, 7, 0] S1x1x1x256.size inb_S1x2x28x256_S1x1x1x256_0_0_7_0, diagRow (extractStridedSlice S16x256 ![112, 0] (w 0) slices_S320x256_o112_0_S16x256)⟩,
   ⟨Rect.unit (s := S1x2x28x256) ![0, 0, 6, 0] S1x1x1x256.size inb_S1x2x28x256_S1x1x1x256_0_0_6_0, diagRow (extractStridedSlice S16x256 ![96, 0] (w 0) slices_S320x256_o96_0_S16x256)⟩,
   ⟨Rect.unit (s := S1x2x28x256) ![0, 0, 5, 0] S1x1x1x256.size inb_S1x2x28x256_S1x1x1x256_0_0_5_0, diagRow (extractStridedSlice S16x256 ![80, 0] (w 0) slices_S320x256_o80_0_S16x256)⟩,
   ⟨Rect.unit (s := S1x2x28x256) ![0, 0, 4, 0] S1x1x1x256.size inb_S1x2x28x256_S1x1x1x256_0_0_4_0, diagRow (extractStridedSlice S16x256 ![64, 0] (w 0) slices_S320x256_o64_0_S16x256)⟩,
   ⟨Rect.unit (s := S1x2x28x256) ![0, 0, 3, 0] S1x1x1x256.size inb_S1x2x28x256_S1x1x1x256_0_0_3_0, diagRow (extractStridedSlice S16x256 ![48, 0] (w 0) slices_S320x256_o48_0_S16x256)⟩,
   ⟨Rect.unit (s := S1x2x28x256) ![0, 0, 2, 0] S1x1x1x256.size inb_S1x2x28x256_S1x1x1x256_0_0_2_0, diagRow (extractStridedSlice S16x256 ![32, 0] (w 0) slices_S320x256_o32_0_S16x256)⟩,
   ⟨Rect.unit (s := S1x2x28x256) ![0, 0, 1, 0] S1x1x1x256.size inb_S1x2x28x256_S1x1x1x256_0_0_1_0, diagRow (extractStridedSlice S16x256 ![16, 0] (w 0) slices_S320x256_o16_0_S16x256)⟩,
   ⟨Rect.unit (s := S1x2x28x256) ![0, 0, 0, 0] S1x1x1x256.size inb_S1x2x28x256_S1x1x1x256_0_0_0_0, diagRow (extractStridedSlice S16x256 ![0, 0] (w 0) slices_S320x256_o0_0_S16x256)⟩]

/-- The output window's buffer after the body. -/
def covOut (x1 x2 : Vec F S2x7x16x16384 .fp8e4m3) (x3 x4 : Vec F S2x16x16384 .i8) (x5 : Vec F S2x7x16384 .f32) : Vec F S1x2x28x256 .f32 :=
  View.canon (pieces (wide (stateTo x1 x2 x3 x4 x5 k0_t1_loop.trips)) (prods (stateTo x1 x2 x3 x4 x5 k0_t1_loop.trips)))

/-- The stores tile the buffer. -/
theorem cover (w : Fin 2 → FVec F S320x256 .f32) (p : Fin 2 → FVec F S128x256 .f32) (y : S1x2x28x256.Idx) :
    ∃ pc ∈ pieces w p, y ∈ pc.1.set :=
  View.cover_of_tiled (pieces w p) S1x1x1x256.size (by rfl) y

/-- Before trip `k`: the unit at `stateTo k`, the five inputs held. -/
def inv (c : Dev nD) (arg1 : Memref sig .tc .vmem S2x7x16x16384 .fp8e4m3) (harg1 : arg1.IsWhole) (arg2 : Memref sig .tc .vmem S2x7x16x16384 .fp8e4m3) (harg2 : arg2.IsWhole) (arg3 : Memref sig .tc .vmem S2x16x16384 .i8) (harg3 : arg3.IsWhole) (arg4 : Memref sig .tc .vmem S2x16x16384 .i8) (harg4 : arg4.IsWhole) (arg5 : Memref sig .tc .vmem S2x7x16384 .f32) (harg5 : arg5.IsWhole) (arg6 : Memref sig .tc .vmem S1x2x28x256 .f32) (harg6 : arg6.IsWhole)
    (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (k : ℕ) (s : Mxu F) : sProp 𝕄 :=
  iprop(⌜s = stateTo (arg1.view.read (Elt F) f1) (arg2.view.read (Elt F) f2) (arg3.view.read (Elt F) f3) (arg4.view.read (Elt F) f4) (arg5.view.read (Elt F) f5) k⌝ ∗ (arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5))

set_option maxHeartbeats 8000000 in
theorem cov_trip (c : Dev nD) (i : grid0.Coords) (arg1 : Memref sig .tc .vmem S2x7x16x16384 .fp8e4m3) (harg1 : arg1.IsWhole) (arg2 : Memref sig .tc .vmem S2x7x16x16384 .fp8e4m3) (harg2 : arg2.IsWhole) (arg3 : Memref sig .tc .vmem S2x16x16384 .i8) (harg3 : arg3.IsWhole) (arg4 : Memref sig .tc .vmem S2x16x16384 .i8) (harg4 : arg4.IsWhole) (arg5 : Memref sig .tc .vmem S2x7x16384 .f32) (harg5 : arg5.IsWhole) (arg6 : Memref sig .tc .vmem S1x2x28x256 .f32) (harg6 : arg6.IsWhole)
    (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (k : Fin k0_t1_loop.trips) (s : Mxu F) :
    inv c arg1 harg1 arg2 harg2 arg3 harg3 arg4 harg4 arg5 harg5 arg6 harg6 f1 f2 f3 f4 f5 k s
      ⊢ wp frame (wpE (defs₀ (F := F)) Variants.none (c : Thread nD τ) none) Set.univ (k0_t1_body (F := F) i arg1 harg1 arg2 harg2 arg3 harg3 arg4 harg4 arg5 harg5 arg6 harg6 k s)
          (fun s' => inv c arg1 harg1 arg2 harg2 arg3 harg3 arg4 harg4 arg5 harg5 arg6 harg6 f1 f2 f3 f4 f5 (k + 1) s') := by
  unfold inv
  iintro ⟨%hs, H1, H2, H3, H4, H5⟩
  have hr := reg_stateTo (arg1.view.read (Elt F) f1) (arg2.view.read (Elt F) f2) (arg3.view.read (Elt F) f3) (arg4.view.read (Elt F) f4) (arg5.view.read (Elt F) f5) k
  rw [← hs] at hr
  have hst : stateTo (arg1.view.read (Elt F) f1) (arg2.view.read (Elt F) f2) (arg3.view.read (Elt F) f3) (arg4.view.read (Elt F) f4) (arg5.view.read (Elt F) f5) (k + 1) = trip (arg1.view.read (Elt F) f1) (arg2.view.read (Elt F) f2) (arg3.view.read (Elt F) f3) (arg4.view.read (Elt F) f4) (arg5.view.read (Elt F) f5) k s := by
    rw [hs, stateTo, dif_pos k.isLt]
  rw [hst]
  clear hst hs
  obtain ⟨reg, gmr, acc, live, clean⟩ := s
  obtain rfl : reg = fun _ _ => none := funext fun q => funext fun r => hr q r
  unfold k0_t1_body
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
  sl_exec (disch := exact pushOk_of_none _ _ _ _ rfl)
  sl_step
  isplitr; · ipureintro; rfl
  isplitl [H1]; · iexact H1
  isplitl [H2]; · iexact H2
  isplitl [H3]; · iexact H3
  isplitl [H4]; · iexact H4
  iexact H5

end Cert.KernelIdeal.Cov

end
-- ==== Proof.CovRunIdeal.lean ====
/-
  The covariance call's body as one triple: `cov_sound` runs the loop by its invariant (`cov_trip`), then the pops and the stores.
-/
module

public import proofs.«01_k».proof.Proof.CovIdeal
public import Idealize.ShloMosaic.Lib.Mxu.Lemmas
public import Idealize.ShloMosaic.Lib.Pipeline.FrameBody
public import Idealize.ShloMosaic.Lib.Tactic

@[expose] public section

set_option maxRecDepth 16384

noncomputable section

namespace Cert.KernelIdeal.Cov

open Cert.KernelIdeal Cert.KernelIdeal.Gen
open Idealize.ShloMosaic Idealize.ShloMosaic.TcCoe Idealize.ShloMosaic.Tactic Idealize.ShloMosaic.Mxu
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The body on whole staging buffers: the inputs as they were, the output at `covOut` of them. -/
theorem cov_sound (c : Dev nD) (i : grid0.Coords) (arg1 : Memref sig .tc .vmem S2x7x16x16384 .fp8e4m3) (harg1 : arg1.IsWhole) (arg2 : Memref sig .tc .vmem S2x7x16x16384 .fp8e4m3) (harg2 : arg2.IsWhole) (arg3 : Memref sig .tc .vmem S2x16x16384 .i8) (harg3 : arg3.IsWhole) (arg4 : Memref sig .tc .vmem S2x16x16384 .i8) (harg4 : arg4.IsWhole) (arg5 : Memref sig .tc .vmem S2x7x16384 .f32) (harg5 : arg5.IsWhole) (arg6 : Memref sig .tc .vmem S1x2x28x256 .f32) (harg6 : arg6.IsWhole)
    (x1 x2 : Vec F S2x7x16x16384 .fp8e4m3) (x3 x4 : Vec F S2x16x16384 .i8) (x5 : Vec F S2x7x16384 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (covOut x1 x2 x3 x4 x5)) -∗ K ⟨⟩))
      ⊢ wp frame (wpE (defs₀ (F := F)) Variants.none (c : Thread nD τ) none) Set.univ (cc0_mvdr_cov i arg1 harg1 arg2 harg2 arg3 harg3 arg4 harg4 arg5 harg5 arg6 harg6) K := by
  simp only [cc0_mvdr_cov_eq_skeleton]; unfold cc0_mvdr_cov_skel
  simp only [k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_for (inv c arg1 harg1 arg2 harg2 arg3 harg3 arg4 harg4 arg5 harg5 arg6 harg6 f1 f2 f3 f4 f5) $$ [H1 H2 H3 H4 H5]
  case region =>
    intro k s
    exact cov_trip c i arg1 harg1 arg2 harg2 arg3 harg3 arg4 harg4 arg5 harg5 arg6 harg6 f1 f2 f3 f4 f5 k s
  · unfold inv; isplitr; · ipureintro; rw [stateTo, start]; rfl
    isplitl [H1]; · iexact H1
    isplitl [H2]; · iexact H2
    isplitl [H3]; · iexact H3
    isplitl [H4]; · iexact H4
    iexact H5
  iintro %s HI
  unfold inv; icases HI with ⟨%hs, H1, H2, H3, H4, H5⟩
  have hex : ((((s.pop 0 0 320 fits_0_320).pop 0 80 128 fits_80_128).pop 1 0 320 fits_0_320).pop 1 80 128 fits_80_128).Drained := by
    rw [hs]; exact drained_stateTo (arg1.view.read (Elt F) f1) (arg2.view.read (Elt F) f2) (arg3.view.read (Elt F) f3) (arg4.view.read (Elt F) f4) (arg5.view.read (Elt F) f5) _
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  unfold covOut
  rw [show k0_t1_loop.trips = (k0_t1_loop.trips : ℕ) from rfl, ← hs]
  exact View.read_writes_eq_canon _ _ _ (cover (wide s) (prods s))

end Cert.KernelIdeal.Cov

end
-- ==== Proof.SolveIdeal.lean ====
/-
  The solve call (`mvdr_solve`) of one program: its body on any whole staging buffers.

  The covariance matrices it stores are given entry by entry (`phiRe`, `phiIm`): each is two rows of the first call's array,
  added or subtracted and scaled by 1/255. The weights it stores besides are some array `W`, fixed by the two inputs.
-/
module

public import proofs.«01_k».proof.Proof.Gen.KernelIdeal.Loops
public import proofs.«01_k».proof.Proof.Gen.KernelIdeal.Launch
public import Idealize.ShloMosaic.Lib.Pipeline.FrameBody
public import Idealize.ShloMosaic.Lib.Tactic

@[expose] public section

set_option maxRecDepth 16384

noncomputable section

namespace Cert.KernelIdeal.Solve

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

theorem inb_row (r k : ℕ) (hr : r < 28) (hk : k < 16) (a) : (![r, k, 0, 0] : Fin 4 → ℕ) a + S1x1x2x528.size a ≤ S28x16x2x528.size a := by
  fin_cases a <;> simp [S1x1x2x528, S28x16x2x528] <;> omega

/-- Row `r`, lane `k` of the first call's array: one number per batch and frequency. -/
def row (x : Vec F S28x16x2x528 .f32) (r k : ℕ) (hr : r < 28) (hk : k < 16) : Vec F S1x1x2x528 .f32 :=
  View.ld x (Rect.unit (s := S28x16x2x528) ![r, k, 0, 0] S1x1x2x528.size (inb_row r k hr hk))

/-- Where entry `(c, d)`, `c ≤ d`, of mask `m`'s matrix lies: the two rows of its real part and their lanes. -/
def reAt (m : Fin 2) (c d : Fin 7) : (ℕ × ℕ) × (ℕ × ℕ) :=
  if c.val < 5 then ((10 * m.val + 2 * c.val, 2 * d.val), (10 * m.val + 2 * c.val + 1, 2 * d.val + 1))
  else if c.val = d.val then ((20 + 2 * (c.val - 5), 14 + m.val), (20 + 2 * (c.val - 5) + 1, 14 + m.val))
  else ((24, 14 + m.val), (25, 14 + m.val))

/-- The same of its imaginary part. -/
def imAt (m : Fin 2) (c d : Fin 7) : (ℕ × ℕ) × (ℕ × ℕ) :=
  if c.val < 5 then ((10 * m.val + 2 * c.val + 1, 2 * d.val), (10 * m.val + 2 * c.val, 2 * d.val + 1))
  else ((26, 14 + m.val), (27, 14 + m.val))

theorem reAt_lt : ∀ (m : Fin 2) (c d : Fin 7), (reAt m c d).1.1 < 28 ∧ (reAt m c d).1.2 < 16 ∧ (reAt m c d).2.1 < 28 ∧ (reAt m c d).2.2 < 16 := by
  decide

theorem imAt_lt : ∀ (m : Fin 2) (c d : Fin 7), (imAt m c d).1.1 < 28 ∧ (imAt m c d).1.2 < 16 ∧ (imAt m c d).2.1 < 28 ∧ (imAt m c d).2.2 < 16 := by
  decide

/-- The real part of an entry on or above the diagonal. -/
def reUp (x : Vec F S28x16x2x528 .f32) (m : Fin 2) (c d : Fin 7) : FVec F S2x528 .f32 :=
  k1_pay2 (row x _ _ (reAt_lt m c d).1 (reAt_lt m c d).2.1) (row x _ _ (reAt_lt m c d).2.2.1 (reAt_lt m c d).2.2.2)

/-- The imaginary part of an entry on or above the diagonal: nought on the last two diagonal entries. -/
def imUp (x : Vec F S28x16x2x528 .f32) (m : Fin 2) (c d : Fin 7) : FVec F S2x528 .f32 :=
  if 5 ≤ c.val ∧ c.val = d.val then k1_pay64 (F := F)
  else k1_pay3 (row x _ _ (imAt_lt m c d).1 (imAt_lt m c d).2.1) (row x _ _ (imAt_lt m c d).2.2.1 (imAt_lt m c d).2.2.2)

/-- The real part of entry `(c, d)`: below the diagonal that of `(d, c)`. -/
def phiRe (x : Vec F S28x16x2x528 .f32) (m : Fin 2) (c d : Fin 7) : FVec F S2x528 .f32 :=
  if c.val ≤ d.val then reUp x m c d else reUp x m d c

/-- The imaginary part of entry `(c, d)`: below the diagonal that of `(d, c)` negated. -/
def phiIm (x : Vec F S28x16x2x528 .f32) (m : Fin 2) (c d : Fin 7) : FVec F S2x528 .f32 :=
  if c.val ≤ d.val then imUp x m c d else k1_pay175 (imUp x m d c) (Scalar.ofBits .f32 0x00000000#32)

/-- The entries in the order of their stores, last first. -/
def order : List (Fin 7 × Fin 7) :=
  [(6, 6), (6, 5), (6, 4), (6, 3), (6, 2), (6, 1), (6, 0), (5, 6), (5, 5), (5, 4), (5, 3), (5, 2), (5, 1), (5, 0), (4, 6), (4, 5), (4, 4), (4, 3), (4, 2), (4, 1), (4, 0), (3, 6), (3, 5), (3, 4), (3, 3), (3, 2), (3, 1), (3, 0), (2, 6), (2, 5), (2, 4), (2, 3), (2, 2), (2, 1), (2, 0), (1, 6), (1, 5), (1, 4), (1, 3), (1, 2), (1, 1), (1, 0), (0, 6), (0, 5), (0, 4), (0, 3), (0, 2), (0, 1), (0, 0)]

theorem inb_entry (p : Fin 7 × Fin 7) (a) : (![p.1.val, p.2.val, 0, 0] : Fin 4 → ℕ) a + S1x1x2x513.size a ≤ S7x7x2x513.size a := by
  have := p.1.isLt; have := p.2.isLt
  fin_cases a <;> simp [S1x1x2x513, S7x7x2x513] <;> omega

/-- One store of a matrix: the first 513 frequencies of one entry. -/
def piece (e : Fin 7 → Fin 7 → FVec F S2x528 .f32) (p : Fin 7 × Fin 7) : View.Piece (Elt F) S7x7x2x513 .f32 :=
  ⟨Rect.unit (s := S7x7x2x513) ![p.1.val, p.2.val, 0, 0] S1x1x2x513.size (inb_entry p), k1_pay176 (e p.1 p.2)⟩

/-- A matrix's stores, last first. -/
def pieces (e : Fin 7 → Fin 7 → FVec F S2x528 .f32) : List (View.Piece (Elt F) S7x7x2x513 .f32) := order.map (piece e)

/-- The stores tile the buffer. -/
theorem cover (e : Fin 7 → Fin 7 → FVec F S2x528 .f32) (y : S7x7x2x513.Idx) : ∃ pc ∈ pieces e, y ∈ pc.1.set :=
  View.cover_of_tiled (pieces e) S1x1x2x513.size (by rfl) y

/-- A matrix's buffer after the body. -/
def matOut (e : Fin 7 → Fin 7 → FVec F S2x528 .f32) : Vec F S7x7x2x513 .f32 := View.canon (pieces e)

set_option maxHeartbeats 20000000 in
/-- The body on whole staging buffers: the two inputs as they were, the weights at some `W` the inputs fix, the four matrices
    at `phiRe` and `phiIm` of the first input. -/
theorem solve_sound (c : Dev nD) (arg0 : Memref sig .tc .vmem S28x16x2x528 .f32) (harg0 : arg0.IsWhole) (arg1 : Memref sig .tc .vmem S2x1 .i32) (harg1 : arg1.IsWhole) (arg2 : Memref sig .tc .vmem S14x2x528 .f32) (harg2 : arg2.IsWhole) (arg3 : Memref sig .tc .vmem S7x7x2x513 .f32) (harg3 : arg3.IsWhole) (arg4 : Memref sig .tc .vmem S7x7x2x513 .f32) (harg4 : arg4.IsWhole) (arg5 : Memref sig .tc .vmem S7x7x2x513 .f32) (harg5 : arg5.IsWhole) (arg6 : Memref sig .tc .vmem S7x7x2x513 .f32) (harg6 : arg6.IsWhole)
    (f0 : Buf (Elt F) (arg0.view.loc (c : Thread nD τ))) (f1 : Buf (Elt F) (arg1.view.loc (c : Thread nD τ))) :
    ∃ W : Vec F S14x2x528 .f32, ∀ K : PUnit → sProp 𝕄,
    iprop((arg0.view.loc (c : Thread nD τ) ↦[arg0.view.set]{fullShare} f0) ∗ (arg1.view.loc (c : Thread nD τ) ↦[arg1.view.set]{fullShare} f1) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
        ∗ (iprop((arg0.view.loc (c : Thread nD τ) ↦[arg0.view.set]{fullShare} f0) ∗ (arg1.view.loc (c : Thread nD τ) ↦[arg1.view.set]{fullShare} f1) ∗ owns (c : Thread nD τ) arg2 fullShare W
            ∗ owns (c : Thread nD τ) arg3 fullShare (matOut (phiRe (arg0.view.read (Elt F) f0) 0)) ∗ owns (c : Thread nD τ) arg4 fullShare (matOut (phiIm (arg0.view.read (Elt F) f0) 0))
            ∗ owns (c : Thread nD τ) arg5 fullShare (matOut (phiRe (arg0.view.read (Elt F) f0) 1)) ∗ owns (c : Thread nD τ) arg6 fullShare (matOut (phiIm (arg0.view.read (Elt F) f0) 1))) -∗ K ⟨⟩))
      ⊢ wp frame (wpE (defs₀ (F := F)) Variants.none (c : Thread nD τ) none) Set.univ (cc1_mvdr_solve arg0 harg0 arg1 harg1 arg2 harg2 arg3 harg3 arg4 harg4 arg5 harg5 arg6 harg6) K := by
  apply Exists.intro
  intro K
  simp only [cc1_mvdr_solve_eq_skeleton]; unfold cc1_mvdr_solve_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton, k1_part59_eq_skeleton, k1_part60_eq_skeleton, k1_part61_eq_skeleton, k1_part62_eq_skeleton, k1_part63_eq_skeleton, k1_part64_eq_skeleton, k1_part65_eq_skeleton, k1_part66_eq_skeleton, k1_part67_eq_skeleton, k1_part68_eq_skeleton, k1_part69_eq_skeleton, k1_part70_eq_skeleton, k1_part71_eq_skeleton, k1_part72_eq_skeleton, k1_part73_eq_skeleton, k1_part74_eq_skeleton, k1_part75_eq_skeleton, k1_part76_eq_skeleton, k1_part77_eq_skeleton, k1_part78_eq_skeleton, k1_part79_eq_skeleton, k1_part80_eq_skeleton, k1_part81_eq_skeleton, k1_part82_eq_skeleton, k1_part83_eq_skeleton, k1_part84_eq_skeleton, k1_part85_eq_skeleton, k1_part86_eq_skeleton, k1_part87_eq_skeleton, k1_part88_eq_skeleton, k1_part89_eq_skeleton]
  unfold owns
  iintro ⟨H0, H1, ⟨%d2, %f2, -, H2⟩, ⟨%d3, %f3, -, H3⟩, ⟨%d4, %f4, -, H4⟩, ⟨%d5, %f5, -, H5⟩, ⟨%d6, %f6, -, H6⟩, Hk⟩
  sl_exec
  sl_step
  iapply Hk
  isplitl [H0]; · iexact H0
  isplitl [H1]; · iexact H1
  isplitl [H2]
  · iexists _; isplitr
    swap; · iexact H2
    ipureintro
    refine View.read_writes_eq_canon _ _ _ fun y => ?_
    exact View.cover_of_tiled (s := S14x2x528) _ S1x2x528.size (by rfl) y
  isplitl [H3]
  · iexists _; isplitr
    swap; · iexact H3
    ipureintro
    exact View.read_writes_eq_canon _ _ _ (cover (phiRe (arg0.view.read (Elt F) f0) 0))
  isplitl [H4]
  · iexists _; isplitr
    swap; · iexact H4
    ipureintro
    exact View.read_writes_eq_canon _ _ _ (cover (phiIm (arg0.view.read (Elt F) f0) 0))
  isplitl [H5]
  · iexists _; isplitr
    swap; · iexact H5
    ipureintro
    exact View.read_writes_eq_canon _ _ _ (cover (phiRe (arg0.view.read (Elt F) f0) 1))
  iexists _; isplitr
  swap; · iexact H6
  ipureintro
  exact View.read_writes_eq_canon _ _ _ (cover (phiIm (arg0.view.read (Elt F) f0) 1))

end Cert.KernelIdeal.Solve

end
-- ==== Proof.RunIdeal.lean ====
/-
  The whole run of one program: the two calls' proof data, their segments, and @main run over them. The final state holds
  every unscoped buffer at the valuation `V5`, computed from the launch memory (`run_main`).
-/
module

public import proofs.«01_k».proof.Proof.CovRunIdeal
public import proofs.«01_k».proof.Proof.SolveIdeal
public import proofs.«01_k».proof.Proof.Gen.KernelIdeal.Points
public import proofs.«01_k».proof.Proof.Gen.KernelIdeal.Regions
public import Idealize.ShloMosaic.Lib.Pipeline.FrameBody
public import Idealize.ShloMosaic.Lib.Pipeline.RegionArraysS
public import Idealize.ShloMosaic.Lib.Pipeline.Regions

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The first call -/

/-- The buffers when the first call is entered. -/
abbrev V1 (c : Dev nD) : Valuation τ sig (Elt F) := Gen.V1 m c

/-- Window `w`'s block at point `t` of the first call. -/
def iblk0 (c : Dev nD) (w : Fin cfg0.W) (t : Fin cfg0.N) : ((cfg0.win w).xblock (cfg0.grid.coords t)).Idx → Elt F (cfg0.win w).elt :=
  ((cfg0.win w).blk t).view.read (Elt F) (V1 m c (Proc.devRef .tc (Pipeline.arrRef spec0 w)))

/-- The first call's proof data: inputs left as fetched, the output at `Cov.covOut` of them. -/
def dat0 (c : Dev nD) : Dat τ (Elt F) Unit ℕ (UR sig nD τ) ℕ cfg0 c where
  A w := V1 m c (Proc.devRef .tc (Pipeline.arrRef spec0 w))
  after w t := match w with
    | ⟨0, _⟩ => iblk0 m c 0 t
    | ⟨1, _⟩ => iblk0 m c 1 t
    | ⟨2, _⟩ => iblk0 m c 2 t
    | ⟨3, _⟩ => iblk0 m c 3 t
    | ⟨4, _⟩ => iblk0 m c 4 t
    | ⟨5, _⟩ => Cov.covOut (iblk0 m c 0 t) (iblk0 m c 1 t) (iblk0 m c 2 t) (iblk0 m c 3 t) (iblk0 m c 4 t)
  Φ _ := Pipeline.ΦA spec0 c
  q _ := fullShare
  owed _ := 0

theorem A0_eq (c : Dev nD) (w : Fin cfg0.W) : (dat0 m c).A w = V1 m c (Proc.devRef .tc (Pipeline.arrRef spec0 w)) := by
  dsimp only [dat0]

theorem after0_0 (c : Dev nD) (t : Fin cfg0.N) : (dat0 m c).after 0 t = iblk0 m c 0 t := by dsimp only [dat0]
theorem after0_1 (c : Dev nD) (t : Fin cfg0.N) : (dat0 m c).after 1 t = iblk0 m c 1 t := by dsimp only [dat0]
theorem after0_2 (c : Dev nD) (t : Fin cfg0.N) : (dat0 m c).after 2 t = iblk0 m c 2 t := by dsimp only [dat0]
theorem after0_3 (c : Dev nD) (t : Fin cfg0.N) : (dat0 m c).after 3 t = iblk0 m c 3 t := by dsimp only [dat0]
theorem after0_4 (c : Dev nD) (t : Fin cfg0.N) : (dat0 m c).after 4 t = iblk0 m c 4 t := by dsimp only [dat0]
theorem after0_5 (c : Dev nD) (t : Fin cfg0.N) : (dat0 m c).after 5 t = Cov.covOut (iblk0 m c 0 t) (iblk0 m c 1 t) (iblk0 m c 2 t) (iblk0 m c 3 t) (iblk0 m c 4 t) := by dsimp only [dat0]

theorem before0_0 (c : Dev nD) (t : Fin cfg0.N) (d) : (dat0 m c).before 0 t d = iblk0 m c 0 t :=
  ((dat0 m c).before_in_eq_fetched 0 rfl (fun _ => rfl) (fun _ _ _ => rfl) (fun t => by rw [after0_0]; unfold Dat.blockOf iblk0; rw [A0_eq]; try rfl) t d).trans
    (by unfold Dat.fetched Dat.blockOf iblk0; rw [A0_eq]; try rfl)
theorem before0_1 (c : Dev nD) (t : Fin cfg0.N) (d) : (dat0 m c).before 1 t d = iblk0 m c 1 t :=
  ((dat0 m c).before_in_eq_fetched 1 rfl (fun _ => rfl) (fun _ _ _ => rfl) (fun t => by rw [after0_1]; unfold Dat.blockOf iblk0; rw [A0_eq]; try rfl) t d).trans
    (by unfold Dat.fetched Dat.blockOf iblk0; rw [A0_eq]; try rfl)
theorem before0_2 (c : Dev nD) (t : Fin cfg0.N) (d) : (dat0 m c).before 2 t d = iblk0 m c 2 t :=
  ((dat0 m c).before_in_eq_fetched 2 rfl (fun _ => rfl) (fun _ _ _ => rfl) (fun t => by rw [after0_2]; unfold Dat.blockOf iblk0; rw [A0_eq]; try rfl) t d).trans
    (by unfold Dat.fetched Dat.blockOf iblk0; rw [A0_eq]; try rfl)
theorem before0_3 (c : Dev nD) (t : Fin cfg0.N) (d) : (dat0 m c).before 3 t d = iblk0 m c 3 t :=
  ((dat0 m c).before_in_eq_fetched 3 rfl (fun _ => rfl) (fun _ _ _ => rfl) (fun t => by rw [after0_3]; unfold Dat.blockOf iblk0; rw [A0_eq]; try rfl) t d).trans
    (by unfold Dat.fetched Dat.blockOf iblk0; rw [A0_eq]; try rfl)
theorem before0_4 (c : Dev nD) (t : Fin cfg0.N) (d) : (dat0 m c).before 4 t d = iblk0 m c 4 t :=
  ((dat0 m c).before_in_eq_fetched 4 rfl (fun _ => rfl) (fun _ _ _ => rfl) (fun t => by rw [after0_4]; unfold Dat.blockOf iblk0; rw [A0_eq]; try rfl) t d).trans
    (by unfold Dat.fetched Dat.blockOf iblk0; rw [A0_eq]; try rfl)

/-- What the body is called with at point `t`, -/
def pre0 (c : Dev nD) (t : Fin cfg0.N) : sProp 𝕄 :=
  iprop((dat0 m c).Φ t.castSucc ∗ (dat0 m c).owesAt () t.castSucc
    ∗ (∃ d, owns (c : Thread nD τ) (st0_0 t) fullShare ((dat0 m c).before 0 t d))
    ∗ (∃ d, owns (c : Thread nD τ) (st0_1 t) fullShare ((dat0 m c).before 1 t d))
    ∗ (∃ d, owns (c : Thread nD τ) (st0_2 t) fullShare ((dat0 m c).before 2 t d))
    ∗ (∃ d, owns (c : Thread nD τ) (st0_3 t) fullShare ((dat0 m c).before 3 t d))
    ∗ (∃ d, owns (c : Thread nD τ) (st0_4 t) fullShare ((dat0 m c).before 4 t d))
    ∗ (∃ d, owns (c : Thread nD τ) (st0_5 t) fullShare ((dat0 m c).before 5 t d)))

/-- and what it returns. -/
def post0 (c : Dev nD) (t : Fin cfg0.N) : sProp 𝕄 :=
  iprop((dat0 m c).Φ t.succ ∗ (dat0 m c).owesAt () t.succ
    ∗ owns (c : Thread nD τ) (st0_0 t) fullShare ((dat0 m c).after 0 t)
    ∗ owns (c : Thread nD τ) (st0_1 t) fullShare ((dat0 m c).after 1 t)
    ∗ owns (c : Thread nD τ) (st0_2 t) fullShare ((dat0 m c).after 2 t)
    ∗ owns (c : Thread nD τ) (st0_3 t) fullShare ((dat0 m c).after 3 t)
    ∗ owns (c : Thread nD τ) (st0_4 t) fullShare ((dat0 m c).after 4 t)
    ∗ owns (c : Thread nD τ) (st0_5 t) fullShare ((dat0 m c).after 5 t))

theorem sound_body0 (c : Dev nD) (t : Fin cfg0.N) :
    pre0 m c t ⊢ wp frame (wpE (defs₀ (F := F)) Variants.none c none) Set.univ (bodyAt0 t) (fun _ => post0 m c t) := by
  unfold pre0 post0 bodyAt0
  simp only [before0_0, before0_1, before0_2, before0_3, before0_4]
  rw [show (dat0 m c).Φ t.succ = (dat0 m c).Φ t.castSucc from rfl,
    show (dat0 m c).owesAt () t.succ = (dat0 m c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (Cov.cov_sound c _ _ _ _ _ _ _ _ _ _ _ _ _ (iblk0 m c 0 t) (iblk0 m c 1 t) (iblk0 m c 2 t) (iblk0 m c 3 t) (iblk0 m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem row0 (t : Fin cfg0.N) : defs₀ (F := F) .tc cfg0.body (cfg0.bodyArgs t (cfg0.slots t)) = bodyAt0 t := by
  unfold defs₀; rw [Defs.onTc_tc]

theorem body0 (c : Dev nD) : BodyObligation (dat0 (F := F) m c) (defs₀ (F := F)) Variants.none () Set.univ := fun t => by
  rw [bigSep_W0, bigSep_W0, row0]
  exact triple_restated (sound_body0 m c t) rfl .rfl fun _ => .rfl

/-! ## The second call -/

/-- The buffers after the first call, -/
def V2 (c : Dev nD) : Valuation τ sig (Elt F) := Pipeline.afterRegion (dat0 m c) (V1 m c)
/-- and when the second is entered. -/
def V3 (c : Dev nD) : Valuation τ sig (Elt F) := StableHlo.after hostOps1 (V2 m c)

/-- The weights the second call stores, fixed by its two inputs. -/
def weights (c : Dev nD) (x0 : Vec F S28x16x2x528 .f32) (x1 : Vec F S2x1 .i32) : Vec F S14x2x528 .f32 :=
  Classical.choose (Solve.solve_sound (F := F) c (stage1_0 0) (hstage1_0 0) (stage1_1 0) (hstage1_1 0) (stage1_2 0) (hstage1_2 0) (stage1_3 0) (hstage1_3 0) (stage1_4 0) (hstage1_4 0) (stage1_5 0) (hstage1_5 0) (stage1_6 0) (hstage1_6 0) x0 x1)

/-- The second call's body on its own staging buffers. -/
theorem solve_body (c : Dev nD) (x0 : Vec F S28x16x2x528 .f32) (x1 : Vec F S2x1 .i32) (K : PUnit → sProp 𝕄) :
    iprop(owns (c : Thread nD τ) (stage1_0 0) fullShare x0 ∗ owns (c : Thread nD τ) (stage1_1 0) fullShare x1
        ∗ (∃ d, owns (c : Thread nD τ) (stage1_2 0) fullShare d) ∗ (∃ d, owns (c : Thread nD τ) (stage1_3 0) fullShare d) ∗ (∃ d, owns (c : Thread nD τ) (stage1_4 0) fullShare d) ∗ (∃ d, owns (c : Thread nD τ) (stage1_5 0) fullShare d) ∗ (∃ d, owns (c : Thread nD τ) (stage1_6 0) fullShare d)
        ∗ (iprop(owns (c : Thread nD τ) (stage1_0 0) fullShare x0 ∗ owns (c : Thread nD τ) (stage1_1 0) fullShare x1
            ∗ owns (c : Thread nD τ) (stage1_2 0) fullShare (weights c x0 x1)
            ∗ owns (c : Thread nD τ) (stage1_3 0) fullShare (Solve.matOut (Solve.phiRe x0 0)) ∗ owns (c : Thread nD τ) (stage1_4 0) fullShare (Solve.matOut (Solve.phiIm x0 0))
            ∗ owns (c : Thread nD τ) (stage1_5 0) fullShare (Solve.matOut (Solve.phiRe x0 1)) ∗ owns (c : Thread nD τ) (stage1_6 0) fullShare (Solve.matOut (Solve.phiIm x0 1))) -∗ K ⟨⟩))
      ⊢ wp frame (wpE (defs₀ (F := F)) Variants.none (c : Thread nD τ) none) Set.univ
          (cc1_mvdr_solve (stage1_0 0) (hstage1_0 0) (stage1_1 0) (hstage1_1 0) (stage1_2 0) (hstage1_2 0) (stage1_3 0) (hstage1_3 0) (stage1_4 0) (hstage1_4 0) (stage1_5 0) (hstage1_5 0) (stage1_6 0) (hstage1_6 0)) K := by
  have h := Classical.choose_spec (Solve.solve_sound (F := F) c (stage1_0 0) (hstage1_0 0) (stage1_1 0) (hstage1_1 0) (stage1_2 0) (hstage1_2 0) (stage1_3 0) (hstage1_3 0) (stage1_4 0) (hstage1_4 0) (stage1_5 0) (hstage1_5 0) (stage1_6 0) (hstage1_6 0) x0 x1) K
  rw [show Classical.choose (Solve.solve_sound (F := F) c (stage1_0 0) (hstage1_0 0) (stage1_1 0) (hstage1_1 0) (stage1_2 0) (hstage1_2 0) (stage1_3 0) (hstage1_3 0) (stage1_4 0) (hstage1_4 0) (stage1_5 0) (hstage1_5 0) (stage1_6 0) (hstage1_6 0) x0 x1) = weights c x0 x1 from rfl] at h
  unfold owns at h ⊢
  iintro ⟨⟨%f0, %hf0, H0⟩, ⟨%f1, %hf1, H1⟩, H2, H3, H4, H5, H6, Hk⟩
  obtain rfl : f0 = x0 := hf0
  obtain rfl : f1 = x1 := hf1
  iapply h
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  iapply Hk
  isplitl [H0]
  · iexists f0; isplitr
    · ipureintro; rfl
    iexact H0
  isplitl [H1]
  · iexists f1; isplitr
    · ipureintro; rfl
    iexact H1
  isplitl [H2]; · iexact H2
  isplitl [H3]; · iexact H3
  isplitl [H4]; · iexact H4
  isplitl [H5]; · iexact H5
  iexact H6

/-- Window `w`'s block of the second call: its whole array. -/
def iblk1 (c : Dev nD) (w : Fin cfg1.W) (t : Fin cfg1.N) : ((cfg1.win w).xblock (cfg1.grid.coords t)).Idx → Elt F (cfg1.win w).elt :=
  ((cfg1.win w).blk t).view.read (Elt F) (V3 m c (Proc.devRef .tc (Pipeline.arrRef spec1 w)))

/-- The second call's proof data. -/
def dat1 (c : Dev nD) : Dat τ (Elt F) Unit ℕ (UR sig nD τ) ℕ cfg1 c where
  A w := V3 m c (Proc.devRef .tc (Pipeline.arrRef spec1 w))
  after w t := match w with
    | ⟨0, _⟩ => iblk1 m c 0 t
    | ⟨1, _⟩ => iblk1 m c 1 t
    | ⟨2, _⟩ => weights c (iblk1 m c 0 t) (iblk1 m c 1 t)
    | ⟨3, _⟩ => Solve.matOut (Solve.phiRe (iblk1 m c 0 t) 0)
    | ⟨4, _⟩ => Solve.matOut (Solve.phiIm (iblk1 m c 0 t) 0)
    | ⟨5, _⟩ => Solve.matOut (Solve.phiRe (iblk1 m c 0 t) 1)
    | ⟨6, _⟩ => Solve.matOut (Solve.phiIm (iblk1 m c 0 t) 1)
  Φ _ := Pipeline.ΦA spec1 c
  q _ := fullShare
  owed _ := 0

theorem A1_eq (c : Dev nD) (w : Fin cfg1.W) : (dat1 m c).A w = V3 m c (Proc.devRef .tc (Pipeline.arrRef spec1 w)) := by
  dsimp only [dat1]

theorem after1_0 (c : Dev nD) (t : Fin cfg1.N) : (dat1 m c).after 0 t = iblk1 m c 0 t := by dsimp only [dat1]
theorem after1_1 (c : Dev nD) (t : Fin cfg1.N) : (dat1 m c).after 1 t = iblk1 m c 1 t := by dsimp only [dat1]
theorem after1_2 (c : Dev nD) (t : Fin cfg1.N) : (dat1 m c).after 2 t = weights c (iblk1 m c 0 t) (iblk1 m c 1 t) := by dsimp only [dat1]
theorem after1_3 (c : Dev nD) (t : Fin cfg1.N) : (dat1 m c).after 3 t = Solve.matOut (Solve.phiRe (iblk1 m c 0 t) 0) := by dsimp only [dat1]
theorem after1_4 (c : Dev nD) (t : Fin cfg1.N) : (dat1 m c).after 4 t = Solve.matOut (Solve.phiIm (iblk1 m c 0 t) 0) := by dsimp only [dat1]
theorem after1_5 (c : Dev nD) (t : Fin cfg1.N) : (dat1 m c).after 5 t = Solve.matOut (Solve.phiRe (iblk1 m c 0 t) 1) := by dsimp only [dat1]
theorem after1_6 (c : Dev nD) (t : Fin cfg1.N) : (dat1 m c).after 6 t = Solve.matOut (Solve.phiIm (iblk1 m c 0 t) 1) := by dsimp only [dat1]

theorem before1_0 (c : Dev nD) (t : Fin cfg1.N) (d) : (dat1 m c).before 0 t d = iblk1 m c 0 t :=
  ((dat1 m c).before_in_eq_fetched 0 rfl (fun _ => rfl) (fun _ _ _ => rfl) (fun t => by rw [after1_0]; unfold Dat.blockOf iblk1; rw [A1_eq]; try rfl) t d).trans
    (by unfold Dat.fetched Dat.blockOf iblk1; rw [A1_eq]; try rfl)
theorem before1_1 (c : Dev nD) (t : Fin cfg1.N) (d) : (dat1 m c).before 1 t d = iblk1 m c 1 t :=
  ((dat1 m c).before_in_eq_fetched 1 rfl (fun _ => rfl) (fun _ _ _ => rfl) (fun t => by rw [after1_1]; unfold Dat.blockOf iblk1; rw [A1_eq]; try rfl) t d).trans
    (by unfold Dat.fetched Dat.blockOf iblk1; rw [A1_eq]; try rfl)

/-- What the body is called with, -/
def pre1 (c : Dev nD) (t : Fin cfg1.N) : sProp 𝕄 :=
  iprop((dat1 m c).Φ t.castSucc ∗ (dat1 m c).owesAt () t.castSucc
    ∗ (∃ d, owns (c : Thread nD τ) (st1_0 t) fullShare ((dat1 m c).before 0 t d))
    ∗ (∃ d, owns (c : Thread nD τ) (st1_1 t) fullShare ((dat1 m c).before 1 t d))
    ∗ (∃ d, owns (c : Thread nD τ) (st1_2 t) fullShare ((dat1 m c).before 2 t d))
    ∗ (∃ d, owns (c : Thread nD τ) (st1_3 t) fullShare ((dat1 m c).before 3 t d))
    ∗ (∃ d, owns (c : Thread nD τ) (st1_4 t) fullShare ((dat1 m c).before 4 t d))
    ∗ (∃ d, owns (c : Thread nD τ) (st1_5 t) fullShare ((dat1 m c).before 5 t d))
    ∗ (∃ d, owns (c : Thread nD τ) (st1_6 t) fullShare ((dat1 m c).before 6 t d)))

/-- and what it returns. -/
def post1 (c : Dev nD) (t : Fin cfg1.N) : sProp 𝕄 :=
  iprop((dat1 m c).Φ t.succ ∗ (dat1 m c).owesAt () t.succ
    ∗ owns (c : Thread nD τ) (st1_0 t) fullShare ((dat1 m c).after 0 t)
    ∗ owns (c : Thread nD τ) (st1_1 t) fullShare ((dat1 m c).after 1 t)
    ∗ owns (c : Thread nD τ) (st1_2 t) fullShare ((dat1 m c).after 2 t)
    ∗ owns (c : Thread nD τ) (st1_3 t) fullShare ((dat1 m c).after 3 t)
    ∗ owns (c : Thread nD τ) (st1_4 t) fullShare ((dat1 m c).after 4 t)
    ∗ owns (c : Thread nD τ) (st1_5 t) fullShare ((dat1 m c).after 5 t)
    ∗ owns (c : Thread nD τ) (st1_6 t) fullShare ((dat1 m c).after 6 t))

theorem sound_body1 (c : Dev nD) (t : Fin cfg1.N) :
    pre1 m c t ⊢ wp frame (wpE (defs₀ (F := F)) Variants.none c none) Set.univ (bodyAt1 t) (fun _ => post1 m c t) := by
  obtain rfl := fin_N1 t
  unfold pre1 post1 bodyAt1
  simp only [before1_0, before1_1]
  rw [show (dat1 m c).Φ t1_0.succ = (dat1 m c).Φ t1_0.castSucc from rfl,
    show (dat1 m c).owesAt () t1_0.succ = (dat1 m c).owesAt () t1_0.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (solve_body c (iblk1 m c 0 t1_0) (iblk1 m c 1 t1_0) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem row1 (t : Fin cfg1.N) : defs₀ (F := F) .tc cfg1.body (cfg1.bodyArgs t (cfg1.slots t)) = bodyAt1 t := by
  unfold defs₀; rw [Defs.onTc_tc]

theorem body1 (c : Dev nD) : BodyObligation (dat1 (F := F) m c) (defs₀ (F := F)) Variants.none () Set.univ := fun t => by
  rw [bigSep_W1, bigSep_W1, row1]
  exact triple_restated (sound_body1 m c t) rfl .rfl fun _ => .rfl

/-! ## The run -/

/-- The buffers after the second call, -/
def V4 (c : Dev nD) : Valuation τ sig (Elt F) := Pipeline.afterRegion (dat1 m c) (V3 m c)
/-- and at the end. -/
def V5 (c : Dev nD) : Valuation τ sig (Elt F) := StableHlo.after hostOps2 (V4 m c)

/-- The two calls' proof data. -/
def pdats : (p : Fin 2) → (c : Dev nD) → Dat τ (Elt F) Unit ℕ (UR sig nD τ) ℕ (cfgs p) c
  | 0 => dat0 m
  | 1 => dat1 m

/-- Only the TensorCores wait, all at one level. -/
def L : GSem nD τ sig → Finset Unit := fun g => if g.1.2 = .tc then {()} else ∅
abbrev lv : GSem nD τ sig → Unit → ℕ := fun _ _ => 0

/-- What rides beside the buffers: nothing owed, and the generator register. -/
def E (_ : Fin 3) (c : Dev nD) : sProp 𝕄 :=
  iprop((∃ W, owes (c : Thread nD τ) (0 : CellTallies nD τ sig Unit) W) ∗ (∃ r, prngReg c r) ∗ emp)

set_option backward.isDefEq.respectTransparency.types false in
/-- The first call's segment. -/
def reg0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    (fun c => iprop(∃ r, prngReg c r)) (fun c => iprop(∃ r, prngReg c r)) launch0.toP rfl (fun c => (body0 m c).loose)
    (fun _ _ => rfl) (fun _ => rfl) (fun c => (dat0 m c).share_full fun _ => rfl)
    (fun c => .rfl) (fun c => .rfl) (fun _ => 0)
    ⟨fun c w s => by simp [L], fun c w s => le_rfl, fun c g i h => absurd h (lt_irrefl _)⟩ (fun _ => iprop(emp)) (V1 m)
    (fun c w => A0_eq m c w)

set_option backward.isDefEq.respectTransparency.types false in
/-- The second call's segment. -/
def reg1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig)
    (fun c => iprop(∃ r, prngReg c r)) (fun c => iprop(∃ r, prngReg c r)) launch1.toP rfl (fun c => (body1 m c).loose)
    (fun _ _ => rfl) (fun _ => rfl) (fun c => (dat1 m c).share_full fun _ => rfl)
    (fun c => .rfl) (fun c => .rfl) (fun _ => 0)
    ⟨fun c w s => by simp [L], fun c w s => le_rfl, fun c g i h => absurd h (lt_irrefl _)⟩ (fun _ => iprop(emp)) (V3 m)
    (fun c w => A1_eq m c w)

/-- The host lines before, between and after the calls. -/
def host0 : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (Gen.V0 m) (E 0)
def host1 : HostSeg (Ix := Unit) (Name := ℕ) (U := UR sig nD τ) (Lvl := ℕ) (pcfgs (F := F)) defs₀ Variants.none L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m) (E 1)
def host2 : HostSeg (Ix := Unit) (Name := ℕ) (U := UR sig nD τ) (Lvl := ℕ) (pcfgs (F := F)) defs₀ Variants.none L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (V4 m) (E 2)

theorem entail_of_eq {P Q : sProp 𝕄} (h : P = Q) : P ⊢ Q := h ▸ .rfl

set_option maxHeartbeats 400000

theorem host0_pre (c : Dev nD) : (host0 m).pre c = iprop(StableHlo.held (c : Thread nD τ) (Pipeline.ucRefs τ sig) (Gen.V0 m c) ∗ E 0 c) := rfl
theorem host0_post (c : Dev nD) : (host0 m).post c = iprop(StableHlo.held (c : Thread nD τ) (Pipeline.ucRefs τ sig) (V1 m c) ∗ E 0 c) := rfl
theorem host1_pre (c : Dev nD) : (host1 m).pre c = iprop(StableHlo.held (c : Thread nD τ) (Pipeline.ucRefs τ sig) (V2 m c) ∗ E 1 c) := rfl
theorem host1_post (c : Dev nD) : (host1 m).post c = iprop(StableHlo.held (c : Thread nD τ) (Pipeline.ucRefs τ sig) (V3 m c) ∗ E 1 c) := rfl
theorem host2_pre (c : Dev nD) : (host2 m).pre c = iprop(StableHlo.held (c : Thread nD τ) (Pipeline.ucRefs τ sig) (V4 m c) ∗ E 2 c) := rfl
theorem host2_post (c : Dev nD) : (host2 m).post c = iprop(StableHlo.held (c : Thread nD τ) (Pipeline.ucRefs τ sig) (V5 m c) ∗ E 2 c) := rfl

set_option backward.isDefEq.respectTransparency.types false in
theorem reg0_pre (c : Dev nD) : iprop(StableHlo.held (c : Thread nD τ) (Pipeline.ucRefs τ sig) (V1 m c) ∗ E 0 c) ⊢ (reg0 m).pre c := by
  have hS : Pipeline.arrRefs (pcfgs (F := F) 0).spec ⊆ Pipeline.ucRefs τ sig := Pipeline.arrRefs_sub_ucRefs spec0 launch0.win.arr_unscoped
  unfold reg0 E
  refine BIBase.Entails.trans ?_ (RegionSeg.ofHeldIn_pre hS c)
  exact .rfl
set_option backward.isDefEq.respectTransparency.types false in
theorem reg0_post (c : Dev nD) : (reg0 m).post c ⊢ iprop(StableHlo.held (c : Thread nD τ) (Pipeline.ucRefs τ sig) (V2 m c) ∗ E 1 c) := by
  have hS : Pipeline.arrRefs (pcfgs (F := F) 0).spec ⊆ Pipeline.ucRefs τ sig := Pipeline.arrRefs_sub_ucRefs spec0 launch0.win.arr_unscoped
  unfold reg0 E
  exact RegionSeg.ofHeldIn_post hS c

set_option backward.isDefEq.respectTransparency.types false in
theorem reg1_pre (c : Dev nD) : iprop(StableHlo.held (c : Thread nD τ) (Pipeline.ucRefs τ sig) (V3 m c) ∗ E 1 c) ⊢ (reg1 m).pre c := by
  have hS : Pipeline.arrRefs (pcfgs (F := F) 1).spec ⊆ Pipeline.ucRefs τ sig := Pipeline.arrRefs_sub_ucRefs spec1 launch1.win.arr_unscoped
  unfold reg1 E
  refine BIBase.Entails.trans ?_ (RegionSeg.ofHeldIn_pre hS c)
  exact .rfl
set_option backward.isDefEq.respectTransparency.types false in
theorem reg1_post (c : Dev nD) : (reg1 m).post c ⊢ iprop(StableHlo.held (c : Thread nD τ) (Pipeline.ucRefs τ sig) (V4 m c) ∗ E 2 c) := by
  have hS : Pipeline.arrRefs (pcfgs (F := F) 1).spec ⊆ Pipeline.ucRefs τ sig := Pipeline.arrRefs_sub_ucRefs spec1 launch1.win.arr_unscoped
  unfold reg1 E
  exact RegionSeg.ofHeldIn_post hS c

abbrev segs : Dev nD → List (Seg (pcfgs (F := F)) adm (pdats m) () defs₀ Variants.none L lv) := fun _ =>
  [.host (host0 m), .region (reg0 m), .host (host1 m), .region (reg1 m), .host (host2 m)]

/-- The pipeline library's launch element. -/
abbrev EP : Emb (UR sig nD τ) 𝕄 := emb₁

set_option backward.isDefEq.respectTransparency.types false in
/-- Every weakly fair run of @main from zero counters ends with every unscoped buffer at `V5` and every counter at zero. -/
theorem run_main : θ_run defs (onTc (τ := τ) (main (F := F))) ⟨m, fun _ => 0, ρ⟩ (fun r =>
    (∀ c : Dev nD, ∀ b ∈ Pipeline.ucRefs τ sig, r.2.mem (((c : Thread nD τ).1, b) : Loc nD τ sig) = V5 m c b) ∧ r.2.sem = fun _ => 0) := by
  refine Pipeline.θ_run_regions_kit_dev_sems (pcfgs (F := F)) adm (pdats m) () cellOf_inj EP defs₀ Variants.none L lv m ρ main
    (segs m)
    (fun c Q => by
      rewrite [main_chain c, Seg.run_eq_chain,
        show (segs m c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0)
    (fun g hg => by simp [L, hg]) (fun _ => iprop(emp)) (initOf (Pipeline.cells cfgs cellOf_inj) (Pipeline.launchToks cfgs cellOf_inj)) ?hu
    (T₀ := fun c => iprop(StableHlo.held (c : Thread nD τ) (Pipeline.ucRefs τ sig) (Gen.V0 m c) ∗ E 0 c))
    (Tₙ := fun c => StableHlo.held (c : Thread nD τ) (Pipeline.ucRefs τ sig) (V5 m c))
    (hch := fun c => ⟨entail_of_eq (host0_pre m c).symm,
      (entail_of_eq (host0_post m c)).trans (reg0_pre m c), (reg0_post m c).trans (entail_of_eq (host1_pre m c).symm),
      (entail_of_eq (host1_post m c)).trans (reg1_pre m c), (reg1_post m c).trans (entail_of_eq (host2_pre m c).symm), (entail_of_eq (host2_post m c)).trans ?hend⟩)
    (hinit := ?hinit) (QY := fun c s => ∀ b ∈ Pipeline.ucRefs τ sig, s.mem (((c : Thread nD τ).1, b) : Loc nD τ sig) = V5 m c b)
    (hfin := fun c s' => ?hfin) (hQ := fun _ h hz => ⟨h, funext fun g => hz g (.inr (regions_no_unscoped g.2))⟩)
  case hu =>
    iintro Hu
    imodintro
    isplitl [Hu]
    · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl)
      iexact Hu
    iapply (show (BI.emp : sProp 𝕄) ⊢ bigSep Finset.univ (fun _ : Dev nD => (BI.emp : sProp 𝕄)) from by rw [BI.bigSep_emp_const])
    iempintro
  case hend =>
    unfold E
    iintro ⟨Hh, HO, -, -⟩
    isplitl [Hh]; · iexact Hh
    iexact HO
  case hinit =>
    refine Pipeline.initEach L lv fun c => ?_
    rw [show unscopedBufs c (fun b => m ((c : Thread nD τ).loc b)) = StableHlo.held (c : Thread nD τ) (Pipeline.ucRefs τ sig) (Gen.V0 m c) from
      Pipeline.unscopedBufs_held (Ix := Unit) (Name := ℕ) (U := UR sig nD τ) (Lvl := ℕ) c (Gen.V0 m c)]
    unfold E
    iintro ⟨⟨Hh, -, HO, -, HP, -⟩, -⟩
    imodintro
    isplitl [Hh]; · iexact Hh
    isplitl [HO]; · iexists ∅; iexact HO
    isplitl [HP]; · iexists _; iexact HP
    iempintro
  case hfin =>
    unfold StableHlo.held
    iintro ⟨Hh, HSI⟩
    ihave Hr := (pointsTo_read_all (Pipeline.ucRefs τ sig) (fun b => ((c : Thread nD τ).1, b)) (V5 m c) s') $$ [Hh HSI]
    · isplitl [Hh] <;> iassumption
    icases Hr with ⟨%h, HSI⟩
    imodintro
    isplitr
    · ipureintro
      exact h
    · iexact HSI

/-- An argument is a buffer no call's window stores to and no host line writes. -/
theorem V5_arg (c : Dev nD) (r : Ref sig .tc) (h0 : r ∉ hostOps0_W) (h1 : r ∉ hostOps1_W) (h2 : r ∉ hostOps2_W)
    (k0 : ∀ w, Pipeline.arrRef cfg0.spec w = r → (cfg0.win w).isOut = false) (k1 : ∀ w, Pipeline.arrRef cfg1.spec w = r → (cfg1.win w).isOut = false) :
    V5 m c (Proc.devRef .tc r) = m ((c : Thread nD τ).loc r) :=
  (StableHlo.after_of_writes_sub hostOps2 _ hostOps2_writes h2).trans <|
    (Pipeline.afterRegion_keeps (dat1 m c) (V3 m c) launch1.win.arr_inj (A1_eq m c) r k1).trans <|
    (StableHlo.after_of_writes_sub hostOps1 _ hostOps1_writes h1).trans <|
    (Pipeline.afterRegion_keeps (dat0 m c) (V1 m c) launch0.win.arr_inj (A0_eq m c) r k0).trans <|
    StableHlo.after_of_writes_sub hostOps0 _ hostOps0_writes h0

theorem mem_uc (r : Ref sig .tc) (h : r.isScoped = false) : (Proc.devRef .tc r : DevRef τ sig) ∈ Pipeline.ucRefs τ sig :=
  Finset.mem_filter.mpr ⟨StableHlo.devRef_mem_tcRefs r, fun h' => Bool.false_ne_true (h.symm.trans h')⟩

/-- The arguments end as launched. -/
theorem args_kept (c : Dev nD) :
    V5 m c (Proc.devRef .tc main_arg0) = m ((c : Thread nD τ).loc main_arg0)
    ∧ V5 m c (Proc.devRef .tc main_arg1) = m ((c : Thread nD τ).loc main_arg1)
    ∧ V5 m c (Proc.devRef .tc main_arg2) = m ((c : Thread nD τ).loc main_arg2)
    ∧ V5 m c (Proc.devRef .tc main_arg3) = m ((c : Thread nD τ).loc main_arg3)
    ∧ V5 m c (Proc.devRef .tc main_arg4) = m ((c : Thread nD τ).loc main_arg4)
    ∧ V5 m c (Proc.devRef .tc main_arg5) = m ((c : Thread nD τ).loc main_arg5) :=
  ⟨V5_arg m c main_arg0 (by decide) (by decide) (by decide) (by decide) (by decide),
   V5_arg m c main_arg1 (by decide) (by decide) (by decide) (by decide) (by decide),
   V5_arg m c main_arg2 (by decide) (by decide) (by decide) (by decide) (by decide),
   V5_arg m c main_arg3 (by decide) (by decide) (by decide) (by decide) (by decide),
   V5_arg m c main_arg4 (by decide) (by decide) (by decide) (by decide) (by decide),
   V5_arg m c main_arg5 (by decide) (by decide) (by decide) (by decide) (by decide)⟩

/-- The frame: every argument as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => by
    obtain ⟨a0, a1, a2, a3, a4, a5⟩ := args_kept m c
    exact ⟨(h.1 c _ (mem_uc main_arg0 (by decide))).trans a0, (h.1 c _ (mem_uc main_arg1 (by decide))).trans a1, (h.1 c _ (mem_uc main_arg2 (by decide))).trans a2, (h.1 c _ (mem_uc main_arg3 (by decide))).trans a3, (h.1 c _ (mem_uc main_arg4 (by decide))).trans a4, (h.1 c _ (mem_uc main_arg5 (by decide))).trans a5⟩, h.2⟩) (run_main m ρ)

end Cert.KernelIdeal.Run

end
-- ==== Proof.Spec.lean ====
/-
  What both programs compute, in real numbers: the two masked spatial covariance matrices of every batch and frequency.
-/
module

public import Idealize.ShloMosaic.Lib.Pipeline.ValueKit

@[expose] public section

noncomputable section

namespace Cert.Spec

open Idealize.ShloMosaic hiding ix0 ix1 ix2 ix3 ix4 ix5 eq_ix2 eq_ix3 eq_ix4
open Idealize.ShloMosaic.ValueIdx

/-- The codes of one part of the spectra, its scales and the masks. -/
abbrev Codes : Type := Vec Ideal (⟨4, ![2, 7, 16384, 513]⟩ : Shape) .i8
abbrev Scales : Type := Vec Ideal (⟨3, ![2, 7, 16384]⟩ : Shape) .f32
abbrev Mask : Type := Vec Ideal (⟨3, ![2, 16384, 513]⟩ : Shape) .i8

/-- A frame's number as an index. -/
def frame (t : ℕ) : Fin 16384 := ⟨t % 16384, Nat.mod_lt _ (by decide)⟩

theorem frame_val (t : Fin 16384) : frame t.val = t := Fin.ext (Nat.mod_eq_of_lt t.isLt)

/-- A dequantised number. -/
def num (a : Codes) (s : Scales) (b : Fin 2) (c : Fin 7) (t : Fin 16384) (f : Fin 513) : ℝ :=
  (Ideal.ofBits .fp8e4m3 (a (ix4 b c t f)) * (s (ix3 b c t) : EReal)).toReal

/-- Every code a number, every scale finite: then so is every dequantised number. -/
def Finite (a : Codes) (s : Scales) : Prop :=
  ∀ (b : Fin 2) (c : Fin 7) (t : Fin 16384) (f : Fin 513),
    Ideal.ofBits .fp8e4m3 (a (ix4 b c t f)) * (s (ix3 b c t) : EReal) = ((num a s b c t f : ℝ) : EReal)

/-- The fourteen planes of a batch at a frequency: plane `2 c` is the real part of microphone `c`, plane `2 c + 1` the imaginary. -/
def plane (re im : Codes) (s : Scales) (b : Fin 2) (f : Fin 513) (a : Fin 14) (t : ℕ) : ℝ :=
  if a.val % 2 = 0 then num re s b ⟨a.val / 2, by omega⟩ (frame t) f else num im s b ⟨a.val / 2, by omega⟩ (frame t) f

/-- A mask's level, from 0 to 255. -/
def level (k : Mask) (b : Fin 2) (f : Fin 513) (t : ℕ) : ℝ := ((k (ix3 b (frame t) f) : BitVec 8).toNat : ℝ)

/-- The two parts of a covariance entry: the sum over frames of `w / 255 · x_c · conj x_d`. -/
def covRe (x : Fin 14 → ℕ → ℝ) (w : ℕ → ℝ) (c d : Fin 7) : ℝ :=
  ∑ t ∈ Finset.range 16384, w t / 255 * (x ⟨2 * c.val, by omega⟩ t * x ⟨2 * d.val, by omega⟩ t + x ⟨2 * c.val + 1, by omega⟩ t * x ⟨2 * d.val + 1, by omega⟩ t)
def covIm (x : Fin 14 → ℕ → ℝ) (w : ℕ → ℝ) (c d : Fin 7) : ℝ :=
  ∑ t ∈ Finset.range 16384, w t / 255 * (x ⟨2 * c.val + 1, by omega⟩ t * x ⟨2 * d.val, by omega⟩ t - x ⟨2 * c.val, by omega⟩ t * x ⟨2 * d.val + 1, by omega⟩ t)

/-- The two results' entries. -/
def phiRe (re im : Codes) (s : Scales) (k : Mask) (b : Fin 2) (c d : Fin 7) (f : Fin 513) : EReal :=
  ((covRe (plane re im s b f) (level k b f) c d : ℝ) : EReal)
def phiIm (re im : Codes) (s : Scales) (k : Mask) (b : Fin 2) (c d : Fin 7) (f : Fin 513) : EReal :=
  ((covIm (plane re im s b f) (level k b f) c d : ℝ) : EReal)

theorem plane_re (re im : Codes) (s : Scales) (b : Fin 2) (f : Fin 513) (c : Fin 7) (t : ℕ) :
    plane re im s b f ⟨2 * c.val, by omega⟩ t = num re s b c (frame t) f := by
  unfold plane
  rw [if_pos (by show 2 * c.val % 2 = 0; omega)]
  exact congrArg (fun c => num re s b c (frame t) f) (Fin.ext (by show 2 * c.val / 2 = c.val; omega))

theorem plane_im (re im : Codes) (s : Scales) (b : Fin 2) (f : Fin 513) (c : Fin 7) (t : ℕ) :
    plane re im s b f ⟨2 * c.val + 1, by omega⟩ t = num im s b c (frame t) f := by
  unfold plane
  rw [if_neg (by show ¬ (2 * c.val + 1) % 2 = 0; omega)]
  exact congrArg (fun c => num im s b c (frame t) f) (Fin.ext (by show (2 * c.val + 1) / 2 = c.val; omega))

theorem covRe_comm (x : Fin 14 → ℕ → ℝ) (w : ℕ → ℝ) (c d : Fin 7) : covRe x w c d = covRe x w d c :=
  Finset.sum_congr rfl fun t _ => by ring

theorem covIm_comm (x : Fin 14 → ℕ → ℝ) (w : ℕ → ℝ) (c d : Fin 7) : covIm x w c d = - covIm x w d c := by
  unfold covIm
  rw [← Finset.sum_neg_distrib]
  exact Finset.sum_congr rfl fun t _ => by ring

theorem covIm_self (x : Fin 14 → ℕ → ℝ) (w : ℕ → ℝ) (c : Fin 7) : covIm x w c c = 0 :=
  Finset.sum_eq_zero fun t _ => by ring

end Cert.Spec
-- ==== Proof.FiniteValue.lean ====
/-
  What the precondition says: every code is a number and every scale is finite.
-/
module

public import proofs.«01_k».proof.Pre_finite
public import proofs.«01_k».proof.Proof.Spec
public import Idealize.ShloMosaic.Lib.StableHlo.ReadAt

@[expose] public section

noncomputable section

namespace Cert.FiniteValue

open Idealize.ShloMosaic hiding ix0 ix1 ix2 ix3 ix4 ix5 eq_ix2 eq_ix3 eq_ix4
open Idealize.ShloMosaic.ValueIdx

theorem facts : Cert.Pre_finite.Facts where
  bcast_S_S2x7x16384x513 := by decide
  bcast_S_S2x7x16384 := by decide

/-- A code that is not one of the two that stand for no number denotes a real. -/
theorem code_real (b : BitVec 8) (h : b ≠ 127#8) (h' : b ≠ 255#8) : ∃ r : ℝ, Ideal.ofBits .fp8e4m3 b = (r : EReal) := by
  have e : ¬ ((b.extractLsb' 3 4).toNat = 15 ∧ (b.extractLsb' 0 3).toNat = 7) := by
    revert b
    decide +kernel
  show ∃ r : ℝ, Ideal.e4m3fn b = (r : EReal)
  unfold Ideal.e4m3fn
  dsimp only
  rw [if_neg e]
  split
  · exact ⟨_, rfl⟩
  · exact ⟨_, rfl⟩

theorem inf_const : Ideal.ofBits .f32 0x7F800000#32 = (⊤ : EReal) := by
  simp [Ideal.ofBits, Ideal.ieee]

theorem scale_real (x : EReal) (h : max x (-x) < ⊤) : ∃ r : ℝ, x = (r : EReal) := by
  induction x with
  | bot => exact absurd h (by simp)
  | top => exact absurd h (by simp)
  | coe r => exact ⟨r, rfl⟩

theorem bit_and (p q : BitVec 1) (h : p &&& q = 1#1) : p = 1#1 ∧ q = 1#1 := by
  revert p q
  decide

theorem ne_of_bit (x y : BitVec 8) (h : BitVec.ofBool (x != y) = 1#1) : x ≠ y := by
  rintro rfl
  simp at h

theorem lt_of_bit (p : Prop) [Decidable p] (h : BitVec.ofBool (decide p) = 1#1) : p := by
  by_contra hp
  simp [hp] at h

theorem codes_ok {a : Spec.Codes} {z : IVec Pre_finite.S_ 8} {z' : IVec Pre_finite.S_ 8} (hz : ∀ i, z i = 127#8) (hz' : ∀ i, z' i = 255#8) (w w')
    (h : andi (cmpi .ne a (broadcastInDim Pre_finite.S2x7x16384x513 ![] w z)) (cmpi .ne a (broadcastInDim Pre_finite.S2x7x16384x513 ![] w' z')) = fun _ => 1#1)
    (i) : (a i : BitVec 8) ≠ 127#8 ∧ (a i : BitVec 8) ≠ 255#8 := by
  obtain ⟨h1, h2⟩ := bit_and _ _ (congrFun h i)
  exact ⟨fun e => ne_of_bit _ _ h1 (e.trans (hz _).symm), fun e => ne_of_bit _ _ h2 (e.trans (hz' _).symm)⟩

theorem finite (a : Spec.Codes) (s : Spec.Scales) (ha : ∀ i, (a i : BitVec 8) ≠ 127#8 ∧ (a i : BitVec 8) ≠ 255#8) (hs : ∀ i, max (s i : EReal) (-(s i : EReal)) < ⊤) :
    Spec.Finite a s := by
  intro b c t f
  obtain ⟨x, hx⟩ := code_real _ (ha (ix4 b c t f)).1 (ha (ix4 b c t f)).2
  obtain ⟨y, hy⟩ := scale_real _ (hs (ix3 b c t))
  unfold Spec.num
  rw [hx, hy, ← EReal.coe_mul, EReal.toReal_coe]

theorem of_pre [Cert.Pre_finite.Facts] (re im : Spec.Codes) (s : Spec.Scales) (k k' : Spec.Mask) (r : IVec Pre_finite.S2 32)
    (h : (Cert.Pre_finite.fn (F := Ideal) re im s k k' r).1 = (fun _ => 1#1) ∧ (Cert.Pre_finite.fn (F := Ideal) re im s k k' r).2.1 = (fun _ => 1#1)
      ∧ (Cert.Pre_finite.fn (F := Ideal) re im s k k' r).2.2 = (fun _ => 1#1)) : Spec.Finite re s ∧ Spec.Finite im s := by
  have hs : ∀ i, max (s i : EReal) (-(s i : EReal)) < ⊤ := by
    intro i
    have hi : max (s i : EReal) (-(s i : EReal)) < Ideal.ofBits .f32 0x7F800000#32 := lt_of_bit _ (congrFun h.2.2 i)
    rwa [inf_const] at hi
  exact ⟨finite _ _ (codes_ok (fun _ => rfl) (fun _ => rfl) _ _ h.1) hs, finite _ _ (codes_ok (fun _ => rfl) (fun _ => rfl) _ _ h.2.1) hs⟩

end Cert.FiniteValue
-- ==== Proof.CovTile.lean ====
/-
  What one tile of the covariance call adds to the accumulators, over exact numbers.

  A tile's fourteen planes (the real and imaginary parts of seven microphones, sixteen frequencies by 256 frames) and two masks
  are given as real numbers `X j p t`, `M m p t`. The tile adds, at row `16 r + p` and lane `16 j + p` of its unit's accumulators,
  the sum over its 256 frames of a row's value times a column's value (`tile_wide`, `tile_prods`), and leaves the other unit alone.
-/
module

public import proofs.«01_k».proof.Proof.CovIdeal
public import Idealize.ShloMosaic.Lib.MatmulPlain
public import Idealize.ShloMosaic.Lib.ValueIdx
public import Idealize.ShloMosaic.Lib.Pipeline.Value

@[expose] public section

set_option maxRecDepth 16384

noncomputable section

namespace Cert.KernelIdeal.CovValue

open Cert.KernelIdeal Cert.KernelIdeal.Gen Cert.KernelIdeal.Cov
open Idealize.ShloMosaic Idealize.ShloMosaic.TcCoe Idealize.ShloMosaic.Mxu Idealize.ShloMosaic.ValueIdx
open Idealize.ShloMosaic.Pipeline

/-- A finite sum of real numbers, as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Blocks of sixteen rows stacked, read at row `p` of block `n`. -/
theorem concat_at {N R : ℕ} (f : Fin N → FVec Ideal S16x256 .bf16) (xs : List ((s : Shape) × (s.Idx → Ideal .bf16)))
    (hxs : xs = List.ofFn fun n : Fin N => (⟨S16x256, f n⟩ : (s : Shape) × (s.Idx → Ideal .bf16)))
    (h : Shape.Concatenates (xs.map (·.1)) (⟨2, ![R, 256]⟩ : Shape) 0) (n : Fin N) (p : Fin 16) (t : Fin 256) (hR : 16 * n.val + p.val < R) :
    concatenate (⟨2, ![R, 256]⟩ : Shape) 0 xs h (ix2 ⟨16 * n.val + p.val, hR⟩ t) = f n (ix2 p t) := by
  subst hxs
  refine concatenate_ofFn_apply 0 f h rfl 16 rfl _ n ?_ (ix2 p t) ?_ ?_
  · show (16 * n.val + p.val) / 16 = n.val
    omega
  · show p.val = (16 * n.val + p.val) % 16
    omega
  · intro b hb
    match b, hb with
    | ⟨0, _⟩, hb => exact absurd rfl hb
    | ⟨1, _⟩, _ => rfl

/-- One pass against a transposed register. -/
theorem pass_at {M : ℕ} (lhs : FVec Ideal (STile M) .bf16) (v : FVec Ideal (STile 256) .bf16) (r : Fin M) (c : Fin 256) :
    (⟨.bf16, true, v⟩ : Staged Ideal).pass lhs (ix2 r c) = ∑ k : Fin 256, lhs (ix2 r k) * v (ix2 c k) := by
  have e := Ideal.matmul_transposedRhs_apply (M := M) (K := 256) (N := 256) none lhs v (fun _ => 0) r c
  rw [zero_add, Ideal.matmul_apply, zero_add] at e
  exact e

/-- An accumulate adds its pass to the rows it names. -/
theorem accBy_at (s : Mxu Ideal) (q : Fin 2) (t : Staged Ideal) (A : ℕ) {M : ℕ} (lhs : FVec Ideal (STile M) .bf16) (h : Fits A M)
    (i : (STile M).Idx) : (s.accBy q t A lhs h).read q A h i = s.read q A h i + t.pass lhs i := by
  rw [read_accBy]
  show deposit (s.live q (row h (i 0))) (s.read q A h i) (t.pass lhs i) = _
  cases hl : s.live q (row h (i 0)) with
  | false =>
    have e : s.read q A h i = 0 := (s.clean q _ (i 1) hl).trans Ideal.ofBits_zero_f32
    rw [e, zero_add]; rfl
  | true => rfl

/-- The value of column `j` of a tile: a plane, or a mask. -/
def col (X : Fin 14 → Fin 16 → ℕ → ℝ) (M : Fin 2 → Fin 16 → ℕ → ℝ) (j p : Fin 16) (t : ℕ) : ℝ :=
  if h : j.val < 14 then X ⟨j.val, h⟩ p t else M ⟨j.val - 14, by omega⟩ p t

/-- A masked row times a column. -/
def wideTerm (X : Fin 14 → Fin 16 → ℕ → ℝ) (M : Fin 2 → Fin 16 → ℕ → ℝ) (r : Fin 20) (j p : Fin 16) (t : ℕ) : ℝ :=
  M ⟨r.val / 10, by omega⟩ p t * X ⟨r.val % 10, by omega⟩ p t * col X M j p t

/-- The two planes of product row `r`. -/
def fst8 : Fin 8 → Fin 14 := ![10, 11, 12, 13, 10, 11, 11, 10]
def snd8 : Fin 8 → Fin 14 := ![10, 11, 12, 13, 12, 13, 12, 13]

/-- A product row times a column. -/
def prodTerm (X : Fin 14 → Fin 16 → ℕ → ℝ) (M : Fin 2 → Fin 16 → ℕ → ℝ) (r : Fin 8) (j p : Fin 16) (t : ℕ) : ℝ :=
  X (fst8 r) p t * X (snd8 r) p t * col X M j p t

/-- Some of a mask's bits, as a number. -/
def nib (c : BitVec 8) (m : Vec Ideal S1x16x256 .i8) : FVec Ideal S16x256 .bf16 :=
  uitofp .bf16 (andi (shapeCast S16x256 m shapeCasts_S1x16x256_S16x256) (broadcast S16x256 c))

theorem mask_at (m : Vec Ideal S1x16x256 .i8) (p : Fin 16) (t : Fin 256) :
    shapeCast S16x256 m shapeCasts_S1x16x256_S16x256 (ix2 p t) = m (ix3 0 p t) := by
  refine shapeCast_apply m _ _ _ ?_
  rw [Shape.rowMajor_val_three, Shape.rowMajor_val_two]
  simp [ix2, ix3]

theorem nib_at (c : BitVec 8) (m : Vec Ideal S1x16x256 .i8) (p : Fin 16) (t : Fin 256) :
    nib c m (ix2 p t) = ((((m (ix3 0 p t) : BitVec 8) &&& c).toNat : ℝ) : EReal) := by
  rw [← mask_at m]; rfl

theorem whole_at (m : Vec Ideal S1x16x256 .i8) (p : Fin 16) (t : Fin 256) :
    (uitofp .bf16 (shapeCast S16x256 m shapeCasts_S1x16x256_S16x256) : FVec Ideal S16x256 .bf16) (ix2 p t) = (((m (ix3 0 p t) : BitVec 8).toNat : ℝ) : EReal) := by
  rw [← mask_at m]; rfl

/-- A byte is the sum of its two halves. -/
theorem halves : ∀ m : BitVec 8, (m &&& 240#8).toNat + (m &&& 15#8).toNat = m.toNat := by decide +kernel

section Tile

variable (b : Fin 2) (z0 z1 z2 z3 z4 z5 z6 z7 z8 z9 z10 z11 z12 z13 : FVec Ideal S16x256 .bf16) (ms mn : Vec Ideal S1x16x256 .i8)
variable (s : Mxu Ideal) (X : Fin 14 → Fin 16 → ℕ → ℝ) (M : Fin 2 → Fin 16 → ℕ → ℝ) (t0 : ℕ)

/-- The tile's blocks hold the given numbers, from frame `t0` on. -/
structure Holds : Prop where
  z : ∀ (j : Fin 14) (p : Fin 16) (t : Fin 256),
    (![z0, z1, z2, z3, z4, z5, z6, z7, z8, z9, z10, z11, z12, z13] : Fin 14 → FVec Ideal S16x256 .bf16) j (ix2 p t) = ((X j p (t0 + t.val) : ℝ) : EReal)
  m : ∀ (k : Fin 2) (p : Fin 16) (t : Fin 256), ((((![ms, mn] : Fin 2 → Vec Ideal S1x16x256 .i8) k (ix3 0 p t) : BitVec 8).toNat : ℝ)) = M k p (t0 + t.val)

variable {z0 z1 z2 z3 z4 z5 z6 z7 z8 z9 z10 z11 z12 z13 ms mn X M t0}

/-- The pushed columns. -/
theorem col_at (H : Holds z0 z1 z2 z3 z4 z5 z6 z7 z8 z9 z10 z11 z12 z13 ms mn X M t0) (j p : Fin 16) (t : Fin 256) (hR : 16 * j.val + p.val < 256) :
    k0_pay27 z0 z1 z2 z3 z4 z5 z6 z7 z8 z9 z10 z11 z12 z13 ms mn (ix2 ⟨16 * j.val + p.val, hR⟩ t) = ((col X M j p (t0 + t.val) : ℝ) : EReal) := by
  unfold k0_pay27
  refine (concat_at (N := 16) (R := 256) ![z0, z1, z2, z3, z4, z5, z6, z7, z8, z9, z10, z11, z12, z13,
    uitofp .bf16 (shapeCast S16x256 ms shapeCasts_S1x16x256_S16x256), uitofp .bf16 (shapeCast S16x256 mn shapeCasts_S1x16x256_S16x256)] _ rfl _ j p t hR).trans ?_
  unfold col
  match j with
  | ⟨0, _⟩ => exact H.z 0 p t
  | ⟨1, _⟩ => exact H.z 1 p t
  | ⟨2, _⟩ => exact H.z 2 p t
  | ⟨3, _⟩ => exact H.z 3 p t
  | ⟨4, _⟩ => exact H.z 4 p t
  | ⟨5, _⟩ => exact H.z 5 p t
  | ⟨6, _⟩ => exact H.z 6 p t
  | ⟨7, _⟩ => exact H.z 7 p t
  | ⟨8, _⟩ => exact H.z 8 p t
  | ⟨9, _⟩ => exact H.z 9 p t
  | ⟨10, _⟩ => exact H.z 10 p t
  | ⟨11, _⟩ => exact H.z 11 p t
  | ⟨12, _⟩ => exact H.z 12 p t
  | ⟨13, _⟩ => exact H.z 13 p t
  | ⟨14, _⟩ => exact (whole_at ms p t).trans (congrArg _ (H.m 0 p t))
  | ⟨15, _⟩ => exact (whole_at mn p t).trans (congrArg _ (H.m 1 p t))
  | ⟨_ + 16, h⟩ => exact absurd h (by omega)

/-- The masked rows, by one half of the masks' bits. -/
def wideRow (c : BitVec 8) (z0 z1 z2 z3 z4 z5 z6 z7 z8 z9 : FVec Ideal S16x256 .bf16) (ms mn : Vec Ideal S1x16x256 .i8) (r : Fin 20) : FVec Ideal S16x256 .bf16 :=
  mulf (nib c ((![ms, mn] : Fin 2 → Vec Ideal S1x16x256 .i8) ⟨r.val / 10, by omega⟩))
    ((![z0, z1, z2, z3, z4, z5, z6, z7, z8, z9] : Fin 10 → FVec Ideal S16x256 .bf16) ⟨r.val % 10, by omega⟩)

theorem hi_at (r : Fin 20) (p : Fin 16) (t : Fin 256) (hR : 16 * r.val + p.val < 320) :
    k0_pay29 z0 z1 z2 z3 z4 z5 z6 z7 z8 z9 ms mn (ix2 ⟨16 * r.val + p.val, hR⟩ t) = wideRow 240#8 z0 z1 z2 z3 z4 z5 z6 z7 z8 z9 ms mn r (ix2 p t) := by
  unfold k0_pay29
  exact concat_at (N := 20) (R := 320) (wideRow 240#8 z0 z1 z2 z3 z4 z5 z6 z7 z8 z9 ms mn) _ rfl _ r p t hR

theorem lo_at (r : Fin 20) (p : Fin 16) (t : Fin 256) (hR : 16 * r.val + p.val < 320) :
    k0_pay37 z0 z1 z2 z3 z4 z5 z6 z7 z8 z9 (k0_pay26 mn) (k0_pay30 ms) (k0_pay31 z0 ms) (k0_pay32 z1 ms) (k0_pay33 z2 ms) (k0_pay34 z3 ms)
        (k0_pay35 z4 ms) (k0_pay36 z5 ms) (ix2 ⟨16 * r.val + p.val, hR⟩ t)
      = wideRow 15#8 z0 z1 z2 z3 z4 z5 z6 z7 z8 z9 ms mn r (ix2 p t) := by
  unfold k0_pay37
  exact concat_at (N := 20) (R := 320) (wideRow 15#8 z0 z1 z2 z3 z4 z5 z6 z7 z8 z9 ms mn) _ rfl _ r p t hR

theorem head_at (H : Holds z0 z1 z2 z3 z4 z5 z6 z7 z8 z9 z10 z11 z12 z13 ms mn X M t0) (j : Fin 10) (p : Fin 16) (t : Fin 256) :
    (![z0, z1, z2, z3, z4, z5, z6, z7, z8, z9] : Fin 10 → FVec Ideal S16x256 .bf16) j (ix2 p t) = ((X ⟨j.val, by omega⟩ p (t0 + t.val) : ℝ) : EReal) := by
  match j with
  | ⟨0, _⟩ => exact H.z 0 p t
  | ⟨1, _⟩ => exact H.z 1 p t
  | ⟨2, _⟩ => exact H.z 2 p t
  | ⟨3, _⟩ => exact H.z 3 p t
  | ⟨4, _⟩ => exact H.z 4 p t
  | ⟨5, _⟩ => exact H.z 5 p t
  | ⟨6, _⟩ => exact H.z 6 p t
  | ⟨7, _⟩ => exact H.z 7 p t
  | ⟨8, _⟩ => exact H.z 8 p t
  | ⟨9, _⟩ => exact H.z 9 p t

/-- One half of a masked row. -/
theorem wideRow_at (c : BitVec 8) (H : Holds z0 z1 z2 z3 z4 z5 z6 z7 z8 z9 z10 z11 z12 z13 ms mn X M t0) (r : Fin 20) (p : Fin 16) (t : Fin 256) :
    wideRow c z0 z1 z2 z3 z4 z5 z6 z7 z8 z9 ms mn r (ix2 p t)
      = (((((((![ms, mn] : Fin 2 → Vec Ideal S1x16x256 .i8) ⟨r.val / 10, by omega⟩) (ix3 0 p t) : BitVec 8) &&& c).toNat : ℝ) * X ⟨r.val % 10, by omega⟩ p (t0 + t.val) : ℝ) : EReal) := by
  rw [EReal.coe_mul, ← nib_at, ← head_at H ⟨r.val % 10, by omega⟩]
  rfl

/-- The product rows. -/
theorem prod_at (H : Holds z0 z1 z2 z3 z4 z5 z6 z7 z8 z9 z10 z11 z12 z13 ms mn X M t0) (r : Fin 8) (p : Fin 16) (t : Fin 256) (hR : 16 * r.val + p.val < 128) :
    k0_pay28 z10 z11 z12 z13 (ix2 ⟨16 * r.val + p.val, hR⟩ t) = ((X (fst8 r) p (t0 + t.val) * X (snd8 r) p (t0 + t.val) : ℝ) : EReal) := by
  unfold k0_pay28
  refine (concat_at (N := 8) (R := 128) ![mulf z10 z10, mulf z11 z11, mulf z12 z12, mulf z13 z13, mulf z10 z12, mulf z11 z13, mulf z11 z12, mulf z10 z13]
    _ rfl _ r p t hR).trans ?_
  rw [EReal.coe_mul, ← H.z (fst8 r) p t, ← H.z (snd8 r) p t]
  match r with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-- The tile in the register. -/
theorem staged_tile (hq : ∀ q r, s.reg q r = none) (v : FVec Ideal (STile 256) .bf16) : (s.pushed b 0 true v).staged b 0 = ⟨.bf16, true, v⟩ := by
  unfold staged
  rw [reg_pushed_of_none _ _ _ _ _ (hq b 0)]
  rfl

/-- What a tile adds to the masked rows of its unit. -/
theorem tile_wide (H : Holds z0 z1 z2 z3 z4 z5 z6 z7 z8 z9 z10 z11 z12 z13 ms mn X M t0) (hq : ∀ q r, s.reg q r = none) (r : Fin 20) (j p : Fin 16)
    (hR : 16 * r.val + p.val < 320) (hC : 16 * j.val + p.val < 256) :
    (tile b z0 z1 z2 z3 z4 z5 z6 z7 z8 z9 z10 z11 z12 z13 ms mn s).read b 0 fits_0_320 (ix2 ⟨16 * r.val + p.val, hR⟩ ⟨16 * j.val + p.val, hC⟩)
      = s.read b 0 fits_0_320 (ix2 ⟨16 * r.val + p.val, hR⟩ ⟨16 * j.val + p.val, hC⟩) + ((∑ t : Fin 256, wideTerm X M r j p (t0 + t.val) : ℝ) : EReal) := by
  unfold tile
  simp only []
  rw [accBy_at, accBy_at, read_accLhs_ne _ _ _ _ _ _ _ _ _ (Or.inr (Or.inl (by omega))), read_pushed, staged_tile b s hq, pass_at, pass_at, add_assoc, coe_sum,
    ← Finset.sum_add_distrib]
  refine congrArg _ (Finset.sum_congr rfl fun t _ => ?_)
  rw [hi_at, lo_at, wideRow_at _ H, wideRow_at _ H, col_at H, ← EReal.coe_mul, ← EReal.coe_mul, ← EReal.coe_add]
  refine congrArg _ ?_
  unfold wideTerm
  rw [← add_mul, ← add_mul, ← H.m, ← Nat.cast_add, halves]

/-- What a tile adds to the product rows of its unit. -/
theorem tile_prods (H : Holds z0 z1 z2 z3 z4 z5 z6 z7 z8 z9 z10 z11 z12 z13 ms mn X M t0) (hq : ∀ q r, s.reg q r = none) (r : Fin 8) (j p : Fin 16)
    (hR : 16 * r.val + p.val < 128) (hC : 16 * j.val + p.val < 256) :
    (tile b z0 z1 z2 z3 z4 z5 z6 z7 z8 z9 z10 z11 z12 z13 ms mn s).read b 80 fits_80_128 (ix2 ⟨16 * r.val + p.val, hR⟩ ⟨16 * j.val + p.val, hC⟩)
      = s.read b 80 fits_80_128 (ix2 ⟨16 * r.val + p.val, hR⟩ ⟨16 * j.val + p.val, hC⟩) + ((∑ t : Fin 256, prodTerm X M r j p (t0 + t.val) : ℝ) : EReal) := by
  unfold tile
  simp only []
  rw [read_accBy_ne _ _ _ _ _ _ _ _ _ (Or.inr (Or.inr (by omega))), read_accBy_ne _ _ _ _ _ _ _ _ _ (Or.inr (Or.inr (by omega))), read_accLhs_eq_accBy, accBy_at, read_pushed,
    staged_tile b s hq, pass_at, coe_sum]
  refine congrArg _ (Finset.sum_congr rfl fun t _ => ?_)
  rw [prod_at H, col_at H, ← EReal.coe_mul]
  rfl

end Tile

/-- A tile leaves the other unit alone. -/
theorem tile_ne (b q : Fin 2) (hb : q ≠ b) (z0 z1 z2 z3 z4 z5 z6 z7 z8 z9 z10 z11 z12 z13 : FVec Ideal S16x256 .bf16) (ms mn : Vec Ideal S1x16x256 .i8)
    (s : Mxu Ideal) (A : ℕ) {M' : ℕ} (h : Fits A M') :
    (tile b z0 z1 z2 z3 z4 z5 z6 z7 z8 z9 z10 z11 z12 z13 ms mn s).read q A h = s.read q A h := by
  unfold tile
  simp only []
  rw [read_accBy_ne _ _ _ _ _ _ _ _ _ (Or.inl hb), read_accBy_ne _ _ _ _ _ _ _ _ _ (Or.inl hb), read_accLhs_ne _ _ _ _ _ _ _ _ _ (Or.inl hb), read_pushed]

end Cert.KernelIdeal.CovValue
-- ==== Proof.CovSum.lean ====
/-
  The covariance call's accumulators after its loop, over exact numbers: each is a sum over all 16384 frames.

  `Gives` reads the five input windows as real numbers; `Reads … n` says that the accumulators hold, at row `16 r + p` and lane
  `16 j + p`, the sum over the first `256 n` frames. Every tile keeps it and moves its unit's `n` on by one (`reads_tile`).
-/
module

public import proofs.«01_k».proof.Proof.CovTile
public import Idealize.ShloMosaic.Lib.Pipeline.ValueKit

@[expose] public section

set_option maxRecDepth 16384

noncomputable section

namespace Cert.KernelIdeal.CovValue

open Cert.KernelIdeal Cert.KernelIdeal.Gen Cert.KernelIdeal.Cov
open Idealize.ShloMosaic hiding ix0 ix1 ix2 ix3 ix4 ix5 eq_ix2 eq_ix3 eq_ix4
open Idealize.ShloMosaic.TcCoe Idealize.ShloMosaic.Mxu Idealize.ShloMosaic.ValueIdx
open Idealize.ShloMosaic.Pipeline

/-- The five windows of one grid point, as real numbers: plane `2 c` is the real part of microphone `c`, plane `2 c + 1` its
    imaginary part. -/
structure Gives (x1 x2 : Vec Ideal S2x7x16x16384 .fp8e4m3) (x3 x4 : Vec Ideal S2x16x16384 .i8) (x5 : Vec Ideal S2x7x16384 .f32)
    (X : Fin 2 → Fin 14 → Fin 16 → ℕ → ℝ) (M : Fin 2 → Fin 2 → Fin 16 → ℕ → ℝ) : Prop where
  re : ∀ (b : Fin 2) (c : Fin 7) (p : Fin 16) (t : Fin 16384), (x1 (ix4 b c p t) : EReal) * x5 (ix3 b c t) = ((X b ⟨2 * c.val, by omega⟩ p t.val : ℝ) : EReal)
  im : ∀ (b : Fin 2) (c : Fin 7) (p : Fin 16) (t : Fin 16384), (x2 (ix4 b c p t) : EReal) * x5 (ix3 b c t) = ((X b ⟨2 * c.val + 1, by omega⟩ p t.val : ℝ) : EReal)
  ms : ∀ (b : Fin 2) (p : Fin 16) (t : Fin 16384), (((x3 (ix3 b p t) : BitVec 8).toNat : ℝ)) = M b 0 p t.val
  mn : ∀ (b : Fin 2) (p : Fin 16) (t : Fin 16384), (((x4 (ix3 b p t) : BitVec 8).toNat : ℝ)) = M b 1 p t.val

/-- A dequantised block, read at an index. -/
theorem plane_at (x : Vec Ideal S2x7x16x16384 .fp8e4m3) (x5 : Vec Ideal S2x7x16384 .f32) (o5 : Fin 3 → ℕ) (o1 : Fin 4 → ℕ)
    (i5 : ∀ a, o5 a + S1x1x256.size a ≤ S2x7x16384.size a) (i1 : ∀ a, o1 a + S1x1x16x256.size a ≤ S2x7x16x16384.size a)
    (b : Fin 2) (c : Fin 7) (T : ℕ) (h5 : o5 = ![b.val, c.val, T]) (h1 : o1 = ![b.val, c.val, 0, T]) (p : Fin 16) (t : Fin 256) (hT : T + t.val < 16384) :
    k0_pay5 (View.ld x5 (Rect.unit (s := S2x7x16384) o5 S1x1x256.size i5)) (View.ld x (Rect.unit (s := S2x7x16x16384) o1 S1x1x16x256.size i1)) (ix2 p t)
      = (x (ix4 b c p ⟨T + t.val, hT⟩) : EReal) * x5 (ix3 b c ⟨T + t.val, hT⟩) := by
  subst h5 h1
  have e1 : shapeCast S16x256 (View.ld x (Rect.unit (s := S2x7x16x16384) ![b.val, c.val, 0, T] S1x1x16x256.size i1)) shapeCasts_S1x1x16x256_S16x256 (ix2 p t)
      = x (ix4 b c p ⟨T + t.val, hT⟩) := by
    refine (shapeCast_apply _ _ _ (ix4 (0 : Fin 1) (0 : Fin 1) p t) ?_).trans ?_
    · rw [Shape.rowMajor_val_four, Shape.rowMajor_val_two]
      simp [ix2, ix4]
    · refine View.ld_unit_apply_of x _ _ _ _ _ fun a => ?_
      match a with
      | ⟨0, _⟩ => rfl
      | ⟨1, _⟩ => rfl
      | ⟨2, _⟩ => exact (Nat.zero_add _).symm
      | ⟨3, _⟩ => rfl
  have e5 : k0_pay4 (View.ld x5 (Rect.unit (s := S2x7x16384) ![b.val, c.val, T] S1x1x256.size i5)) (ix2 p t) = x5 (ix3 b c ⟨T + t.val, hT⟩) := by
    show broadcastTo S16x256 (shapeCast S1x256 (shapeCast S1x256 (View.ld x5 (Rect.unit (s := S2x7x16384) ![b.val, c.val, T] S1x1x256.size i5))
      shapeCasts_S1x1x256_S1x256) shapeCasts_S1x256_S1x256) broadcasts_S1x256_S16x256 (ix2 p t) = _
    refine (broadcastTo_apply _ _ (ix2 p t) (ix2 (0 : Fin 1) t) fun a => ?_).trans ?_
    · match a with
      | ⟨0, _⟩ => rfl
      | ⟨1, _⟩ => rfl
    refine (congrFun (shapeCast_self _ _) _).trans ?_
    refine (shapeCast_apply _ _ _ (ix3 (0 : Fin 1) (0 : Fin 1) t) ?_).trans ?_
    · rw [Shape.rowMajor_val_three, Shape.rowMajor_val_two]
      simp [ix2, ix3]
    · refine View.ld_unit_apply_of x5 _ _ _ _ _ fun a => ?_
      match a with
      | ⟨0, _⟩ => rfl
      | ⟨1, _⟩ => rfl
      | ⟨2, _⟩ => rfl
  rw [← e1, ← e5]
  rfl

/-- A block of a mask, read at an index. -/
theorem block_at (x : Vec Ideal S2x16x16384 .i8) (o : Fin 3 → ℕ) (i : ∀ a, o a + S1x16x256.size a ≤ S2x16x16384.size a) (b : Fin 2) (T : ℕ)
    (h : o = ![b.val, 0, T]) (p : Fin 16) (t : Fin 256) (hT : T + t.val < 16384) :
    View.ld x (Rect.unit (s := S2x16x16384) o S1x16x256.size i) (ix3 (0 : Fin 1) p t) = x (ix3 b p ⟨T + t.val, hT⟩) := by
  subst h
  refine View.ld_unit_apply_of x _ _ _ _ _ fun a => ?_
  match a with
  | ⟨0, _⟩ => rfl
  | ⟨1, _⟩ => exact (Nat.zero_add _).symm
  | ⟨2, _⟩ => rfl

section Offsets

/-- Where batch `b`'s loads of one tile start: the scales', the codes' and the masks' offsets, by microphone. -/
def offS (b : Fin 2) (k : Fin k0_t1_loop.trips) (u : Fin 4) : Fin 7 → Fin 3 → ℕ :=
  let v := BitVec.ofNat 32 u.val
  match b with
  | 0 => ![k0_off1 k v, k0_off3 k v, k0_off5 k v, k0_off7 k v, k0_off9 k v, k0_off11 k v, k0_off13 k v]
  | 1 => ![k0_off16 k v, k0_off18 k v, k0_off20 k v, k0_off22 k v, k0_off24 k v, k0_off26 k v, k0_off28 k v]
def offC (b : Fin 2) (k : Fin k0_t1_loop.trips) (u : Fin 4) : Fin 7 → Fin 4 → ℕ :=
  let v := BitVec.ofNat 32 u.val
  match b with
  | 0 => ![k0_off2 k v, k0_off4 k v, k0_off6 k v, k0_off8 k v, k0_off10 k v, k0_off12 k v, k0_off14 k v]
  | 1 => ![k0_off17 k v, k0_off19 k v, k0_off21 k v, k0_off23 k v, k0_off25 k v, k0_off27 k v, k0_off29 k v]
def offM (b : Fin 2) (k : Fin k0_t1_loop.trips) (u : Fin 4) : Fin 3 → ℕ :=
  let v := BitVec.ofNat 32 u.val
  match b with
  | 0 => k0_off15 k v
  | 1 => k0_off30 k v

theorem offS_eq : ∀ (b : Fin 2) (k : Fin k0_t1_loop.trips) (u : Fin 4) (c : Fin 7), offS b k u c = ![b.val, c.val, 256 * (4 * k.val + u.val)] := by
  decide +kernel
theorem offC_eq : ∀ (b : Fin 2) (k : Fin k0_t1_loop.trips) (u : Fin 4) (c : Fin 7), offC b k u c = ![b.val, c.val, 0, 256 * (4 * k.val + u.val)] := by
  decide +kernel
theorem offM_eq : ∀ (b : Fin 2) (k : Fin k0_t1_loop.trips) (u : Fin 4), offM b k u = ![b.val, 0, 256 * (4 * k.val + u.val)] := by
  decide +kernel

end Offsets

section State

variable {x1 x2 : Vec Ideal S2x7x16x16384 .fp8e4m3} {x3 x4 : Vec Ideal S2x16x16384 .i8} {x5 : Vec Ideal S2x7x16384 .f32}
variable {X : Fin 2 → Fin 14 → Fin 16 → ℕ → ℝ} {M : Fin 2 → Fin 2 → Fin 16 → ℕ → ℝ}

/-- The loads of a tile hold the windows' numbers. -/
theorem holds_of (G : Gives x1 x2 x3 x4 x5 X M) (b : Fin 2) (T : ℕ) (hT : T + 256 ≤ 16384) (s : Fin 7 → Fin 3 → ℕ) (c : Fin 7 → Fin 4 → ℕ) (m : Fin 3 → ℕ)
    (hs : ∀ i, s i = ![b.val, i.val, T]) (hc : ∀ i, c i = ![b.val, i.val, 0, T]) (hm : m = ![b.val, 0, T])
    (is : ∀ i a, s i a + S1x1x256.size a ≤ S2x7x16384.size a) (ic : ∀ i a, c i a + S1x1x16x256.size a ≤ S2x7x16x16384.size a)
    (im : ∀ a, m a + S1x16x256.size a ≤ S2x16x16384.size a) :
    Holds
      (k0_pay5 (View.ld x5 (Rect.unit (s := S2x7x16384) (s 0) S1x1x256.size (is 0))) (View.ld x1 (Rect.unit (s := S2x7x16x16384) (c 0) S1x1x16x256.size (ic 0))))
      (k0_pay5 (View.ld x5 (Rect.unit (s := S2x7x16384) (s 0) S1x1x256.size (is 0))) (View.ld x2 (Rect.unit (s := S2x7x16x16384) (c 0) S1x1x16x256.size (ic 0))))
      (k0_pay5 (View.ld x5 (Rect.unit (s := S2x7x16384) (s 1) S1x1x256.size (is 1))) (View.ld x1 (Rect.unit (s := S2x7x16x16384) (c 1) S1x1x16x256.size (ic 1))))
      (k0_pay5 (View.ld x5 (Rect.unit (s := S2x7x16384) (s 1) S1x1x256.size (is 1))) (View.ld x2 (Rect.unit (s := S2x7x16x16384) (c 1) S1x1x16x256.size (ic 1))))
      (k0_pay5 (View.ld x5 (Rect.unit (s := S2x7x16384) (s 2) S1x1x256.size (is 2))) (View.ld x1 (Rect.unit (s := S2x7x16x16384) (c 2) S1x1x16x256.size (ic 2))))
      (k0_pay5 (View.ld x5 (Rect.unit (s := S2x7x16384) (s 2) S1x1x256.size (is 2))) (View.ld x2 (Rect.unit (s := S2x7x16x16384) (c 2) S1x1x16x256.size (ic 2))))
      (k0_pay5 (View.ld x5 (Rect.unit (s := S2x7x16384) (s 3) S1x1x256.size (is 3))) (View.ld x1 (Rect.unit (s := S2x7x16x16384) (c 3) S1x1x16x256.size (ic 3))))
      (k0_pay5 (View.ld x5 (Rect.unit (s := S2x7x16384) (s 3) S1x1x256.size (is 3))) (View.ld x2 (Rect.unit (s := S2x7x16x16384) (c 3) S1x1x16x256.size (ic 3))))
      (k0_pay5 (View.ld x5 (Rect.unit (s := S2x7x16384) (s 4) S1x1x256.size (is 4))) (View.ld x1 (Rect.unit (s := S2x7x16x16384) (c 4) S1x1x16x256.size (ic 4))))
      (k0_pay5 (View.ld x5 (Rect.unit (s := S2x7x16384) (s 4) S1x1x256.size (is 4))) (View.ld x2 (Rect.unit (s := S2x7x16x16384) (c 4) S1x1x16x256.size (ic 4))))
      (k0_pay5 (View.ld x5 (Rect.unit (s := S2x7x16384) (s 5) S1x1x256.size (is 5))) (View.ld x1 (Rect.unit (s := S2x7x16x16384) (c 5) S1x1x16x256.size (ic 5))))
      (k0_pay5 (View.ld x5 (Rect.unit (s := S2x7x16384) (s 5) S1x1x256.size (is 5))) (View.ld x2 (Rect.unit (s := S2x7x16x16384) (c 5) S1x1x16x256.size (ic 5))))
      (k0_pay5 (View.ld x5 (Rect.unit (s := S2x7x16384) (s 6) S1x1x256.size (is 6))) (View.ld x1 (Rect.unit (s := S2x7x16x16384) (c 6) S1x1x16x256.size (ic 6))))
      (k0_pay5 (View.ld x5 (Rect.unit (s := S2x7x16384) (s 6) S1x1x256.size (is 6))) (View.ld x2 (Rect.unit (s := S2x7x16x16384) (c 6) S1x1x16x256.size (ic 6))))
      (View.ld x3 (Rect.unit (s := S2x16x16384) m S1x16x256.size im)) (View.ld x4 (Rect.unit (s := S2x16x16384) m S1x16x256.size im)) (X b) (M b) T := by
  have hlt : ∀ t : Fin 256, T + t.val < 16384 := fun t => by have := t.isLt; omega
  have hre : ∀ (i : Fin 7) (p : Fin 16) (t : Fin 256), k0_pay5 (View.ld x5 (Rect.unit (s := S2x7x16384) (s i) S1x1x256.size (is i)))
      (View.ld x1 (Rect.unit (s := S2x7x16x16384) (c i) S1x1x16x256.size (ic i))) (ix2 p t) = ((X b ⟨2 * i.val, by omega⟩ p (T + t.val) : ℝ) : EReal) :=
    fun i p t => (plane_at x1 x5 _ _ _ _ b i T (hs i) (hc i) p t (hlt t)).trans (G.re b i p ⟨T + t.val, hlt t⟩)
  have him : ∀ (i : Fin 7) (p : Fin 16) (t : Fin 256), k0_pay5 (View.ld x5 (Rect.unit (s := S2x7x16384) (s i) S1x1x256.size (is i)))
      (View.ld x2 (Rect.unit (s := S2x7x16x16384) (c i) S1x1x16x256.size (ic i))) (ix2 p t) = ((X b ⟨2 * i.val + 1, by omega⟩ p (T + t.val) : ℝ) : EReal) :=
    fun i p t => (plane_at x2 x5 _ _ _ _ b i T (hs i) (hc i) p t (hlt t)).trans (G.im b i p ⟨T + t.val, hlt t⟩)
  refine ⟨fun j p t => ?_, fun k p t => ?_⟩
  · match j with
    | ⟨0, _⟩ => exact hre 0 p t
    | ⟨1, _⟩ => exact him 0 p t
    | ⟨2, _⟩ => exact hre 1 p t
    | ⟨3, _⟩ => exact him 1 p t
    | ⟨4, _⟩ => exact hre 2 p t
    | ⟨5, _⟩ => exact him 2 p t
    | ⟨6, _⟩ => exact hre 3 p t
    | ⟨7, _⟩ => exact him 3 p t
    | ⟨8, _⟩ => exact hre 4 p t
    | ⟨9, _⟩ => exact him 4 p t
    | ⟨10, _⟩ => exact hre 5 p t
    | ⟨11, _⟩ => exact him 5 p t
    | ⟨12, _⟩ => exact hre 6 p t
    | ⟨13, _⟩ => exact him 6 p t
  · match k with
    | ⟨0, _⟩ => exact (congrArg (fun v : BitVec 8 => (v.toNat : ℝ)) (block_at x3 m im b T hm p t (hlt t))).trans (G.ms b p ⟨T + t.val, hlt t⟩)
    | ⟨1, _⟩ => exact (congrArg (fun v : BitVec 8 => (v.toNat : ℝ)) (block_at x4 m im b T hm p t (hlt t))).trans (G.mn b p ⟨T + t.val, hlt t⟩)

/-- The accumulators hold the sums over the first `256 (n b)` frames. -/
structure Reads (X : Fin 2 → Fin 14 → Fin 16 → ℕ → ℝ) (M : Fin 2 → Fin 2 → Fin 16 → ℕ → ℝ) (s : Mxu Ideal) (n : Fin 2 → ℕ) : Prop where
  reg : ∀ q r, s.reg q r = none
  wide : ∀ (b : Fin 2) (r : Fin 20) (j p : Fin 16) (hR : 16 * r.val + p.val < 320) (hC : 16 * j.val + p.val < 256),
    s.read b 0 fits_0_320 (ix2 ⟨16 * r.val + p.val, hR⟩ ⟨16 * j.val + p.val, hC⟩) = ((∑ t ∈ Finset.range (256 * n b), wideTerm (X b) (M b) r j p t : ℝ) : EReal)
  prods : ∀ (b : Fin 2) (r : Fin 8) (j p : Fin 16) (hR : 16 * r.val + p.val < 128) (hC : 16 * j.val + p.val < 256),
    s.read b 80 fits_80_128 (ix2 ⟨16 * r.val + p.val, hR⟩ ⟨16 * j.val + p.val, hC⟩) = ((∑ t ∈ Finset.range (256 * n b), prodTerm (X b) (M b) r j p t : ℝ) : EReal)

/-- One more tile. -/
theorem reads_tile (b : Fin 2) {z0 z1 z2 z3 z4 z5 z6 z7 z8 z9 z10 z11 z12 z13 : FVec Ideal S16x256 .bf16} {ms mn : Vec Ideal S1x16x256 .i8}
    {T : ℕ} (H : Holds z0 z1 z2 z3 z4 z5 z6 z7 z8 z9 z10 z11 z12 z13 ms mn (X b) (M b) T) {s : Mxu Ideal} {n : Fin 2 → ℕ} (hT : T = 256 * n b)
    (R : Reads X M s n) :
    Reads X M (tile b z0 z1 z2 z3 z4 z5 z6 z7 z8 z9 z10 z11 z12 z13 ms mn s) (fun q => if q = b then n q + 1 else n q) := by
  subst hT
  have sum_one : ∀ f : ℕ → ℝ, ∑ t ∈ Finset.range (256 * (n b + 1)), f t = ∑ t ∈ Finset.range (256 * n b), f t + ∑ t : Fin 256, f (256 * n b + t.val) := by
    intro f
    rw [Nat.mul_add, Nat.mul_one, Finset.sum_range_add, ← Finset.sum_range (fun t => f (256 * n b + t))]
  refine ⟨reg_tile b _ _ _ _ _ _ _ _ _ _ _ _ _ _ _ _ s R.reg, fun q r j p hR hC => ?_, fun q r j p hR hC => ?_⟩
  · by_cases hq : q = b
    · subst hq
      rw [tile_wide q s H R.reg, R.wide, if_pos rfl, sum_one, EReal.coe_add]
    · rw [if_neg hq]
      exact (congrFun (tile_ne b q hq _ _ _ _ _ _ _ _ _ _ _ _ _ _ _ _ s 0 fits_0_320) _).trans (R.wide q r j p hR hC)
  · by_cases hq : q = b
    · subst hq
      rw [tile_prods q s H R.reg, R.prods, if_pos rfl, sum_one, EReal.coe_add]
    · rw [if_neg hq]
      exact (congrFun (tile_ne b q hq _ _ _ _ _ _ _ _ _ _ _ _ _ _ _ _ s 80 fits_80_128) _).trans (R.prods q r j p hR hC)

theorem inbS (b : Fin 2) (k : Fin k0_t1_loop.trips) (u : Fin 4) (i : Fin 7) (a : Fin 3) : offS b k u i a + S1x1x256.size a ≤ S2x7x16384.size a := by
  have hk : k.val < 16 := lt_of_lt_of_le k.isLt k0_t1_abs.2.1
  rw [offS_eq]
  match a with
  | ⟨0, _⟩ => show b.val + 1 ≤ 2; omega
  | ⟨1, _⟩ => show i.val + 1 ≤ 7; omega
  | ⟨2, _⟩ => show 256 * (4 * k.val + u.val) + 256 ≤ 16384; omega

theorem inbC (b : Fin 2) (k : Fin k0_t1_loop.trips) (u : Fin 4) (i : Fin 7) (a : Fin 4) : offC b k u i a + S1x1x16x256.size a ≤ S2x7x16x16384.size a := by
  have hk : k.val < 16 := lt_of_lt_of_le k.isLt k0_t1_abs.2.1
  rw [offC_eq]
  match a with
  | ⟨0, _⟩ => show b.val + 1 ≤ 2; omega
  | ⟨1, _⟩ => show i.val + 1 ≤ 7; omega
  | ⟨2, _⟩ => show 0 + 16 ≤ 16; omega
  | ⟨3, _⟩ => show 256 * (4 * k.val + u.val) + 256 ≤ 16384; omega

theorem inbM (b : Fin 2) (k : Fin k0_t1_loop.trips) (u : Fin 4) (a : Fin 3) : offM b k u a + S1x16x256.size a ≤ S2x16x16384.size a := by
  have hk : k.val < 16 := lt_of_lt_of_le k.isLt k0_t1_abs.2.1
  rw [offM_eq]
  match a with
  | ⟨0, _⟩ => show b.val + 1 ≤ 2; omega
  | ⟨1, _⟩ => show 0 + 16 ≤ 16; omega
  | ⟨2, _⟩ => show 256 * (4 * k.val + u.val) + 256 ≤ 16384; omega

/-- One trip. -/
theorem reads_trip (G : Gives x1 x2 x3 x4 x5 X M) (k : Fin k0_t1_loop.trips) (s : Mxu Ideal) (R : Reads X M s fun _ => 4 * k.val) :
    Reads X M (trip x1 x2 x3 x4 x5 k s) fun _ => 4 * (k.val + 1) := by
  have hk : k.val < 16 := lt_of_lt_of_le k.isLt k0_t1_abs.2.1
  have H := fun (b : Fin 2) (u : Fin 4) => holds_of G b (256 * (4 * k.val + u.val)) (by omega) (offS b k u) (offC b k u) (offM b k u)
    (offS_eq b k u) (offC_eq b k u) (offM_eq b k u) (inbS b k u) (inbC b k u) (inbM b k u)
  have R00 := reads_tile 0 (H 0 0) rfl R
  have R01 := reads_tile 1 (H 1 0) rfl R00
  have R10 := reads_tile 0 (H 0 1) rfl R01
  have R11 := reads_tile 1 (H 1 1) rfl R10
  have R20 := reads_tile 0 (H 0 2) rfl R11
  have R21 := reads_tile 1 (H 1 2) rfl R20
  have R30 := reads_tile 0 (H 0 3) rfl R21
  have R31 := reads_tile 1 (H 1 3) rfl R30
  refine cast (congrArg (Reads X M _) (funext fun q => ?_)) R31
  match q with
  | ⟨0, _⟩ => rfl
  | ⟨1, _⟩ => rfl

theorem reads_start : Reads X M start fun _ => 0 := by
  have hl : ∀ q R, (start : Mxu Ideal).live q R = false := by
    intro q R
    unfold start
    simp only [pop, init, ite_self]
  refine ⟨fun q r => rfl, fun b r j p hR hC => ?_, fun b r j p hR hC => ?_⟩ <;>
    refine (start.clean b _ _ (hl _ _)).trans (Ideal.ofBits_zero_f32.trans ?_) <;>
    simp

/-- After `n` trips. -/
theorem reads_stateTo (G : Gives x1 x2 x3 x4 x5 X M) (n : ℕ) (hn : n ≤ k0_t1_loop.trips) : Reads X M (stateTo x1 x2 x3 x4 x5 n) fun _ => 4 * n := by
  induction n with
  | zero => exact reads_start
  | succ n ih =>
    unfold stateTo
    rw [dif_pos (Nat.lt_of_succ_le hn)]
    exact reads_trip G ⟨n, Nat.lt_of_succ_le hn⟩ _ (ih (Nat.le_of_succ_le hn))

end State

end Cert.KernelIdeal.CovValue
-- ==== Proof.CovOutValue.lean ====
/-
  The covariance call's output block, over exact numbers: row `r`, lane `16 j + p` of batch `b` is the sum over all frames of
  row term `r` times column `j` at frequency `p`.
-/
module

public import proofs.«01_k».proof.Proof.CovSum

@[expose] public section

set_option maxRecDepth 16384

noncomputable section

namespace Cert.KernelIdeal.CovValue

open Cert.KernelIdeal Cert.KernelIdeal.Gen Cert.KernelIdeal.Cov
open Idealize.ShloMosaic hiding ix0 ix1 ix2 ix3 ix4 ix5 eq_ix2 eq_ix3 eq_ix4
open Idealize.ShloMosaic.TcCoe Idealize.ShloMosaic.Mxu Idealize.ShloMosaic.ValueIdx
open Idealize.ShloMosaic.Pipeline

/-- Row `r` and column `j` of one batch's table at frequency `p`: the sum over all frames. -/
def entry (X : Fin 14 → Fin 16 → ℕ → ℝ) (M : Fin 2 → Fin 16 → ℕ → ℝ) (r : Fin 28) (j p : Fin 16) : ℝ :=
  if h : r.val < 20 then ∑ t ∈ Finset.range 16384, wideTerm X M ⟨r.val, h⟩ j p t
  else ∑ t ∈ Finset.range 16384, prodTerm X M ⟨r.val - 20, by omega⟩ j p t

/-- The mask of the diagonal. -/
theorem diag_mask : ∀ (g : Fin 16) (l : Fin 256), k0_pay330 (ix2 g l) = if g.val = l.val % 16 then 1#1 else 0#1 := by decide +kernel

/-- The diagonal of a block of sixteen rows, read at a lane. -/
theorem diagRow_at (v : FVec Ideal S16x256 .f32) (x : S1x1x1x256.Idx) (l : Fin 256) (hl : (x 3).val = l.val) :
    diagRow v x = v (ix2 ⟨l.val % 16, Nat.mod_lt _ (by decide)⟩ l) := by
  unfold diagRow
  refine (shapeCast_apply _ _ _ (ix1 l) ?_).trans ?_
  · rw [Shape.rowMajor_val_one, Shape.rowMajor_val_four]
    have h0 : (x 0).val < 1 := (x 0).isLt
    have h1 : (x 1).val < 1 := (x 1).isLt
    have h2 : (x 2).val < 1 := (x 2).isLt
    simp [ix1]
    omega
  · refine (Ideal.multiReduction_add_single _ _ _ _ _ _).trans ?_
    have e : ∀ g : Fin 16, (select k0_pay330 v (broadcast S16x256 (Scalar.ofBits .f32 0x00000000#32)) : FVec Ideal S16x256 .f32)
        (reduces_S16x256_S256.lift (ix1 l) g) = if g = ⟨l.val % 16, Nat.mod_lt _ (by decide)⟩ then v (ix2 g l) else 0 := by
      intro g
      have hi : reduces_S16x256_S256.lift (ix1 l) g = ix2 g l := by
        funext a
        match a with
        | ⟨0, _⟩ => rfl
        | ⟨1, _⟩ => rfl
      rw [hi]
      show (if k0_pay330 (ix2 g l) = 1#1 then v (ix2 g l) else Ideal.ofBits .f32 0x00000000#32) = _
      rw [diag_mask, Ideal.ofBits_zero_f32]
      by_cases h : g.val = l.val % 16
      · rw [if_pos h, if_pos rfl, if_pos (Fin.ext h)]
      · rw [if_neg h, if_neg (by decide), if_neg (fun h' => h (congrArg Fin.val h'))]
    refine (Finset.sum_congr rfl fun g _ => e g).trans ?_
    exact (Finset.sum_ite_eq' Finset.univ _ _).trans (if_pos (Finset.mem_univ _))

variable {X : Fin 2 → Fin 14 → Fin 16 → ℕ → ℝ} {M : Fin 2 → Fin 2 → Fin 16 → ℕ → ℝ}

/-- An entry of the output block, by batch, row and lane. -/
def blockAt (X : Fin 2 → Fin 14 → Fin 16 → ℕ → ℝ) (M : Fin 2 → Fin 2 → Fin 16 → ℕ → ℝ) (b : Fin 2) (r : Fin 28) (l : Fin 256) : EReal :=
  ((entry (X b) (M b) r ⟨l.val / 16, by omega⟩ ⟨l.val % 16, by omega⟩ : ℝ) : EReal)

/-- The output block as a function of its index. -/
def block (X : Fin 2 → Fin 14 → Fin 16 → ℕ → ℝ) (M : Fin 2 → Fin 2 → Fin 16 → ℕ → ℝ) (y : S1x2x28x256.Idx) : EReal :=
  blockAt X M (y 1) (y 2) (y 3)

theorem wide_piece (w : Fin 2 → FVec Ideal S320x256 .f32)
    (hw : ∀ (b : Fin 2) (r : Fin 20) (j p : Fin 16) (hR : 16 * r.val + p.val < 320) (hC : 16 * j.val + p.val < 256),
      w b (ix2 ⟨16 * r.val + p.val, hR⟩ ⟨16 * j.val + p.val, hC⟩) = ((∑ t ∈ Finset.range 16384, wideTerm (X b) (M b) r j p t : ℝ) : EReal))
    (b : Fin 2) (n o : ℕ) (hn : n < 20) (ho : o = 16 * n) (inb) (hs) (x : (Rect.unit (s := S1x2x28x256) ![0, b.val, n, 0] S1x1x1x256.size inb).shape.Idx) :
    diagRow (extractStridedSlice S16x256 ![o, 0] (w b) hs) x = block X M ((Rect.unit (s := S1x2x28x256) ![0, b.val, n, 0] S1x1x1x256.size inb).emb x) := by
  subst ho
  have h1 : (x 1).val < 1 := (x 1).isLt
  have h2 : (x 2).val < 1 := (x 2).isLt
  have h3 : (x 3).val < 256 := (x 3).isLt
  rw [diagRow_at _ x ⟨(x 3).val, h3⟩ rfl]
  have ey1 : ((Rect.unit (s := S1x2x28x256) ![0, b.val, n, 0] S1x1x1x256.size inb).emb x) 1 = b := by
    refine Fin.ext ((Rect.idx_unit_val _ _ _ x 1).trans ?_)
    show b.val + (x 1).val = b.val
    omega
  have ey2 : ((Rect.unit (s := S1x2x28x256) ![0, b.val, n, 0] S1x1x1x256.size inb).emb x) 2 = (⟨n, by omega⟩ : Fin 28) := by
    refine Fin.ext ((Rect.idx_unit_val _ _ _ x 2).trans ?_)
    show n + (x 2).val = n
    omega
  have ey3 : ((Rect.unit (s := S1x2x28x256) ![0, b.val, n, 0] S1x1x1x256.size inb).emb x) 3 = (⟨(x 3).val, h3⟩ : Fin 256) := by
    refine Fin.ext ((Rect.idx_unit_val _ _ _ x 3).trans ?_)
    show 0 + (x 3).val = (x 3).val
    omega
  unfold block
  rw [ey1, ey2, ey3]
  unfold blockAt entry
  rw [dif_pos hn, ← hw b ⟨n, hn⟩ ⟨(x 3).val / 16, by omega⟩ ⟨(x 3).val % 16, by omega⟩ (by show 16 * n + (x 3).val % 16 < 320; omega)
    (by show 16 * ((x 3).val / 16) + (x 3).val % 16 < 256; omega)]
  refine congrArg (w b) (funext fun a => Fin.ext ?_)
  match a with
  | ⟨0, _⟩ => rfl
  | ⟨1, _⟩ =>
    show 0 + (x 3).val = 16 * ((x 3).val / 16) + (x 3).val % 16
    omega

theorem prod_piece (w : Fin 2 → FVec Ideal S128x256 .f32)
    (hw : ∀ (b : Fin 2) (r : Fin 8) (j p : Fin 16) (hR : 16 * r.val + p.val < 128) (hC : 16 * j.val + p.val < 256),
      w b (ix2 ⟨16 * r.val + p.val, hR⟩ ⟨16 * j.val + p.val, hC⟩) = ((∑ t ∈ Finset.range 16384, prodTerm (X b) (M b) r j p t : ℝ) : EReal))
    (b : Fin 2) (n o : ℕ) (hn : 20 ≤ n) (hn' : n < 28) (ho : o = 16 * (n - 20)) (inb) (hs)
    (x : (Rect.unit (s := S1x2x28x256) ![0, b.val, n, 0] S1x1x1x256.size inb).shape.Idx) :
    diagRow (extractStridedSlice S16x256 ![o, 0] (w b) hs) x = block X M ((Rect.unit (s := S1x2x28x256) ![0, b.val, n, 0] S1x1x1x256.size inb).emb x) := by
  subst ho
  have h1 : (x 1).val < 1 := (x 1).isLt
  have h2 : (x 2).val < 1 := (x 2).isLt
  have h3 : (x 3).val < 256 := (x 3).isLt
  rw [diagRow_at _ x ⟨(x 3).val, h3⟩ rfl]
  have ey1 : ((Rect.unit (s := S1x2x28x256) ![0, b.val, n, 0] S1x1x1x256.size inb).emb x) 1 = b := by
    refine Fin.ext ((Rect.idx_unit_val _ _ _ x 1).trans ?_)
    show b.val + (x 1).val = b.val
    omega
  have ey2 : ((Rect.unit (s := S1x2x28x256) ![0, b.val, n, 0] S1x1x1x256.size inb).emb x) 2 = (⟨n, hn'⟩ : Fin 28) := by
    refine Fin.ext ((Rect.idx_unit_val _ _ _ x 2).trans ?_)
    show n + (x 2).val = n
    omega
  have ey3 : ((Rect.unit (s := S1x2x28x256) ![0, b.val, n, 0] S1x1x1x256.size inb).emb x) 3 = (⟨(x 3).val, h3⟩ : Fin 256) := by
    refine Fin.ext ((Rect.idx_unit_val _ _ _ x 3).trans ?_)
    show 0 + (x 3).val = (x 3).val
    omega
  unfold block
  rw [ey1, ey2, ey3]
  unfold blockAt entry
  rw [dif_neg (show ¬ n < 20 by omega), ← hw b ⟨n - 20, by omega⟩ ⟨(x 3).val / 16, by omega⟩ ⟨(x 3).val % 16, by omega⟩
    (by show 16 * (n - 20) + (x 3).val % 16 < 128; omega) (by show 16 * ((x 3).val / 16) + (x 3).val % 16 < 256; omega)]
  refine congrArg (w b) (funext fun a => Fin.ext ?_)
  match a with
  | ⟨0, _⟩ => rfl
  | ⟨1, _⟩ =>
    show 0 + (x 3).val = 16 * ((x 3).val / 16) + (x 3).val % 16
    omega

variable {x1 x2 : Vec Ideal S2x7x16x16384 .fp8e4m3} {x3 x4 : Vec Ideal S2x16x16384 .i8} {x5 : Vec Ideal S2x7x16384 .f32}

/-- The two batches' row tables, read back from the unit. -/
theorem wide_at (s : Mxu Ideal) (n : Fin 2 → ℕ) (R : Reads X M s n) (hn : ∀ b, 256 * n b = 16384)
    (b : Fin 2) (r : Fin 20) (j p : Fin 16) (hR : 16 * r.val + p.val < 320) (hC : 16 * j.val + p.val < 256) :
    wide s b (ix2 ⟨16 * r.val + p.val, hR⟩ ⟨16 * j.val + p.val, hC⟩) = ((∑ t ∈ Finset.range 16384, wideTerm (X b) (M b) r j p t : ℝ) : EReal) := by
  have e := R.wide b r j p hR hC
  rw [hn b] at e
  refine Eq.trans ?_ e
  match b with
  | ⟨0, _⟩ => rfl
  | ⟨1, _⟩ =>
    show ((s.pop 0 0 320 fits_0_320).pop 0 80 128 fits_80_128).read 1 0 fits_0_320 _ = _
    rw [read_pop_ne _ _ _ _ _ _ _ (Or.inl (by decide)), read_pop_ne _ _ _ _ _ _ _ (Or.inl (by decide))]
    rfl

theorem prods_at (s : Mxu Ideal) (n : Fin 2 → ℕ) (R : Reads X M s n) (hn : ∀ b, 256 * n b = 16384)
    (b : Fin 2) (r : Fin 8) (j p : Fin 16) (hR : 16 * r.val + p.val < 128) (hC : 16 * j.val + p.val < 256) :
    prods s b (ix2 ⟨16 * r.val + p.val, hR⟩ ⟨16 * j.val + p.val, hC⟩) = ((∑ t ∈ Finset.range 16384, prodTerm (X b) (M b) r j p t : ℝ) : EReal) := by
  have e := R.prods b r j p hR hC
  rw [hn b] at e
  refine Eq.trans ?_ e
  match b with
  | ⟨0, _⟩ =>
    show (s.pop 0 0 320 fits_0_320).read 0 80 fits_80_128 _ = _
    rw [read_pop_ne _ _ _ _ _ _ _ (Or.inr (Or.inr (by decide)))]
    rfl
  | ⟨1, _⟩ =>
    show (((s.pop 0 0 320 fits_0_320).pop 0 80 128 fits_80_128).pop 1 0 320 fits_0_320).read 1 80 fits_80_128 _ = _
    rw [read_pop_ne _ _ _ _ _ _ _ (Or.inr (Or.inr (by decide))), read_pop_ne _ _ _ _ _ _ _ (Or.inl (by decide)),
      read_pop_ne _ _ _ _ _ _ _ (Or.inl (by decide))]
    rfl

/-- The output block. -/
theorem covOut_at (G : Gives x1 x2 x3 x4 x5 X M) (y : S1x2x28x256.Idx) : covOut x1 x2 x3 x4 x5 y = block X M y := by
  have R := reads_stateTo G k0_t1_loop.trips le_rfl
  have ht : k0_t1_loop.trips = 16 := by decide +kernel
  have hn : ∀ b : Fin 2, 256 * (fun _ : Fin 2 => 4 * k0_t1_loop.trips) b = 16384 := fun _ => by show 256 * (4 * k0_t1_loop.trips) = 16384; rw [ht]
  unfold covOut
  generalize (fun _ : Fin 2 => 4 * k0_t1_loop.trips) = n at R hn
  generalize stateTo x1 x2 x3 x4 x5 k0_t1_loop.trips = s at R ⊢
  have hw := wide_at s n R hn
  have hp := prods_at s n R hn
  generalize wide s = w at hw ⊢
  generalize prods s = p at hp ⊢
  refine View.canon_apply_of_pieces (block X M) _ ?_ y (cover w p y)
  unfold pieces
  refine List.forall_mem_cons.2 ⟨prod_piece p hp 1 _ _ (by decide) (by decide) rfl (by decide) _, ?_⟩
  iterate 7 refine List.forall_mem_cons.2 ⟨prod_piece p hp 1 _ _ (by decide) (by decide) rfl (by decide) _, ?_⟩
  iterate 20 refine List.forall_mem_cons.2 ⟨wide_piece w hw 1 _ _ (by decide) rfl (by decide) _, ?_⟩
  iterate 8 refine List.forall_mem_cons.2 ⟨prod_piece p hp 0 _ _ (by decide) (by decide) rfl (by decide) _, ?_⟩
  iterate 20 refine List.forall_mem_cons.2 ⟨wide_piece w hw 0 _ _ (by decide) rfl (by decide) _, ?_⟩
  exact List.forall_mem_nil _

end Cert.KernelIdeal.CovValue
-- ==== Proof.ArrayValue.lean ====
/-
  The kernel's arrays between its two calls, over exact numbers: what the first call is given, what it stores, and the table
  that the second is given.
-/
module

public import proofs.«01_k».proof.Proof.CovOutValue
public import proofs.«01_k».proof.Proof.RunIdeal
public import proofs.«01_k».proof.Proof.Spec
public import Idealize.ShloMosaic.Lib.StableHlo.ReadAt

@[expose] public section

set_option maxRecDepth 16384

noncomputable section

namespace Cert.KernelIdeal.ArrayValue

open Cert.KernelIdeal Cert.KernelIdeal.Gen Cert.KernelIdeal.Run
open Idealize.ShloMosaic hiding ix0 ix1 ix2 ix3 ix4 ix5 eq_ix2 eq_ix3 eq_ix4
open Idealize.ShloMosaic.TcCoe Idealize.ShloMosaic.ValueIdx
open Idealize.ShloMosaic.Pipeline (Dat)

variable (m : (ℓ : Loc nD τ sig) → Buf (Elt Ideal) ℓ)

/-- Which frequency a row of the padded arrays repeats. -/
def src (f : Fin 528) : Fin 513 := if h : f.val < 513 then ⟨f.val, h⟩ else ⟨f.val - 513, by omega⟩

theorem codes_at {re : Vec Ideal S2x7x16384x513 .i8} (b : Fin 2) (c : Fin 7) (f : Fin 528) (t : Fin 16384) :
    concatenate S2x7x528x16384 2 [⟨S2x7x513x16384, transpose S2x7x513x16384 [0, 1, 3, 2] (bitcastToFloat (F := Ideal) .fp8e4m3 re) transposes_S2x7x16384x513_S2x7x513x16384_0_1_3_2⟩,
      ⟨S2x7x15x16384, extractStridedSlice S2x7x15x16384 ![0, 0, 0, 0] (transpose S2x7x513x16384 [0, 1, 3, 2] (bitcastToFloat (F := Ideal) .fp8e4m3 re) transposes_S2x7x16384x513_S2x7x513x16384_0_1_3_2) slices_S2x7x513x16384_S2x7x15x16384_0_0_0_0⟩]
      concatenates_S2x7x513x16384_S2x7x15x16384_S2x7x528x16384_d2 (ix4 b c f t) = Ideal.ofBits .fp8e4m3 (re (ix4 b c t (src f))) := by
  have e : ∀ g : Fin 513, transpose S2x7x513x16384 [0, 1, 3, 2] (bitcastToFloat (F := Ideal) .fp8e4m3 re) transposes_S2x7x16384x513_S2x7x513x16384_0_1_3_2 (ix4 b c g t)
      = Ideal.ofBits .fp8e4m3 (re (ix4 b c t g)) := by
    intro g
    refine (transpose_apply _ _ _ _ (ix4 b c t g) fun a => ?_).trans rfl
    match a with
    | ⟨0, _⟩ => rfl
    | ⟨1, _⟩ => rfl
    | ⟨2, _⟩ => rfl
    | ⟨3, _⟩ => rfl
  unfold src
  split
  case isTrue h =>
    refine (concatenate_pair_apply_left (t := S2x7x528x16384) (s₁ := S2x7x513x16384) (s₂ := S2x7x15x16384) 2 _ _ _ _ rfl (ix4 b c ⟨f.val, h⟩ t) fun a => ?_).trans (e _)
    match a with
    | ⟨0, _⟩ => rfl
    | ⟨1, _⟩ => rfl
    | ⟨2, _⟩ => rfl
    | ⟨3, _⟩ => rfl
  case isFalse h =>
    refine (concatenate_pair_apply_right (t := S2x7x528x16384) (s₁ := S2x7x513x16384) (s₂ := S2x7x15x16384) 2 _ _ _ _ rfl rfl (ix4 b c ⟨f.val - 513, by omega⟩ t) (fun a ha => ?_) ?_).trans ?_
    · match a with
      | ⟨0, _⟩ => rfl
      | ⟨1, _⟩ => rfl
      | ⟨2, _⟩ => exact absurd rfl ha
      | ⟨3, _⟩ => rfl
    · show f.val - 513 + 513 = f.val
      omega
    · refine (extractStridedSlice_apply _ _ _ _ (ix4 b c ⟨f.val - 513, by omega⟩ t) fun a => ?_).trans (e _)
      match a with
      | ⟨0, _⟩ => exact (Nat.zero_add _).symm
      | ⟨1, _⟩ => exact (Nat.zero_add _).symm
      | ⟨2, _⟩ => exact (Nat.zero_add _).symm
      | ⟨3, _⟩ => exact (Nat.zero_add _).symm

theorem mask_at {k : Vec Ideal S2x16384x513 .i8} (b : Fin 2) (f : Fin 528) (t : Fin 16384) :
    concatenate S2x528x16384 1 [⟨S2x513x16384, transpose S2x513x16384 [0, 2, 1] k transposes_S2x16384x513_S2x513x16384_0_2_1⟩,
      ⟨S2x15x16384, extractStridedSlice S2x15x16384 ![0, 0, 0] (transpose S2x513x16384 [0, 2, 1] k transposes_S2x16384x513_S2x513x16384_0_2_1) slices_S2x513x16384_S2x15x16384_0_0_0⟩]
      concatenates_S2x513x16384_S2x15x16384_S2x528x16384_d1 (ix3 b f t) = k (ix3 b t (src f)) := by
  have e : ∀ g : Fin 513, transpose S2x513x16384 [0, 2, 1] k transposes_S2x16384x513_S2x513x16384_0_2_1 (ix3 b g t) = k (ix3 b t g) := by
    intro g
    refine transpose_apply _ _ _ _ (ix3 b t g) fun a => ?_
    match a with
    | ⟨0, _⟩ => rfl
    | ⟨1, _⟩ => rfl
    | ⟨2, _⟩ => rfl
  unfold src
  split
  case isTrue h =>
    refine (concatenate_pair_apply_left (t := S2x528x16384) (s₁ := S2x513x16384) (s₂ := S2x15x16384) 1 _ _ _ _ rfl (ix3 b ⟨f.val, h⟩ t) fun a => ?_).trans (e _)
    match a with
    | ⟨0, _⟩ => rfl
    | ⟨1, _⟩ => rfl
    | ⟨2, _⟩ => rfl
  case isFalse h =>
    refine (concatenate_pair_apply_right (t := S2x528x16384) (s₁ := S2x513x16384) (s₂ := S2x15x16384) 1 _ _ _ _ rfl rfl (ix3 b ⟨f.val - 513, by omega⟩ t) (fun a ha => ?_) ?_).trans ?_
    · match a with
      | ⟨0, _⟩ => rfl
      | ⟨1, _⟩ => exact absurd rfl ha
      | ⟨2, _⟩ => rfl
    · show f.val - 513 + 513 = f.val
      omega
    · refine (extractStridedSlice_apply _ _ _ _ (ix3 b ⟨f.val - 513, by omega⟩ t) fun a => ?_).trans (e _)
      match a with
      | ⟨0, _⟩ => exact (Nat.zero_add _).symm
      | ⟨1, _⟩ => exact (Nat.zero_add _).symm
      | ⟨2, _⟩ => exact (Nat.zero_add _).symm

theorem re_at (c₀ : Dev nD) (b : Fin 2) (c : Fin 7) (f : Fin 528) (t : Fin 16384) :
    (Run.V1 m c₀ main_v7 : Vec Ideal S2x7x528x16384 .fp8e4m3) (ix4 b c f t) = Ideal.ofBits .fp8e4m3 ((m ((c₀ : Thread nD τ).loc main_arg0) : Vec Ideal S2x7x16384x513 .i8) (ix4 b c t (src f))) := by
  unfold Run.V1 Gen.V1
  after_reads_simp
  exact codes_at b c f t

theorem im_at (c₀ : Dev nD) (b : Fin 2) (c : Fin 7) (f : Fin 528) (t : Fin 16384) :
    (Run.V1 m c₀ main_v9 : Vec Ideal S2x7x528x16384 .fp8e4m3) (ix4 b c f t) = Ideal.ofBits .fp8e4m3 ((m ((c₀ : Thread nD τ).loc main_arg1) : Vec Ideal S2x7x16384x513 .i8) (ix4 b c t (src f))) := by
  unfold Run.V1 Gen.V1
  after_reads_simp
  exact codes_at b c f t

theorem ms_at (c₀ : Dev nD) (b : Fin 2) (f : Fin 528) (t : Fin 16384) :
    (Run.V1 m c₀ main_v11 : Vec Ideal S2x528x16384 .i8) (ix3 b f t) = (m ((c₀ : Thread nD τ).loc main_arg3) : Vec Ideal S2x16384x513 .i8) (ix3 b t (src f)) := by
  unfold Run.V1 Gen.V1
  after_reads_simp
  exact mask_at b f t

theorem mn_at (c₀ : Dev nD) (b : Fin 2) (f : Fin 528) (t : Fin 16384) :
    (Run.V1 m c₀ main_v13 : Vec Ideal S2x528x16384 .i8) (ix3 b f t) = (m ((c₀ : Thread nD τ).loc main_arg4) : Vec Ideal S2x16384x513 .i8) (ix3 b t (src f)) := by
  unfold Run.V1 Gen.V1
  after_reads_simp
  exact mask_at b f t

theorem scale_eq (c₀ : Dev nD) : Run.V1 m c₀ main_arg2 = m ((c₀ : Thread nD τ).loc main_arg2) := by
  unfold Run.V1 Gen.V1
  after_reads_simp

/-- The arguments. -/
abbrev re (c₀ : Dev nD) : Spec.Codes := m ((c₀ : Thread nD τ).loc main_arg0)
abbrev im (c₀ : Dev nD) : Spec.Codes := m ((c₀ : Thread nD τ).loc main_arg1)
abbrev sc (c₀ : Dev nD) : Spec.Scales := m ((c₀ : Thread nD τ).loc main_arg2)
abbrev mk (c₀ : Dev nD) (k : Fin 2) : Spec.Mask := if k = 0 then m ((c₀ : Thread nD τ).loc main_arg3) else m ((c₀ : Thread nD τ).loc main_arg4)

/-- Every window's block index at a point. -/
theorem idx0 : ∀ t : Fin grid0.N, win0_0.index t = ![0, 0, t.val, 0] ∧ win0_1.index t = ![0, 0, t.val, 0] ∧ win0_2.index t = ![0, t.val, 0]
    ∧ win0_3.index t = ![0, t.val, 0] ∧ win0_4.index t = ![0, 0, 0] ∧ win0_5.index t = ![t.val, 0, 0, 0] := by decide +kernel

/-- Lane `p` of point `g`, as a row of the padded arrays. -/
def freq (g : Fin 33) (p : Fin 16) : Fin 528 := ⟨16 * g.val + p.val, by omega⟩

theorem blk_re (c₀ : Dev nD) (g : Fin 33) (b : Fin 2) (c : Fin 7) (p : Fin 16) (t : Fin 16384) :
    (iblk0 m c₀ 0 g : Vec Ideal S2x7x16x16384 .fp8e4m3) (ix4 b c p t) = Ideal.ofBits .fp8e4m3 (re m c₀ (ix4 b c t (src (freq g p)))) := by
  refine Eq.trans ?_ (re_at m c₀ b c (freq g p) t)
  have e := (idx0 g).1
  unfold freq
  blk_ext [iblk0, e]
  show g.val * 16 + p.val = 16 * g.val + p.val
  omega

theorem blk_im (c₀ : Dev nD) (g : Fin 33) (b : Fin 2) (c : Fin 7) (p : Fin 16) (t : Fin 16384) :
    (iblk0 m c₀ 1 g : Vec Ideal S2x7x16x16384 .fp8e4m3) (ix4 b c p t) = Ideal.ofBits .fp8e4m3 (im m c₀ (ix4 b c t (src (freq g p)))) := by
  refine Eq.trans ?_ (im_at m c₀ b c (freq g p) t)
  have e := (idx0 g).2.1
  unfold freq
  blk_ext [iblk0, e]
  show g.val * 16 + p.val = 16 * g.val + p.val
  omega

theorem blk_ms (c₀ : Dev nD) (g : Fin 33) (b : Fin 2) (p : Fin 16) (t : Fin 16384) :
    (iblk0 m c₀ 2 g : Vec Ideal S2x16x16384 .i8) (ix3 b p t) = mk m c₀ 0 (ix3 b t (src (freq g p))) := by
  refine Eq.trans ?_ (ms_at m c₀ b (freq g p) t)
  have e := (idx0 g).2.2.1
  unfold freq
  blk_ext [iblk0, e]
  show g.val * 16 + p.val = 16 * g.val + p.val
  omega

theorem blk_mn (c₀ : Dev nD) (g : Fin 33) (b : Fin 2) (p : Fin 16) (t : Fin 16384) :
    (iblk0 m c₀ 3 g : Vec Ideal S2x16x16384 .i8) (ix3 b p t) = mk m c₀ 1 (ix3 b t (src (freq g p))) := by
  refine Eq.trans ?_ (mn_at m c₀ b (freq g p) t)
  have e := (idx0 g).2.2.2.1
  unfold freq
  blk_ext [iblk0, e]
  show g.val * 16 + p.val = 16 * g.val + p.val
  omega

theorem blk_sc (c₀ : Dev nD) (g : Fin 33) (b : Fin 2) (c : Fin 7) (t : Fin 16384) :
    (iblk0 m c₀ 4 g : Vec Ideal S2x7x16384 .f32) (ix3 b c t) = sc m c₀ (ix3 b c t) := by
  refine Eq.trans ?_ (congrFun (scale_eq m c₀) _)
  have e := (idx0 g).2.2.2.2.1
  blk_ext [iblk0, e]

/-- The planes and mask levels at a point of the first call. -/
def pointX (c₀ : Dev nD) (g : Fin 33) (b : Fin 2) (a : Fin 14) (p : Fin 16) (t : ℕ) : ℝ := Spec.plane (re m c₀) (im m c₀) (sc m c₀) b (src (freq g p)) a t
def pointM (c₀ : Dev nD) (g : Fin 33) (b k : Fin 2) (p : Fin 16) (t : ℕ) : ℝ := Spec.level (mk m c₀ k) b (src (freq g p)) t

variable {m}

theorem given_at {c₀ : Dev nD} (hr : Spec.Finite (re m c₀) (sc m c₀)) (hi : Spec.Finite (im m c₀) (sc m c₀)) (g : Fin 33) :
    CovValue.Gives (iblk0 m c₀ 0 g) (iblk0 m c₀ 1 g) (iblk0 m c₀ 2 g) (iblk0 m c₀ 3 g) (iblk0 m c₀ 4 g) (pointX m c₀ g) (pointM m c₀ g) where
  re b c p t := by
    rw [blk_re, blk_sc, hr]
    unfold pointX
    rw [Spec.plane_re, Spec.frame_val]
  im b c p t := by
    rw [blk_im, blk_sc, hi]
    unfold pointX
    rw [Spec.plane_im, Spec.frame_val]
  ms b p t := by
    rw [blk_ms]
    unfold pointM Spec.level
    rw [Spec.frame_val]
  mn b p t := by
    rw [blk_mn]
    unfold pointM Spec.level
    rw [Spec.frame_val]

/-- The first call's array. -/
def cov (c₀ : Dev nD) (y : S33x2x28x256.Idx) : EReal := CovValue.blockAt (pointX m c₀ (y 0)) (pointM m c₀ (y 0)) (y 1) (y 2) (y 3)

theorem arr14 {c₀ : Dev nD} (hr : Spec.Finite (re m c₀) (sc m c₀)) (hi : Spec.Finite (im m c₀) (sc m c₀)) :
    (dat0 m c₀).arrAt 5 cfg0.N = cov (m := m) c₀ := by
  refine (dat0 m c₀).arrAt_eq_of_covers 5 (cov (m := m) c₀) (by decide +kernel) fun t hf y => ?_
  blk_simp
  rw [after0_5]
  refine (CovValue.covOut_at (given_at hr hi t) _).trans ?_
  have e := (idx0 t).2.2.2.2.2
  have h0 : (((cfg0.win 5).blk t).view.emb y) 0 = (t : Fin 33) := by
    refine Fin.ext ?_
    blk_simp [e]
  have h1 : (((cfg0.win 5).blk t).view.emb y) 1 = (y 1 : Fin 2) := by
    refine Fin.ext ?_
    blk_simp [e]
  have h2 : (((cfg0.win 5).blk t).view.emb y) 2 = (y 2 : Fin 28) := by
    refine Fin.ext ?_
    blk_simp [e]
  have h3 : (((cfg0.win 5).blk t).view.emb y) 3 = (y 3 : Fin 256) := by
    refine Fin.ext ?_
    blk_simp [e]
  unfold cov
  rw [h0, h1, h2, h3]
  rfl

/-- The host's reordering of the first call's array, read at an index. -/
theorem reorder_at (v : Vec Ideal S33x2x28x256 .f32) (r : Fin 28) (k : Fin 16) (b : Fin 2) (g : Fin 33) (p : Fin 16) :
    shapeCast S28x16x2x528 (transpose S28x16x2x33x16 [2, 3, 1, 0, 4] (shapeCast S33x2x28x16x16 v shapeCasts_S33x2x28x256_S33x2x28x16x16)
      transposes_S33x2x28x16x16_S28x16x2x33x16_2_3_1_0_4) shapeCasts_S28x16x2x33x16_S28x16x2x528 (ix4 r k b (freq g p))
      = v (ix4 g b r (⟨16 * k.val + p.val, by omega⟩ : Fin 256)) := by
  refine (shapeCast_apply _ _ _ (ix5 r k b g p) ?_).trans ?_
  · rw [Shape.rowMajor_val_five, Shape.rowMajor_val_four]
    simp [ix4, ix5, freq]
    omega
  · refine (transpose_apply _ _ _ _ (ix5 g b r k p) fun a => ?_).trans ?_
    · match a with
      | ⟨0, _⟩ => rfl
      | ⟨1, _⟩ => rfl
      | ⟨2, _⟩ => rfl
      | ⟨3, _⟩ => rfl
      | ⟨4, _⟩ => rfl
    · refine shapeCast_apply _ _ _ (ix4 g b r (⟨16 * k.val + p.val, by omega⟩ : Fin 256)) ?_
      rw [Shape.rowMajor_val_five, Shape.rowMajor_val_four]
      simp [ix4, ix5]
      omega

/-- The table that the second call is given. -/
theorem table_at {c₀ : Dev nD} (hr : Spec.Finite (re m c₀) (sc m c₀)) (hi : Spec.Finite (im m c₀) (sc m c₀)) (r : Fin 28) (k : Fin 16) (b : Fin 2) (g : Fin 33) (p : Fin 16) :
    (Run.V3 m c₀ main_v17 : Vec Ideal S28x16x2x528 .f32) (ix4 r k b (freq g p)) = ((CovValue.entry (pointX m c₀ g b) (pointM m c₀ g b) r k p : ℝ) : EReal) := by
  have e2 : Run.V2 m c₀ main_v14 = cov (m := m) c₀ := (Pipeline.afterRegion_arr (dat0 m c₀) (Run.V1 m c₀) launch0.win.arr_inj 5).trans (arr14 hr hi)
  unfold Run.V3
  after_reads_simp
  rw [e2]
  refine (reorder_at (cov (m := m) c₀) r k b g p).trans ?_
  have ek : (⟨(16 * k.val + p.val) / 16, by omega⟩ : Fin 16) = k := Fin.ext (by show (16 * k.val + p.val) / 16 = k.val; omega)
  have ep : (⟨(16 * k.val + p.val) % 16, by omega⟩ : Fin 16) = p := Fin.ext (by show (16 * k.val + p.val) % 16 = p.val; omega)
  show ((CovValue.entry (pointX m c₀ g b) (pointM m c₀ g b) r ⟨(16 * k.val + p.val) / 16, by omega⟩ ⟨(16 * k.val + p.val) % 16, by omega⟩ : ℝ) : EReal) = _
  rw [ek, ep]

end Cert.KernelIdeal.ArrayValue
-- ==== Proof.PhiValue.lean ====
/-
  The kernel's four results over exact numbers: the entries of the two covariance matrices.
-/
module

public import proofs.«01_k».proof.Proof.ArrayValue

@[expose] public section

set_option maxRecDepth 16384

noncomputable section

namespace Cert.KernelIdeal.PhiValue

open Cert.KernelIdeal Cert.KernelIdeal.Gen Cert.KernelIdeal.Run Cert.KernelIdeal.CovValue Cert.KernelIdeal.ArrayValue
open Idealize.ShloMosaic hiding ix0 ix1 ix2 ix3 ix4 ix5 eq_ix2 eq_ix3 eq_ix4
open Idealize.ShloMosaic.TcCoe Idealize.ShloMosaic.ValueIdx
open Idealize.ShloMosaic.Pipeline (Dat)

/-! ## Two sums of the table make one entry -/

section
variable (X : Fin 14 → Fin 16 → ℕ → ℝ) (M : Fin 2 → Fin 16 → ℕ → ℝ) (p : Fin 16)

theorem wide_entry (m : Fin 2) (a j : ℕ) (ha : a < 10) (hj : j < 14) (h1 : 10 * m.val + a < 28) (h2 : j < 16) :
    entry X M ⟨10 * m.val + a, h1⟩ ⟨j, h2⟩ p = ∑ t ∈ Finset.range 16384, M m p t * X ⟨a, by omega⟩ p t * X ⟨j, hj⟩ p t := by
  unfold entry
  rw [dif_pos (by show 10 * m.val + a < 20; omega)]
  refine Finset.sum_congr rfl fun t _ => ?_
  unfold wideTerm col
  rw [dif_pos hj]
  have e1 : (⟨(10 * m.val + a) / 10, by omega⟩ : Fin 2) = m := Fin.ext (by show (10 * m.val + a) / 10 = m.val; omega)
  have e2 : (⟨(10 * m.val + a) % 10, by omega⟩ : Fin 14) = ⟨a, by omega⟩ := Fin.ext (by show (10 * m.val + a) % 10 = a; omega)
  show M ⟨(10 * m.val + a) / 10, _⟩ p t * X ⟨(10 * m.val + a) % 10, _⟩ p t * _ = _
  rw [e1, e2]

theorem prod_entry (m : Fin 2) (n : Fin 8) (h1 : 20 + n.val < 28) (h2 : 14 + m.val < 16) :
    entry X M ⟨20 + n.val, h1⟩ ⟨14 + m.val, h2⟩ p = ∑ t ∈ Finset.range 16384, X (fst8 n) p t * X (snd8 n) p t * M m p t := by
  unfold entry
  rw [dif_neg (by show ¬ 20 + n.val < 20; omega)]
  refine Finset.sum_congr rfl fun t _ => ?_
  unfold prodTerm col
  rw [dif_neg (by show ¬ 14 + m.val < 14; omega)]
  have e1 : (⟨20 + n.val - 20, by omega⟩ : Fin 8) = n := Fin.ext (by show 20 + n.val - 20 = n.val; omega)
  have e2 : (⟨14 + m.val - 14, by omega⟩ : Fin 2) = m := Fin.ext (by show 14 + m.val - 14 = m.val; omega)
  show X (fst8 ⟨20 + n.val - 20, _⟩) p t * X (snd8 ⟨20 + n.val - 20, _⟩) p t * M ⟨14 + m.val - 14, _⟩ p t = _
  rw [e1, e2]

theorem last_cases (c d : Fin 7) (hcd : c.val ≤ d.val) (hc : ¬ c.val < 5) : (c = 5 ∧ d = 5) ∨ (c = 6 ∧ d = 6) ∨ (c = 5 ∧ d = 6) := by
  revert c d; decide

theorem re_sum (m : Fin 2) (c d : Fin 7) (hcd : c.val ≤ d.val) (h1 h2 h3 h4) :
    entry X M ⟨(Solve.reAt m c d).1.1, h1⟩ ⟨(Solve.reAt m c d).1.2, h2⟩ p + entry X M ⟨(Solve.reAt m c d).2.1, h3⟩ ⟨(Solve.reAt m c d).2.2, h4⟩ p
      = 255 * Spec.covRe (fun a t => X a p t) (M m p) c d := by
  unfold Spec.covRe
  rw [Finset.mul_sum]
  by_cases hc : c.val < 5
  · have e : Solve.reAt m c d = ((10 * m.val + 2 * c.val, 2 * d.val), (10 * m.val + (2 * c.val + 1), 2 * d.val + 1)) := if_pos hc
    generalize Solve.reAt m c d = q at e h1 h2 h3 h4
    subst e
    refine (congrArg₂ (· + ·) (wide_entry X M p m (2 * c.val) (2 * d.val) (by omega) (by omega) _ _)
      (wide_entry X M p m (2 * c.val + 1) (2 * d.val + 1) (by omega) (by omega) _ _)).trans ?_
    rw [← Finset.sum_add_distrib]
    refine Finset.sum_congr rfl fun t _ => ?_
    ring
  · rcases last_cases c d hcd hc with ⟨rfl, rfl⟩ | ⟨rfl, rfl⟩ | ⟨rfl, rfl⟩
    · refine (congrArg₂ (· + ·) (prod_entry X M p m 0 _ _) (prod_entry X M p m 1 _ _)).trans ?_
      rw [← Finset.sum_add_distrib]
      refine Finset.sum_congr rfl fun t _ => ?_
      show X 10 p t * X 10 p t * M m p t + X 11 p t * X 11 p t * M m p t = 255 * (M m p t / 255 * (X 10 p t * X 10 p t + X 11 p t * X 11 p t))
      ring
    · refine (congrArg₂ (· + ·) (prod_entry X M p m 2 _ _) (prod_entry X M p m 3 _ _)).trans ?_
      rw [← Finset.sum_add_distrib]
      refine Finset.sum_congr rfl fun t _ => ?_
      show X 12 p t * X 12 p t * M m p t + X 13 p t * X 13 p t * M m p t = 255 * (M m p t / 255 * (X 12 p t * X 12 p t + X 13 p t * X 13 p t))
      ring
    · refine (congrArg₂ (· + ·) (prod_entry X M p m 4 _ _) (prod_entry X M p m 5 _ _)).trans ?_
      rw [← Finset.sum_add_distrib]
      refine Finset.sum_congr rfl fun t _ => ?_
      show X 10 p t * X 12 p t * M m p t + X 11 p t * X 13 p t * M m p t = 255 * (M m p t / 255 * (X 10 p t * X 12 p t + X 11 p t * X 13 p t))
      ring

theorem im_sum (m : Fin 2) (c d : Fin 7) (hcd : c.val ≤ d.val) (hne : ¬ (5 ≤ c.val ∧ c.val = d.val)) (h1 h2 h3 h4) :
    entry X M ⟨(Solve.imAt m c d).1.1, h1⟩ ⟨(Solve.imAt m c d).1.2, h2⟩ p - entry X M ⟨(Solve.imAt m c d).2.1, h3⟩ ⟨(Solve.imAt m c d).2.2, h4⟩ p
      = 255 * Spec.covIm (fun a t => X a p t) (M m p) c d := by
  unfold Spec.covIm
  rw [Finset.mul_sum]
  by_cases hc : c.val < 5
  · have e : Solve.imAt m c d = ((10 * m.val + (2 * c.val + 1), 2 * d.val), (10 * m.val + 2 * c.val, 2 * d.val + 1)) := if_pos hc
    generalize Solve.imAt m c d = q at e h1 h2 h3 h4
    subst e
    refine (congrArg₂ (· - ·) (wide_entry X M p m (2 * c.val + 1) (2 * d.val) (by omega) (by omega) _ _)
      (wide_entry X M p m (2 * c.val) (2 * d.val + 1) (by omega) (by omega) _ _)).trans ?_
    rw [← Finset.sum_sub_distrib]
    refine Finset.sum_congr rfl fun t _ => ?_
    ring
  · rcases last_cases c d hcd hc with ⟨rfl, rfl⟩ | ⟨rfl, rfl⟩ | ⟨rfl, rfl⟩
    · exact absurd ⟨le_refl _, rfl⟩ hne
    · exact absurd ⟨by decide, rfl⟩ hne
    · refine (congrArg₂ (· - ·) (prod_entry X M p m 6 _ _) (prod_entry X M p m 7 _ _)).trans ?_
      rw [← Finset.sum_sub_distrib]
      refine Finset.sum_congr rfl fun t _ => ?_
      show X 11 p t * X 12 p t * M m p t - X 10 p t * X 13 p t * M m p t = 255 * (M m p t / 255 * (X 11 p t * X 12 p t - X 10 p t * X 13 p t))
      ring

end

/-! ## The second call's entries -/

theorem inv_255 : (Named.named (F := Ideal) κ "inv_255" (0x3B808081#32 : BitVec 32) : Ideal .f32) = ((1 / 255 : ℝ) : EReal) :=
  IdealRules.named_const.ideal_named_scalar κ "inv_255" (φ := .f32) _ _ rfl

theorem row_at (x : Vec Ideal S28x16x2x528 .f32) (r k : ℕ) (hr : r < 28) (hk : k < 16) (b : Fin 2) (f : Fin 528) :
    shapeCast S2x528 (Solve.row x r k hr hk) shapeCasts_S1x1x2x528_S2x528 (ix2 b f) = x (ix4 (⟨r, hr⟩ : Fin 28) (⟨k, hk⟩ : Fin 16) b f) := by
  refine (shapeCast_apply _ _ _ (ix4 (0 : Fin 1) (0 : Fin 1) b f) ?_).trans ?_
  · rw [Shape.rowMajor_val_four, Shape.rowMajor_val_two]
    simp [ix2, ix4]
  · refine View.ld_unit_apply_of x _ _ _ _ _ fun a => ?_
    match a with
    | ⟨0, _⟩ => rfl
    | ⟨1, _⟩ => rfl
    | ⟨2, _⟩ => exact (Nat.zero_add _).symm
    | ⟨3, _⟩ => exact (Nat.zero_add _).symm

theorem sum_at (u v : Vec Ideal S1x1x2x528 .f32) (i : S2x528.Idx) (a b : ℝ) (hu : shapeCast S2x528 u shapeCasts_S1x1x2x528_S2x528 i = (a : EReal))
    (hv : shapeCast S2x528 v shapeCasts_S1x1x2x528_S2x528 i = (b : EReal)) (q : ℝ) (h : a + b = 255 * q) : k1_pay2 u v i = (q : EReal) := by
  show ((shapeCast S2x528 u shapeCasts_S1x1x2x528_S2x528 i : EReal) + shapeCast S2x528 v shapeCasts_S1x1x2x528_S2x528 i) * (Named.named (F := Ideal) κ "inv_255" (0x3B808081#32 : BitVec 32) : Ideal .f32) = _
  rw [inv_255, hu, hv, ← EReal.coe_add, ← EReal.coe_mul, h]
  refine congrArg _ ?_
  ring

theorem diff_at (u v : Vec Ideal S1x1x2x528 .f32) (i : S2x528.Idx) (a b : ℝ) (hu : shapeCast S2x528 u shapeCasts_S1x1x2x528_S2x528 i = (a : EReal))
    (hv : shapeCast S2x528 v shapeCasts_S1x1x2x528_S2x528 i = (b : EReal)) (q : ℝ) (h : a - b = 255 * q) : k1_pay3 u v i = (q : EReal) := by
  show ((shapeCast S2x528 u shapeCasts_S1x1x2x528_S2x528 i : EReal) - shapeCast S2x528 v shapeCasts_S1x1x2x528_S2x528 i) * (Named.named (F := Ideal) κ "inv_255" (0x3B808081#32 : BitVec 32) : Ideal .f32) = _
  rw [inv_255, hu, hv, ← EReal.coe_sub, ← EReal.coe_mul, h]
  refine congrArg _ ?_
  ring

section
variable {x : Vec Ideal S28x16x2x528 .f32} {X : Fin 14 → Fin 16 → ℕ → ℝ} {M : Fin 2 → Fin 16 → ℕ → ℝ} {b : Fin 2} {f : Fin 528} {p : Fin 16}

theorem reUp_at (hx : ∀ (r : Fin 28) (k : Fin 16), x (ix4 r k b f) = ((entry X M r k p : ℝ) : EReal)) (m : Fin 2) (c d : Fin 7) (hcd : c.val ≤ d.val) :
    Solve.reUp x m c d (ix2 b f) = ((Spec.covRe (fun a t => X a p t) (M m p) c d : ℝ) : EReal) :=
  sum_at _ _ _ _ _ ((row_at x _ _ _ _ b f).trans (hx _ _)) ((row_at x _ _ _ _ b f).trans (hx _ _)) _ (re_sum X M p m c d hcd _ _ _ _)

theorem imUp_at (hx : ∀ (r : Fin 28) (k : Fin 16), x (ix4 r k b f) = ((entry X M r k p : ℝ) : EReal)) (m : Fin 2) (c d : Fin 7) (hcd : c.val ≤ d.val) :
    Solve.imUp x m c d (ix2 b f) = ((Spec.covIm (fun a t => X a p t) (M m p) c d : ℝ) : EReal) := by
  unfold Solve.imUp
  split
  case isTrue h =>
    obtain rfl : c = d := Fin.ext h.2
    rw [Spec.covIm_self]
    show Ideal.ofBits .f32 0x00000000#32 = _
    rw [Ideal.ofBits_zero_f32]
    rfl
  case isFalse h =>
    exact diff_at _ _ _ _ _ ((row_at x _ _ _ _ b f).trans (hx _ _)) ((row_at x _ _ _ _ b f).trans (hx _ _)) _ (im_sum X M p m c d hcd h _ _ _ _)

theorem phiRe_at (hx : ∀ (r : Fin 28) (k : Fin 16), x (ix4 r k b f) = ((entry X M r k p : ℝ) : EReal)) (m : Fin 2) (c d : Fin 7) :
    Solve.phiRe x m c d (ix2 b f) = ((Spec.covRe (fun a t => X a p t) (M m p) c d : ℝ) : EReal) := by
  unfold Solve.phiRe
  split
  case isTrue h => exact reUp_at hx m c d h
  case isFalse h => rw [reUp_at hx m d c (by omega), Spec.covRe_comm]

theorem phiIm_at (hx : ∀ (r : Fin 28) (k : Fin 16), x (ix4 r k b f) = ((entry X M r k p : ℝ) : EReal)) (m : Fin 2) (c d : Fin 7) :
    Solve.phiIm x m c d (ix2 b f) = ((Spec.covIm (fun a t => X a p t) (M m p) c d : ℝ) : EReal) := by
  unfold Solve.phiIm
  split
  case isTrue h => exact imUp_at hx m c d h
  case isFalse h =>
    show (Ideal.ofBits .f32 0x00000000#32 : EReal) - Solve.imUp x m d c (ix2 b f) = _
    rw [imUp_at hx m d c (by omega), Ideal.ofBits_zero_f32, Spec.covIm_comm _ _ c d, ← EReal.coe_zero, ← EReal.coe_sub, zero_sub]

end

/-- A matrix's buffer, read at an entry. -/
theorem matOut_at (e : Fin 7 → Fin 7 → FVec Ideal S2x528 .f32) (c d : Fin 7) (b : Fin 2) (f : Fin 513) :
    Solve.matOut e (ix4 c d b f) = e c d (ix2 b (⟨f.val, by omega⟩ : Fin 528)) := by
  let G : S7x7x2x513.Idx → EReal := fun y => e (y 0) (y 1) (ix2 (y 2 : Fin 2) (⟨(y 3 : Fin 513).val, by have h : (y 3 : Fin 513).val < 513 := (y 3).isLt; omega⟩ : Fin 528))
  refine (View.canon_apply_of_pieces G (Solve.pieces e) ?_ _ (Solve.cover e _)).trans rfl
  unfold Solve.pieces
  intro q hq
  obtain ⟨o, -, rfl⟩ := List.mem_map.1 hq
  intro (y : S1x1x2x513.Idx)
  have h0 : (y 0).val < 1 := (y 0).isLt
  have h1 : (y 1).val < 1 := (y 1).isLt
  have h2 : (y 2).val < 2 := (y 2).isLt
  have h3 : (y 3).val < 513 := (y 3).isLt
  have e0 : ((Rect.unit (s := S7x7x2x513) ![o.1.val, o.2.val, 0, 0] S1x1x2x513.size (Solve.inb_entry o)).emb y) 0 = o.1 := by
    refine Fin.ext ((ValueKit.rect_emb_unit_val (s := S7x7x2x513) ![o.1.val, o.2.val, 0, 0] S1x1x2x513.size (Solve.inb_entry o) y 0).trans ?_)
    show o.1.val + (y 0).val = o.1.val
    omega
  have e1 : ((Rect.unit (s := S7x7x2x513) ![o.1.val, o.2.val, 0, 0] S1x1x2x513.size (Solve.inb_entry o)).emb y) 1 = o.2 := by
    refine Fin.ext ((ValueKit.rect_emb_unit_val (s := S7x7x2x513) ![o.1.val, o.2.val, 0, 0] S1x1x2x513.size (Solve.inb_entry o) y 1).trans ?_)
    show o.2.val + (y 1).val = o.2.val
    omega
  have e2 : ((Rect.unit (s := S7x7x2x513) ![o.1.val, o.2.val, 0, 0] S1x1x2x513.size (Solve.inb_entry o)).emb y) 2 = (⟨(y 2).val, h2⟩ : Fin 2) := by
    refine Fin.ext ((ValueKit.rect_emb_unit_val (s := S7x7x2x513) ![o.1.val, o.2.val, 0, 0] S1x1x2x513.size (Solve.inb_entry o) y 2).trans ?_)
    show 0 + (y 2).val = (y 2).val
    omega
  have e3 : ((Rect.unit (s := S7x7x2x513) ![o.1.val, o.2.val, 0, 0] S1x1x2x513.size (Solve.inb_entry o)).emb y) 3 = (⟨(y 3).val, h3⟩ : Fin 513) := by
    refine Fin.ext ((ValueKit.rect_emb_unit_val (s := S7x7x2x513) ![o.1.val, o.2.val, 0, 0] S1x1x2x513.size (Solve.inb_entry o) y 3).trans ?_)
    show 0 + (y 3).val = (y 3).val
    omega
  have eG : ∀ z : S7x7x2x513.Idx, z 0 = o.1 → z 1 = o.2 → z 2 = (⟨(y 2).val, h2⟩ : Fin 2) → z 3 = (⟨(y 3).val, h3⟩ : Fin 513) →
      G z = e o.1 o.2 (ix2 (⟨(y 2).val, h2⟩ : Fin 2) (⟨(y 3).val, by omega⟩ : Fin 528)) := by
    intro z z0 z1 z2 z3
    show e (z 0) (z 1) (ix2 (z 2 : Fin 2) (⟨(z 3 : Fin 513).val, _⟩ : Fin 528)) = _
    rw [z0, z1, z2]
    refine congrArg (fun g : Fin 528 => e o.1 o.2 (ix2 (⟨(y 2).val, h2⟩ : Fin 2) g)) (Fin.ext ?_)
    show (z 3 : Fin 513).val = (y 3).val
    exact congrArg (fun g : Fin 513 => g.val) z3
  refine Eq.trans ?_ (eG _ e0 e1 e2 e3).symm
  show k1_pay176 (e o.1 o.2) y = _
  unfold k1_pay176
  refine (shapeCast_apply _ _ _ (ix2 (⟨(y 2).val, h2⟩ : Fin 2) (⟨(y 3).val, h3⟩ : Fin 513)) ?_).trans ?_
  · rw [Shape.rowMajor_val_four, Shape.rowMajor_val_two]
    simp [ix2]
  · refine extractStridedSlice_apply _ _ _ _ _ fun a => ?_
    match a with
    | ⟨0, _⟩ => exact (Nat.zero_add _).symm
    | ⟨1, _⟩ => exact (Nat.zero_add _).symm

/-! ## The results -/

variable {m : (ℓ : Loc nD τ sig) → Buf (Elt Ideal) ℓ}

/-- The second call's first window is the whole table. -/
theorem win_table (c₀ : Dev nD) : (iblk1 m c₀ 0 t1_0 : Vec Ideal S28x16x2x528 .f32) = Run.V3 m c₀ main_v17 := by
  have e : win1_0.index t1_0 = ![0, 0, 0, 0] := by decide +kernel
  funext y
  blk_ext [iblk1, e]

theorem table_freq {c₀ : Dev nD} (hr : Spec.Finite (re m c₀) (sc m c₀)) (hi : Spec.Finite (im m c₀) (sc m c₀)) (b : Fin 2) (f : Fin 513) (r : Fin 28) (k : Fin 16) :
    (iblk1 m c₀ 0 t1_0 : Vec Ideal S28x16x2x528 .f32) (ix4 r k b (⟨f.val, by omega⟩ : Fin 528))
      = ((entry (fun a _ t => Spec.plane (re m c₀) (im m c₀) (sc m c₀) b f a t) (fun q _ t => Spec.level (mk m c₀ q) b f t) r k 0 : ℝ) : EReal) := by
  rw [win_table]
  have ef : freq (⟨f.val / 16, by omega⟩ : Fin 33) (⟨f.val % 16, by omega⟩ : Fin 16) = (⟨f.val, by omega⟩ : Fin 528) :=
    Fin.ext (by show 16 * (f.val / 16) + f.val % 16 = f.val; omega)
  rw [← ef]
  refine (table_at hr hi r k b _ _).trans ?_
  have es : src (freq (⟨f.val / 16, by omega⟩ : Fin 33) (⟨f.val % 16, by omega⟩ : Fin 16)) = f := by
    rw [ef]
    unfold src
    rw [dif_pos f.isLt]
  refine congrArg _ ?_
  unfold entry wideTerm prodTerm col pointX pointM
  rw [es]

theorem mat_arr {c₀ : Dev nD} : Run.V4 m c₀ main_v19_1 = Solve.matOut (Solve.phiRe (iblk1 m c₀ 0 t1_0) 0) ∧ Run.V4 m c₀ main_v19_2 = Solve.matOut (Solve.phiIm (iblk1 m c₀ 0 t1_0) 0)
    ∧ Run.V4 m c₀ main_v19_3 = Solve.matOut (Solve.phiRe (iblk1 m c₀ 0 t1_0) 1) ∧ Run.V4 m c₀ main_v19_4 = Solve.matOut (Solve.phiIm (iblk1 m c₀ 0 t1_0) 1) := by
  refine ⟨(Pipeline.afterRegion_arr (dat1 m c₀) (Run.V3 m c₀) launch1.win.arr_inj 3).trans ?_, (Pipeline.afterRegion_arr (dat1 m c₀) (Run.V3 m c₀) launch1.win.arr_inj 4).trans ?_,
    (Pipeline.afterRegion_arr (dat1 m c₀) (Run.V3 m c₀) launch1.win.arr_inj 5).trans ?_, (Pipeline.afterRegion_arr (dat1 m c₀) (Run.V3 m c₀) launch1.win.arr_inj 6).trans ?_⟩
  · refine (dat1 m c₀).arrAt_eq_of_after_last 3 t1_0 (by decide +kernel) _ fun j => ?_
    blk_simp
    rw [after1_3]
  · refine (dat1 m c₀).arrAt_eq_of_after_last 4 t1_0 (by decide +kernel) _ fun j => ?_
    blk_simp
    rw [after1_4]
  · refine (dat1 m c₀).arrAt_eq_of_after_last 5 t1_0 (by decide +kernel) _ fun j => ?_
    blk_simp
    rw [after1_5]
  · refine (dat1 m c₀).arrAt_eq_of_after_last 6 t1_0 (by decide +kernel) _ fun j => ?_
    blk_simp
    rw [after1_6]

/-- The host's last transpose, read at an index. -/
theorem out_at (v : Vec Ideal S7x7x2x513 .f32) (b : Fin 2) (c d : Fin 7) (f : Fin 513) :
    transpose S2x7x7x513 [2, 0, 1, 3] v transposes_S7x7x2x513_S2x7x7x513_2_0_1_3 (ix4 b c d f) = v (ix4 c d b f) := by
  refine transpose_apply _ _ _ _ (ix4 c d b f) fun a => ?_
  match a with
  | ⟨0, _⟩ => rfl
  | ⟨1, _⟩ => rfl
  | ⟨2, _⟩ => rfl
  | ⟨3, _⟩ => rfl

section
variable {c₀ : Dev nD} (hr : Spec.Finite (re m c₀) (sc m c₀)) (hi : Spec.Finite (im m c₀) (sc m c₀)) (b : Fin 2) (c d : Fin 7) (f : Fin 513)
include hr hi

theorem v20_at : (Run.V5 m c₀ main_v20 : Vec Ideal S2x7x7x513 .f32) (ix4 b c d f) = Spec.phiRe (re m c₀) (im m c₀) (sc m c₀) (mk m c₀ 0) b c d f := by
  unfold Run.V5
  after_reads_simp
  rw [mat_arr.1]
  exact ((out_at _ b c d f).trans (matOut_at _ c d b f)).trans (phiRe_at (table_freq hr hi b f) 0 c d)

theorem v21_at : (Run.V5 m c₀ main_v21 : Vec Ideal S2x7x7x513 .f32) (ix4 b c d f) = Spec.phiIm (re m c₀) (im m c₀) (sc m c₀) (mk m c₀ 0) b c d f := by
  unfold Run.V5
  after_reads_simp
  rw [mat_arr.2.1]
  exact ((out_at _ b c d f).trans (matOut_at _ c d b f)).trans (phiIm_at (table_freq hr hi b f) 0 c d)

theorem v22_at : (Run.V5 m c₀ main_v22 : Vec Ideal S2x7x7x513 .f32) (ix4 b c d f) = Spec.phiRe (re m c₀) (im m c₀) (sc m c₀) (mk m c₀ 1) b c d f := by
  unfold Run.V5
  after_reads_simp
  rw [mat_arr.2.2.1]
  exact ((out_at _ b c d f).trans (matOut_at _ c d b f)).trans (phiRe_at (table_freq hr hi b f) 1 c d)

theorem v23_at : (Run.V5 m c₀ main_v23 : Vec Ideal S2x7x7x513 .f32) (ix4 b c d f) = Spec.phiIm (re m c₀) (im m c₀) (sc m c₀) (mk m c₀ 1) b c d f := by
  unfold Run.V5
  after_reads_simp
  rw [mat_arr.2.2.2]
  exact ((out_at _ b c d f).trans (matOut_at _ c d b f)).trans (phiIm_at (table_freq hr hi b f) 1 c d)

end

end Cert.KernelIdeal.PhiValue
-- ==== Proof.RefValue.lean ====
/-
  The reference's four results over exact numbers: the entries of the two covariance matrices.
-/
module

public import proofs.«01_k».proof.Proof.Gen.ReferenceIdeal.Frame
public import proofs.«01_k».proof.Proof.Spec
public import Idealize.ShloMosaic.Lib.StableHlo.ReadAt

@[expose] public section

set_option maxRecDepth 16384

noncomputable section

namespace Cert.ReferenceIdeal.RefValue

open Cert.ReferenceIdeal Cert.ReferenceIdeal.Gen
open Idealize.ShloMosaic hiding ix0 ix1 ix2 ix3 ix4 ix5 eq_ix2 eq_ix3 eq_ix4
open Idealize.ShloMosaic.TcCoe Idealize.ShloMosaic.ValueIdx
open Idealize.ShloMosaic.Pipeline (Dat)

variable (m : (ℓ : Loc nD τ sig) → Buf (Elt Ideal) ℓ)

abbrev re (c₀ : Dev nD) : Spec.Codes := m ((c₀ : Thread nD τ).loc main_arg0)
abbrev im (c₀ : Dev nD) : Spec.Codes := m ((c₀ : Thread nD τ).loc main_arg1)
abbrev sc (c₀ : Dev nD) : Spec.Scales := m ((c₀ : Thread nD τ).loc main_arg2)
abbrev mk (c₀ : Dev nD) (k : Fin 2) : Spec.Mask := if k = 0 then m ((c₀ : Thread nD τ).loc main_arg3) else m ((c₀ : Thread nD τ).loc main_arg4)

/-! ## The dequantised arrays -/

theorem codes_re (c₀ : Dev nD) (i) : (V m c₀ main_v0 : Vec Ideal S2x7x16384x513 .fp8e4m3) i = Ideal.ofBits .fp8e4m3 (re m c₀ i) := by
  show (StableHlo.after (List.flatten [hostOps0]) (fun b => m (c₀, b)) (Proc.devRef .tc main_v0) : Vec Ideal S2x7x16384x513 .fp8e4m3) i = _
  after_reads_simp
  rfl

theorem codes_im (c₀ : Dev nD) (i) : (V m c₀ main_v1 : Vec Ideal S2x7x16384x513 .fp8e4m3) i = Ideal.ofBits .fp8e4m3 (im m c₀ i) := by
  show (StableHlo.after (List.flatten [hostOps0]) (fun b => m (c₀, b)) (Proc.devRef .tc main_v1) : Vec Ideal S2x7x16384x513 .fp8e4m3) i = _
  after_reads_simp
  rfl

theorem lane_const : Ideal.ofBits .f32 0x437F0000#32 = ((255 : ℝ) : EReal) := by
  simp [Ideal.ofBits, Ideal.ieee]
  rw [← EReal.coe_mul]
  norm_num

/-- A scaled code. -/
theorem scaled_at (x : Vec Ideal S2x7x16384x513 .fp8e4m3) (s : Vec Ideal S2x7x16384 .f32) (b : Fin 2) (c : Fin 7) (t : Fin 16384) (f : Fin 513) :
    mulf (extf .f32 (shapeCast S2x7x16384x513 x shapeCasts_S2x7x16384x513_S2x7x16384x513) bitsLt_fp8e4m3_f32)
      (broadcastTo S2x7x16384x513 (k0_pay1 s) broadcasts_S2x7x16384x1_S2x7x16384x513) (ix4 b c t f)
      = (x (ix4 b c t f) : EReal) * (s (ix3 b c t) : EReal) := by
  show (shapeCast S2x7x16384x513 x shapeCasts_S2x7x16384x513_S2x7x16384x513 (ix4 b c t f) : EReal)
      * (broadcastTo S2x7x16384x513 (k0_pay1 s) broadcasts_S2x7x16384x1_S2x7x16384x513 (ix4 b c t f) : EReal) = _
  rw [shapeCast_self]
  refine congrArg (fun z : EReal => (x (ix4 b c t f) : EReal) * z) ?_
  refine (broadcastTo_apply _ _ _ (ix4 b c t (0 : Fin 1)) ?_).trans ?_
  · intro a
    match a with
    | ⟨0, _⟩ => rfl
    | ⟨1, _⟩ => rfl
    | ⟨2, _⟩ => rfl
    | ⟨3, _⟩ => rfl
  · unfold k0_pay1
    refine shapeCast_apply _ _ _ (ix3 b c t) ?_
    rw [Shape.rowMajor_val_four, Shape.rowMajor_val_three]
    simp [ix3, ix4]

theorem ld_whole4 {e} (x : Vec Ideal S2x7x16384x513 e) (i) : View.ld x r0_1 i = x i := by
  refine View.ld_unit_apply_of x _ _ _ i i fun a => ?_
  match a with
  | ⟨0, _⟩ => exact (Nat.zero_add _).symm
  | ⟨1, _⟩ => exact (Nat.zero_add _).symm
  | ⟨2, _⟩ => exact (Nat.zero_add _).symm
  | ⟨3, _⟩ => exact (Nat.zero_add _).symm

theorem ld_scale {e} (x : Vec Ideal S2x7x16384 e) (i) : View.ld x r0_0 i = x i := by
  refine View.ld_unit_apply_of x _ _ _ i i fun a => ?_
  match a with
  | ⟨0, _⟩ => exact (Nat.zero_add _).symm
  | ⟨1, _⟩ => exact (Nat.zero_add _).symm
  | ⟨2, _⟩ => exact (Nat.zero_add _).symm

theorem ld_mask {e} (x : Vec Ideal S2x16384x513 e) (i) : View.ld x r0_2 i = x i := by
  refine View.ld_unit_apply_of x _ _ _ i i fun a => ?_
  match a with
  | ⟨0, _⟩ => exact (Nat.zero_add _).symm
  | ⟨1, _⟩ => exact (Nat.zero_add _).symm
  | ⟨2, _⟩ => exact (Nat.zero_add _).symm

theorem stored4 (p : Vec Ideal S2x7x16384x513 .f32) (y : S2x7x16384x513.Idx) : View.canon (Val := Elt Ideal) [⟨r0_1, p⟩] y = p y := by
  refine View.canon_apply_of_pieces (Val := Elt Ideal) (S := S2x7x16384x513) (e := .f32) p [⟨r0_1, p⟩] ?_ y (cover0_5 p y)
  intro q hq
  obtain rfl := List.mem_singleton.1 hq
  intro (x : S2x7x16384x513.Idx)
  refine congrArg p (funext fun a => Fin.ext ((ValueKit.rect_emb_unit_val (s := S2x7x16384x513) ![0, 0, 0, 0] S2x7x16384x513.size inb_S2x7x16384x513_S2x7x16384x513_0_0_0_0 x a).trans ?_).symm)
  match a with
  | ⟨0, _⟩ => exact Nat.zero_add _
  | ⟨1, _⟩ => exact Nat.zero_add _
  | ⟨2, _⟩ => exact Nat.zero_add _
  | ⟨3, _⟩ => exact Nat.zero_add _

theorem stored3 (p : Vec Ideal S2x16384x513 .f32) (y : S2x16384x513.Idx) : View.canon (Val := Elt Ideal) [⟨r0_2, p⟩] y = p y := by
  refine View.canon_apply_of_pieces (Val := Elt Ideal) (S := S2x16384x513) (e := .f32) p [⟨r0_2, p⟩] ?_ y (cover0_7 p y)
  intro q hq
  obtain rfl := List.mem_singleton.1 hq
  intro (x : S2x16384x513.Idx)
  refine congrArg p (funext fun a => Fin.ext ((ValueKit.rect_emb_unit_val (s := S2x16384x513) ![0, 0, 0] S2x16384x513.size inb_S2x16384x513_S2x16384x513_0_0_0 x a).trans ?_).symm)
  match a with
  | ⟨0, _⟩ => exact Nat.zero_add _
  | ⟨1, _⟩ => exact Nat.zero_add _
  | ⟨2, _⟩ => exact Nat.zero_add _

theorem win_re (c₀ : Dev nD) : (iblk m c₀ 0 t0_0 : Vec Ideal S2x7x16384x513 .fp8e4m3) = V m c₀ main_v0 := by
  have e : win0_0.index t0_0 = ![0, 0, 0, 0] := by decide +kernel
  funext y
  blk_ext [iblk, e]
theorem win_im (c₀ : Dev nD) : (iblk m c₀ 1 t0_0 : Vec Ideal S2x7x16384x513 .fp8e4m3) = V m c₀ main_v1 := by
  have e : win0_1.index t0_0 = ![0, 0, 0, 0] := by decide +kernel
  funext y
  blk_ext [iblk, e]
theorem win_scale (c₀ : Dev nD) : (iblk m c₀ 2 t0_0 : Vec Ideal S2x7x16384 .f32) = V m c₀ main_arg2 := by
  have e : win0_2.index t0_0 = ![0, 0, 0] := by decide +kernel
  funext y
  blk_ext [iblk, e]
theorem win_speech (c₀ : Dev nD) : (iblk m c₀ 3 t0_0 : Vec Ideal S2x16384x513 .i8) = V m c₀ main_arg3 := by
  have e : win0_3.index t0_0 = ![0, 0, 0] := by decide +kernel
  funext y
  blk_ext [iblk, e]
theorem win_noise (c₀ : Dev nD) : (iblk m c₀ 4 t0_0 : Vec Ideal S2x16384x513 .i8) = V m c₀ main_arg4 := by
  have e : win0_4.index t0_0 = ![0, 0, 0] := by decide +kernel
  funext y
  blk_ext [iblk, e]

/-- What the call leaves in its four result arrays. -/
abbrev xRe (c₀ : Dev nD) : Vec Ideal S2x7x16384x513 .f32 := (dats m 0 c₀).arrAt 5 cfg0.N
abbrev xIm (c₀ : Dev nD) : Vec Ideal S2x7x16384x513 .f32 := (dats m 0 c₀).arrAt 6 cfg0.N
abbrev wS (c₀ : Dev nD) : Vec Ideal S2x16384x513 .f32 := (dats m 0 c₀).arrAt 7 cfg0.N
abbrev wN (c₀ : Dev nD) : Vec Ideal S2x16384x513 .f32 := (dats m 0 c₀).arrAt 8 cfg0.N

theorem xRe_eq (c₀ : Dev nD) : xRe m c₀ = out0_5 (iblk m c₀ 0 t0_0) (iblk m c₀ 1 t0_0) (iblk m c₀ 2 t0_0) (iblk m c₀ 3 t0_0) (iblk m c₀ 4 t0_0) := by
  refine (dats m 0 c₀).arrAt_eq_of_after_last 5 t0_0 (by decide +kernel) _ fun j => ?_
  blk_simp
  rw [after0_5]
theorem xIm_eq (c₀ : Dev nD) : xIm m c₀ = out0_6 (iblk m c₀ 0 t0_0) (iblk m c₀ 1 t0_0) (iblk m c₀ 2 t0_0) (iblk m c₀ 3 t0_0) (iblk m c₀ 4 t0_0) := by
  refine (dats m 0 c₀).arrAt_eq_of_after_last 6 t0_0 (by decide +kernel) _ fun j => ?_
  blk_simp
  rw [after0_6]
theorem wS_eq (c₀ : Dev nD) : wS m c₀ = out0_7 (iblk m c₀ 0 t0_0) (iblk m c₀ 1 t0_0) (iblk m c₀ 2 t0_0) (iblk m c₀ 3 t0_0) (iblk m c₀ 4 t0_0) := by
  refine (dats m 0 c₀).arrAt_eq_of_after_last 7 t0_0 (by decide +kernel) _ fun j => ?_
  blk_simp
  rw [after0_7]
theorem wN_eq (c₀ : Dev nD) : wN m c₀ = out0_8 (iblk m c₀ 0 t0_0) (iblk m c₀ 1 t0_0) (iblk m c₀ 2 t0_0) (iblk m c₀ 3 t0_0) (iblk m c₀ 4 t0_0) := by
  refine (dats m 0 c₀).arrAt_eq_of_after_last 8 t0_0 (by decide +kernel) _ fun j => ?_
  blk_simp
  rw [after0_8]

theorem xRe_at {c₀ : Dev nD} (hr : Spec.Finite (re m c₀) (sc m c₀)) (b : Fin 2) (c : Fin 7) (t : Fin 16384) (f : Fin 513) :
    xRe m c₀ (ix4 b c t f) = ((Spec.num (re m c₀) (sc m c₀) b c t f : ℝ) : EReal) := by
  rw [xRe_eq]
  unfold out0_5
  refine (stored4 _ _).trans ?_
  unfold k0_pay2
  refine (scaled_at _ _ b c t f).trans ?_
  rw [ld_whole4, ld_scale, win_re, win_scale, codes_re, V_main_arg2]
  exact hr b c t f

theorem xIm_at {c₀ : Dev nD} (hi : Spec.Finite (im m c₀) (sc m c₀)) (b : Fin 2) (c : Fin 7) (t : Fin 16384) (f : Fin 513) :
    xIm m c₀ (ix4 b c t f) = ((Spec.num (im m c₀) (sc m c₀) b c t f : ℝ) : EReal) := by
  rw [xIm_eq]
  unfold out0_6
  refine (stored4 _ _).trans ?_
  unfold k0_pay3
  refine (scaled_at _ _ b c t f).trans ?_
  rw [ld_whole4, ld_scale, win_im, win_scale, codes_im, V_main_arg2]
  exact hi b c t f

/-- A mask's weight. -/
theorem weight_at (k : Vec Ideal S2x16384x513 .i8) (i : S2x16384x513.Idx) :
    divf (uitofp .f32 (View.ld k r0_2) : FVec Ideal S2x16384x513 .f32) (broadcast S2x16384x513 (Scalar.ofBits .f32 0x437F0000#32)) i
      = ((((k i : BitVec 8).toNat : ℝ) / 255 : ℝ) : EReal) := by
  show Ideal.div (((View.ld k r0_2 i : BitVec 8).toNat : ℝ) : EReal) (Ideal.ofBits .f32 0x437F0000#32) = _
  rw [ld_mask, lane_const, Ideal.div_coe (by norm_num), ← EReal.coe_mul]
  refine congrArg _ ?_
  ring

theorem wS_at {c₀ : Dev nD} (i) : wS m c₀ i = (((((mk m c₀ 0) i : BitVec 8).toNat : ℝ) / 255 : ℝ) : EReal) := by
  rw [wS_eq]
  unfold out0_7
  refine (stored3 _ _).trans ?_
  unfold k0_pay4
  refine (weight_at _ i).trans ?_
  rw [win_speech, V_main_arg3]
  rfl

theorem wN_at {c₀ : Dev nD} (i) : wN m c₀ i = (((((mk m c₀ 1) i : BitVec 8).toNat : ℝ) / 255 : ℝ) : EReal) := by
  rw [wN_eq]
  unfold out0_8
  refine (stored3 _ _).trans ?_
  unfold k0_pay5
  refine (weight_at _ i).trans ?_
  rw [win_noise, V_main_arg4]
  rfl

/-! ## The covariances -/

/-- The product's axes. -/
abbrev D : DotDims S2x7x16384x513 S2x7x16384x513 S2x513x7x7 := dot_S2x7x16384x513_S2x7x16384x513_S2x513x7x7_2_2_1_1_03_03

theorem coe_sum {ι : Type*} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- A product over frames, its result's axes put in the result order. -/
theorem over_frames (u v : Vec Ideal S2x7x16384x513 .f32) (b : Fin 2) (c d : Fin 7) (f : Fin 513) :
    transpose S2x7x7x513 [0, 3, 2, 1] (Host.dotGeneral (φ₁ := .f32) (φ₂ := .f32) dot_S2x7x16384x513_S2x7x16384x513_S2x513x7x7_2_2_1_1_03_03 (some .fp32) u v : FVec Ideal S2x513x7x7 .f32)
      transposes_S2x513x7x7_S2x7x7x513_0_3_2_1 (ix4 b c d f) = ∑ t : Fin 16384, (u (ix4 b d t f) : EReal) * (v (ix4 b c t f) : EReal) := by
  refine (transpose_apply _ _ _ _ (ix4 b f d c) fun a => ?_).trans ?_
  · match a with
    | ⟨0, _⟩ => rfl
    | ⟨1, _⟩ => rfl
    | ⟨2, _⟩ => rfl
    | ⟨3, _⟩ => rfl
  simp only [Host.dotGeneral]
  rw [Ideal.dotGeneral_apply, ← Equiv.sum_comp (contrEquiv1 D 16384 rfl rfl).symm]
  refine Finset.sum_congr rfl fun t _ => ?_
  have h2 := contrEquiv1_symm_val D 16384 rfl rfl t
  have el : D.lhsIdx (ix4 b f d c) ((contrEquiv1 D 16384 rfl rfl).symm t) = ix4 b d t f := by
    funext a; apply Fin.ext
    match a with
    | ⟨0, _⟩ => rfl
    | ⟨1, _⟩ => rfl
    | ⟨2, _⟩ => exact h2
    | ⟨3, _⟩ => rfl
  have er : D.rhsIdx (ix4 b f d c) ((contrEquiv1 D 16384 rfl rfl).symm t) = ix4 b c t f := by
    funext a; apply Fin.ext
    match a with
    | ⟨0, _⟩ => rfl
    | ⟨1, _⟩ => rfl
    | ⟨2, _⟩ => exact h2
    | ⟨3, _⟩ => rfl
  rw [el, er]

/-- A weight over every microphone. -/
theorem spread_at (w : Vec Ideal S2x16384x513 .f32) (b : Fin 2) (c : Fin 7) (t : Fin 16384) (f : Fin 513) :
    broadcastInDim S2x7x16384x513 ![0, 1, 2, 3] bcast_S2x1x16384x513_S2x7x16384x513_0_1_2_3 (broadcastInDim S2x1x16384x513 ![0, 2, 3] bcast_S2x16384x513_S2x1x16384x513_0_2_3 w) (ix4 b c t f)
      = w (ix3 b t f) := by
  refine (broadcastInDim_apply _ _ _ _ (ix4 b (0 : Fin 1) t f) fun a => ?_).trans (broadcastInDim_apply _ _ _ _ (ix3 b t f) fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

/-- The sum over frames of one array times another one that is weighted. -/
abbrev weighted (w : Vec Ideal S2x16384x513 .f32) (u v : Vec Ideal S2x7x16384x513 .f32) : FVec Ideal S2x7x7x513 .f32 :=
  transpose S2x7x7x513 [0, 3, 2, 1] (Host.dotGeneral (φ₁ := .f32) (φ₂ := .f32) dot_S2x7x16384x513_S2x7x16384x513_S2x513x7x7_2_2_1_1_03_03 (some .fp32) u
    (mulf (broadcastInDim S2x7x16384x513 ![0, 1, 2, 3] bcast_S2x1x16384x513_S2x7x16384x513_0_1_2_3 (broadcastInDim S2x1x16384x513 ![0, 2, 3] bcast_S2x16384x513_S2x1x16384x513_0_2_3 w)) v) : FVec Ideal S2x513x7x7 .f32)
      transposes_S2x513x7x7_S2x7x7x513_0_3_2_1

theorem weighted_at {w : Vec Ideal S2x16384x513 .f32} {u v : Vec Ideal S2x7x16384x513 .f32} {b : Fin 2} {f : Fin 513} {w' : ℕ → ℝ} {u' v' : Fin 7 → ℕ → ℝ}
    (hw : ∀ t : Fin 16384, w (ix3 b t f) = ((w' t.val / 255 : ℝ) : EReal)) (hu : ∀ (c : Fin 7) (t : Fin 16384), u (ix4 b c t f) = ((u' c t.val : ℝ) : EReal))
    (hv : ∀ (c : Fin 7) (t : Fin 16384), v (ix4 b c t f) = ((v' c t.val : ℝ) : EReal)) (c d : Fin 7) :
    weighted w u v (ix4 b c d f) = ((∑ t ∈ Finset.range 16384, u' d t * (w' t / 255 * v' c t) : ℝ) : EReal) := by
  refine (over_frames _ _ b c d f).trans ?_
  rw [Finset.sum_range, coe_sum]
  refine Finset.sum_congr rfl fun t _ => ?_
  show (u (ix4 b d t f) : EReal) * ((broadcastInDim S2x7x16384x513 ![0, 1, 2, 3] bcast_S2x1x16384x513_S2x7x16384x513_0_1_2_3 (broadcastInDim S2x1x16384x513 ![0, 2, 3] bcast_S2x16384x513_S2x1x16384x513_0_2_3 w) (ix4 b c t f) : EReal) * (v (ix4 b c t f) : EReal)) = _
  rw [spread_at, hw, hu, hv, ← EReal.coe_mul, ← EReal.coe_mul]

section
variable {w : Vec Ideal S2x16384x513 .f32} {u v : Vec Ideal S2x7x16384x513 .f32} {b : Fin 2} {f : Fin 513} {w' : ℕ → ℝ} {x : Fin 14 → ℕ → ℝ}
  (hw : ∀ t : Fin 16384, w (ix3 b t f) = ((w' t.val / 255 : ℝ) : EReal)) (hu : ∀ (c : Fin 7) (t : Fin 16384), u (ix4 b c t f) = ((x ⟨2 * c.val, by omega⟩ t.val : ℝ) : EReal))
  (hv : ∀ (c : Fin 7) (t : Fin 16384), v (ix4 b c t f) = ((x ⟨2 * c.val + 1, by omega⟩ t.val : ℝ) : EReal)) (c d : Fin 7)
include hw hu hv

theorem re_sum : addf (weighted w u u) (weighted w v v) (ix4 b c d f) = ((Spec.covRe x w' c d : ℝ) : EReal) := by
  show (weighted w u u (ix4 b c d f) : EReal) + (weighted w v v (ix4 b c d f) : EReal) = _
  rw [weighted_at (u' := fun c t => x ⟨2 * c.val, by omega⟩ t) (v' := fun c t => x ⟨2 * c.val, by omega⟩ t) hw hu hu c d,
    weighted_at (u' := fun c t => x ⟨2 * c.val + 1, by omega⟩ t) (v' := fun c t => x ⟨2 * c.val + 1, by omega⟩ t) hw hv hv c d, ← EReal.coe_add, ← Finset.sum_add_distrib]
  refine congrArg _ (Finset.sum_congr rfl fun t _ => ?_)
  ring

theorem im_sum : subf (weighted w u v) (weighted w v u) (ix4 b c d f) = ((Spec.covIm x w' c d : ℝ) : EReal) := by
  show (weighted w u v (ix4 b c d f) : EReal) - (weighted w v u (ix4 b c d f) : EReal) = _
  rw [weighted_at (u' := fun c t => x ⟨2 * c.val, by omega⟩ t) (v' := fun c t => x ⟨2 * c.val + 1, by omega⟩ t) hw hu hv c d,
    weighted_at (u' := fun c t => x ⟨2 * c.val + 1, by omega⟩ t) (v' := fun c t => x ⟨2 * c.val, by omega⟩ t) hw hv hu c d, ← EReal.coe_sub, ← Finset.sum_sub_distrib]
  refine congrArg _ (Finset.sum_congr rfl fun t _ => ?_)
  ring

end

/-! ## The results -/

/-- A buffer after the reference's last host line. -/
abbrev W (c₀ : Dev nD) (b : Ref sig .tc) : Buf (Elt Ideal) ((c₀ : Thread nD τ).loc b) := Pipeline.afterTail₀ cfgs (dats m) 0 (V0 m) [hostOps1] c₀ b

abbrev B (c₀ : Dev nD) : Valuation τ sig (Elt Ideal) := Pipeline.withArrays (cfgs 0).spec c₀ (V0 m c₀) fun w => (dats m 0 c₀).arrAt w (cfgs 0).N

theorem arr_re (c₀ : Dev nD) : B m c₀ (Proc.devRef .tc main_v2_0) = xRe m c₀ := Pipeline.withArrays_arr _ launch0.win.arr_inj c₀ _ _ 5
theorem arr_im (c₀ : Dev nD) : B m c₀ (Proc.devRef .tc main_v2_1) = xIm m c₀ := Pipeline.withArrays_arr _ launch0.win.arr_inj c₀ _ _ 6
theorem arr_speech (c₀ : Dev nD) : B m c₀ (Proc.devRef .tc main_v2_2) = wS m c₀ := Pipeline.withArrays_arr _ launch0.win.arr_inj c₀ _ _ 7
theorem arr_noise (c₀ : Dev nD) : B m c₀ (Proc.devRef .tc main_v2_3) = wN m c₀ := Pipeline.withArrays_arr _ launch0.win.arr_inj c₀ _ _ 8

theorem v13_eq (c₀ : Dev nD) : (W m c₀ main_v13 : Vec Ideal S2x7x7x513 .f32) = addf (weighted (wS m c₀) (xRe m c₀) (xRe m c₀)) (weighted (wS m c₀) (xIm m c₀) (xIm m c₀)) := by
  show StableHlo.after (List.flatten [hostOps1]) (B m c₀) (Proc.devRef .tc main_v13) = _
  after_reads_simp
  rw [arr_re, arr_im, arr_speech]

theorem v18_eq (c₀ : Dev nD) : (W m c₀ main_v18 : Vec Ideal S2x7x7x513 .f32) = subf (weighted (wS m c₀) (xRe m c₀) (xIm m c₀)) (weighted (wS m c₀) (xIm m c₀) (xRe m c₀)) := by
  show StableHlo.after (List.flatten [hostOps1]) (B m c₀) (Proc.devRef .tc main_v18) = _
  after_reads_simp
  rw [arr_re, arr_im, arr_speech]

theorem v29_eq (c₀ : Dev nD) : (W m c₀ main_v29 : Vec Ideal S2x7x7x513 .f32) = addf (weighted (wN m c₀) (xRe m c₀) (xRe m c₀)) (weighted (wN m c₀) (xIm m c₀) (xIm m c₀)) := by
  show StableHlo.after (List.flatten [hostOps1]) (B m c₀) (Proc.devRef .tc main_v29) = _
  after_reads_simp
  rw [arr_re, arr_im, arr_noise]

theorem v34_eq (c₀ : Dev nD) : (W m c₀ main_v34 : Vec Ideal S2x7x7x513 .f32) = subf (weighted (wN m c₀) (xRe m c₀) (xIm m c₀)) (weighted (wN m c₀) (xIm m c₀) (xRe m c₀)) := by
  show StableHlo.after (List.flatten [hostOps1]) (B m c₀) (Proc.devRef .tc main_v34) = _
  after_reads_simp
  rw [arr_re, arr_im, arr_noise]

section
variable {m} {c₀ : Dev nD} (hr : Spec.Finite (re m c₀) (sc m c₀)) (hi : Spec.Finite (im m c₀) (sc m c₀)) (b : Fin 2) (c d : Fin 7) (f : Fin 513)

theorem wS_level (t : Fin 16384) : wS m c₀ (ix3 b t f) = ((Spec.level (mk m c₀ 0) b f t.val / 255 : ℝ) : EReal) := by
  rw [wS_at]
  unfold Spec.level
  rw [Spec.frame_val]

theorem wN_level (t : Fin 16384) : wN m c₀ (ix3 b t f) = ((Spec.level (mk m c₀ 1) b f t.val / 255 : ℝ) : EReal) := by
  rw [wN_at]
  unfold Spec.level
  rw [Spec.frame_val]

include hr in
theorem xRe_plane (c : Fin 7) (t : Fin 16384) : xRe m c₀ (ix4 b c t f) = ((Spec.plane (re m c₀) (im m c₀) (sc m c₀) b f ⟨2 * c.val, by omega⟩ t.val : ℝ) : EReal) := by
  rw [xRe_at m hr, Spec.plane_re, Spec.frame_val]

include hi in
theorem xIm_plane (c : Fin 7) (t : Fin 16384) : xIm m c₀ (ix4 b c t f) = ((Spec.plane (re m c₀) (im m c₀) (sc m c₀) b f ⟨2 * c.val + 1, by omega⟩ t.val : ℝ) : EReal) := by
  rw [xIm_at m hi, Spec.plane_im, Spec.frame_val]

include hr hi

theorem v13_at : (W m c₀ main_v13 : Vec Ideal S2x7x7x513 .f32) (ix4 b c d f) = Spec.phiRe (re m c₀) (im m c₀) (sc m c₀) (mk m c₀ 0) b c d f := by
  rw [v13_eq]
  exact re_sum (wS_level b f) (xRe_plane hr b f) (xIm_plane hi b f) c d

theorem v18_at : (W m c₀ main_v18 : Vec Ideal S2x7x7x513 .f32) (ix4 b c d f) = Spec.phiIm (re m c₀) (im m c₀) (sc m c₀) (mk m c₀ 0) b c d f := by
  rw [v18_eq]
  exact im_sum (wS_level b f) (xRe_plane hr b f) (xIm_plane hi b f) c d

theorem v29_at : (W m c₀ main_v29 : Vec Ideal S2x7x7x513 .f32) (ix4 b c d f) = Spec.phiRe (re m c₀) (im m c₀) (sc m c₀) (mk m c₀ 1) b c d f := by
  rw [v29_eq]
  exact re_sum (wN_level b f) (xRe_plane hr b f) (xIm_plane hi b f) c d

theorem v34_at : (W m c₀ main_v34 : Vec Ideal S2x7x7x513 .f32) (ix4 b c d f) = Spec.phiIm (re m c₀) (im m c₀) (sc m c₀) (mk m c₀ 1) b c d f := by
  rw [v34_eq]
  exact im_sum (wN_level b f) (xRe_plane hr b f) (xIm_plane hi b f) c d

end

end Cert.ReferenceIdeal.RefValue
-- ==== Proof.Algebraic.lean ====
/-
  The value claim: over exact numbers the kernel's four results are the reference's.
-/
module

public import proofs.«01_k».proof.Defs
public import proofs.«01_k».proof.Proof.PhiValue
public import proofs.«01_k».proof.Proof.RefValue
public import proofs.«01_k».proof.Proof.FiniteValue
public import proofs.«01_k».proof.Proof.Gen.KernelIdeal
public import proofs.«01_k».proof.Proof.Gen.ReferenceIdeal

@[expose] public section

set_option maxRecDepth 16384

noncomputable section

namespace Cert.Algebraic

open Idealize.ShloMosaic hiding ix0 ix1 ix2 ix3 ix4 ix5 eq_ix2 eq_ix3 eq_ix4
open Idealize.ShloMosaic.TcCoe Idealize.ShloMosaic.ValueIdx Idealize.SL.Sem

/-- The kernel's run: its results at the valuation after its last line, its arguments as launched. -/
theorem kernel_run (m : (ℓ : Loc KernelIdeal.nD KernelIdeal.τ KernelIdeal.sig) → Buf (Elt Ideal) ℓ) (g : Dev KernelIdeal.nD → PrngReg) :
    θ_run (KernelIdeal.defs (F := Ideal)) (onTc (τ := KernelIdeal.τ) (KernelIdeal.main (F := Ideal))) ⟨m, fun _ => 0, g⟩ (fun r => ∀ c : Dev KernelIdeal.nD,
      r.2.mem ((c.tc : Thread KernelIdeal.nD KernelIdeal.τ).loc KernelIdeal.main_v20) = KernelIdeal.Run.V5 m c KernelIdeal.main_v20
      ∧ r.2.mem ((c.tc : Thread KernelIdeal.nD KernelIdeal.τ).loc KernelIdeal.main_v21) = KernelIdeal.Run.V5 m c KernelIdeal.main_v21
      ∧ r.2.mem ((c.tc : Thread KernelIdeal.nD KernelIdeal.τ).loc KernelIdeal.main_v22) = KernelIdeal.Run.V5 m c KernelIdeal.main_v22
      ∧ r.2.mem ((c.tc : Thread KernelIdeal.nD KernelIdeal.τ).loc KernelIdeal.main_v23) = KernelIdeal.Run.V5 m c KernelIdeal.main_v23
      ∧ r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3)
      ∧ r.2.mem ((c.tc : Thread KernelIdeal.nD KernelIdeal.τ).loc KernelIdeal.main_arg4) = m ((c.tc : Thread KernelIdeal.nD KernelIdeal.τ).loc KernelIdeal.main_arg4)
      ∧ r.2.mem ((c.tc : Thread KernelIdeal.nD KernelIdeal.τ).loc KernelIdeal.main_arg5) = m ((c.tc : Thread KernelIdeal.nD KernelIdeal.τ).loc KernelIdeal.main_arg5)) :=
  (θ_run _ _ _).mono (fun r h c => by
    obtain ⟨a0, a1, a2, a3, a4, a5⟩ := KernelIdeal.Run.args_kept m c
    exact ⟨h.1 c _ (KernelIdeal.Run.mem_uc KernelIdeal.main_v20 (by decide)), h.1 c _ (KernelIdeal.Run.mem_uc KernelIdeal.main_v21 (by decide)),
      h.1 c _ (KernelIdeal.Run.mem_uc KernelIdeal.main_v22 (by decide)), h.1 c _ (KernelIdeal.Run.mem_uc KernelIdeal.main_v23 (by decide)),
      (h.1 c _ (KernelIdeal.Run.mem_uc KernelIdeal.main_arg0 (by decide))).trans a0, (h.1 c _ (KernelIdeal.Run.mem_uc KernelIdeal.main_arg1 (by decide))).trans a1,
      (h.1 c _ (KernelIdeal.Run.mem_uc KernelIdeal.main_arg2 (by decide))).trans a2, (h.1 c _ (KernelIdeal.Run.mem_uc KernelIdeal.main_arg3 (by decide))).trans a3,
      (h.1 c _ (KernelIdeal.Run.mem_uc KernelIdeal.main_arg4 (by decide))).trans a4, (h.1 c _ (KernelIdeal.Run.mem_uc KernelIdeal.main_arg5 (by decide))).trans a5⟩)
    (KernelIdeal.Run.run_main m g)

/-- The reference's run, likewise. -/
theorem reference_run (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ (fun r => ∀ c : Dev ReferenceIdeal.nD,
      r.2.mem ((c.tc : Thread ReferenceIdeal.nD ReferenceIdeal.τ).loc ReferenceIdeal.main_v13) = ReferenceIdeal.RefValue.W m c ReferenceIdeal.main_v13
      ∧ r.2.mem ((c.tc : Thread ReferenceIdeal.nD ReferenceIdeal.τ).loc ReferenceIdeal.main_v18) = ReferenceIdeal.RefValue.W m c ReferenceIdeal.main_v18
      ∧ r.2.mem ((c.tc : Thread ReferenceIdeal.nD ReferenceIdeal.τ).loc ReferenceIdeal.main_v29) = ReferenceIdeal.RefValue.W m c ReferenceIdeal.main_v29
      ∧ r.2.mem ((c.tc : Thread ReferenceIdeal.nD ReferenceIdeal.τ).loc ReferenceIdeal.main_v34) = ReferenceIdeal.RefValue.W m c ReferenceIdeal.main_v34) :=
  (θ_run _ _ _).mono (fun r h c =>
    ⟨(h c).2 ReferenceIdeal.main_v13 (Pipeline.mem_restRefs_of ReferenceIdeal.main_v13 (by decide) (by decide)),
      (h c).2 ReferenceIdeal.main_v18 (Pipeline.mem_restRefs_of ReferenceIdeal.main_v18 (by decide) (by decide)),
      (h c).2 ReferenceIdeal.main_v29 (Pipeline.mem_restRefs_of ReferenceIdeal.main_v29 (by decide) (by decide)),
      (h c).2 ReferenceIdeal.main_v34 (Pipeline.mem_restRefs_of ReferenceIdeal.main_v34 (by decide) (by decide))⟩)
    (ReferenceIdeal.Gen.run_main m g)

/-- Two arrays of results that agree at every batch, pair of microphones and frequency are equal. -/
theorem ext4 {x y : Vec Ideal (⟨4, ![2, 7, 7, 513]⟩ : Shape) .f32} (h : ∀ (b : Fin 2) (c d : Fin 7) (f : Fin 513), x (ix4 b c d f) = y (ix4 b c d f)) : x = y := by
  funext i
  rw [eq_ix4 i]
  exact h _ _ _ _

theorem algebraic : Cert.algebraic_KernelIdeal_ReferenceIdeal_pre_finite (hKernelIdeal := KernelIdeal.Gen.facts) (hReferenceIdeal := ReferenceIdeal.Gen.facts)
    (hPre_finite := FiniteValue.facts) := by
  intro m g m' g' hpre hargs
  refine ⟨fun c => KernelIdeal.Run.V5 m c KernelIdeal.main_v20, fun c => KernelIdeal.Run.V5 m c KernelIdeal.main_v21, fun c => KernelIdeal.Run.V5 m c KernelIdeal.main_v22,
    fun c => KernelIdeal.Run.V5 m c KernelIdeal.main_v23, kernel_run m g, ?_⟩
  refine (θ_run _ _ _).mono (fun r h c => ?_) (θ_run_and (reference_run m' g') (ReferenceIdeal.Gen.unchanged m' g'))
  obtain ⟨e0, e1, e2, e3, e4, -⟩ := hargs c
  obtain ⟨hr, hi⟩ := @FiniteValue.of_pre FiniteValue.facts _ _ _ _ _ _ (hpre c)
  have sr : ReferenceIdeal.RefValue.re m' c = KernelIdeal.ArrayValue.re m c := e0
  have si : ReferenceIdeal.RefValue.im m' c = KernelIdeal.ArrayValue.im m c := e1
  have ss : ReferenceIdeal.RefValue.sc m' c = KernelIdeal.ArrayValue.sc m c := e2
  have s0 : ReferenceIdeal.RefValue.mk m' c 0 = KernelIdeal.ArrayValue.mk m c 0 := e3
  have s1 : ReferenceIdeal.RefValue.mk m' c 1 = KernelIdeal.ArrayValue.mk m c 1 := e4
  have hr' : Spec.Finite (ReferenceIdeal.RefValue.re m' c) (ReferenceIdeal.RefValue.sc m' c) := by rw [sr, ss]; exact hr
  have hi' : Spec.Finite (ReferenceIdeal.RefValue.im m' c) (ReferenceIdeal.RefValue.sc m' c) := by rw [si, ss]; exact hi
  refine ⟨(h.1 c).1.trans (ext4 fun b p q f => ?_), (h.1 c).2.1.trans (ext4 fun b p q f => ?_), (h.1 c).2.2.1.trans (ext4 fun b p q f => ?_),
    (h.1 c).2.2.2.trans (ext4 fun b p q f => ?_), h.2 c⟩
  · refine (ReferenceIdeal.RefValue.v13_at hr' hi' b p q f).trans (Eq.trans ?_ (KernelIdeal.PhiValue.v20_at hr hi b p q f).symm)
    rw [sr, si, ss, s0]
  · refine (ReferenceIdeal.RefValue.v18_at hr' hi' b p q f).trans (Eq.trans ?_ (KernelIdeal.PhiValue.v21_at hr hi b p q f).symm)
    rw [sr, si, ss, s0]
  · refine (ReferenceIdeal.RefValue.v29_at hr' hi' b p q f).trans (Eq.trans ?_ (KernelIdeal.PhiValue.v22_at hr hi b p q f).symm)
    rw [sr, si, ss, s1]
  · refine (ReferenceIdeal.RefValue.v34_at hr' hi' b p q f).trans (Eq.trans ?_ (KernelIdeal.PhiValue.v23_at hr hi b p q f).symm)
    rw [sr, si, ss, s1]

end Cert.Algebraic
-- ==== Proof.lean ====
/-
  The claim: the three programs keep their arguments and leave every counter at zero, the named constant is what it says, and
  over exact numbers the kernel's four results are the reference's.
-/
module

public import proofs.«01_k».proof.Defs
public import proofs.«01_k».proof.Proof.RunKernel
public import proofs.«01_k».proof.Proof.RunIdeal
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.FiniteValue
public import proofs.«01_k».proof.Proof.Algebraic
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.FiniteValue.facts,
  fun m g _ => Cert.Kernel.Run.frame m g,
  fun m g _ => Cert.KernelIdeal.Run.frame m g,
  fun m g _ => Cert.KernelIdeal.Run.frame m g,
  fun m g _ => Cert.ReferenceIdeal.Gen.frame m g,
  fun m g _ => Cert.ReferenceIdeal.Gen.frame m g,
  IdealRules.named_const.statement Cert.KernelIdeal.κ "inv_255" .f32 0x3B808081#32 ((1 / 255 : ℝ) : EReal) rfl,
  Cert.Algebraic.algebraic⟩

end Cert.Proof

end
